-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ffn_FfnIdeal : Prop :=
  IdealRules.named_const.Statement Cert.FfnIdeal.κ "inv_alpha" .f32 0x3F1837F0#32 (((Real.sqrt (Real.sqrt 8))⁻¹ : ℝ) : EReal)
  ∧ IdealRules.named_const.Statement Cert.FfnIdeal.κ "eps_alpha" .f32 0x366D4403#32 (((1 / 100000) * ((Real.sqrt (Real.sqrt 8)) * (Real.sqrt (Real.sqrt 8)))⁻¹ : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)) (v3 : (c : Dev Cert.FfnIdeal.nD) → Buf (Elt Ideal) ((c.tc : Thread Cert.FfnIdeal.nD Cert.FfnIdeal.τ).loc Cert.FfnIdeal.main_v5_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_v5_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_v58) = v1 c
          ∧ r.2.mem ((c.tc : Thread Cert.FfnRefIdeal.nD Cert.FfnRefIdeal.τ).loc Cert.FfnRefIdeal.main_v61) = v2 c
          ∧ r.2.mem ((c.tc : Thread Cert.FfnRefIdeal.nD Cert.FfnRefIdeal.τ).loc Cert.FfnRefIdeal.main_v64) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Last_LastIdeal : Prop :=
  IdealRules.named_const.Statement Cert.LastIdeal.κ "inv_alpha" .f32 0x3F1837F0#32 (((Real.sqrt (Real.sqrt 8))⁻¹ : ℝ) : EReal)
  ∧ IdealRules.named_const.Statement Cert.LastIdeal.κ "eps_alpha" .f32 0x366D4403#32 (((1 / 100000) * ((Real.sqrt (Real.sqrt 8)) * (Real.sqrt (Real.sqrt 8)))⁻¹ : ℝ) : EReal)

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v55) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Mid_MidIdeal : Prop :=
  IdealRules.named_const.Statement Cert.MidIdeal.κ "inv_alpha" .f32 0x3F1837F0#32 (((Real.sqrt (Real.sqrt 8))⁻¹ : ℝ) : EReal)
  ∧ IdealRules.named_const.Statement Cert.MidIdeal.κ "eps_alpha" .f32 0x366D4403#32 (((1 / 100000) * ((Real.sqrt (Real.sqrt 8)) * (Real.sqrt (Real.sqrt 8)))⁻¹ : ℝ) : EReal)

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v5_0)) (v1 : (c : Dev Cert.MidIdeal.nD) → Buf (Elt Ideal) ((c.tc : Thread Cert.MidIdeal.nD Cert.MidIdeal.τ).loc Cert.MidIdeal.main_v5_1)) (v2 : (c : Dev Cert.MidIdeal.nD) → Buf (Elt Ideal) ((c.tc : Thread Cert.MidIdeal.nD Cert.MidIdeal.τ).loc Cert.MidIdeal.main_v5_2)) (v3 : (c : Dev Cert.MidIdeal.nD) → Buf (Elt Ideal) ((c.tc : Thread Cert.MidIdeal.nD Cert.MidIdeal.τ).loc Cert.MidIdeal.main_v5_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5_0) = v0 c
          ∧ r.2.mem ((c.tc : Thread Cert.MidIdeal.nD Cert.MidIdeal.τ).loc Cert.MidIdeal.main_v5_1) = v1 c
          ∧ r.2.mem ((c.tc : Thread Cert.MidIdeal.nD Cert.MidIdeal.τ).loc Cert.MidIdeal.main_v5_2) = v2 c
          ∧ r.2.mem ((c.tc : Thread Cert.MidIdeal.nD Cert.MidIdeal.τ).loc Cert.MidIdeal.main_v5_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v55) = v0 c
          ∧ r.2.mem ((c.tc : Thread Cert.MidRefIdeal.nD Cert.MidRefIdeal.τ).loc Cert.MidRefIdeal.main_v58) = v1 c
          ∧ r.2.mem ((c.tc : Thread Cert.MidRefIdeal.nD Cert.MidRefIdeal.τ).loc Cert.MidRefIdeal.main_v61) = v2 c
          ∧ r.2.mem ((c.tc : Thread Cert.MidRefIdeal.nD Cert.MidRefIdeal.τ).loc Cert.MidRefIdeal.main_v64) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hMid : Cert.Mid.Facts) (hMidIdeal : Cert.MidIdeal.Facts) (hMidRefIdeal : Cert.MidRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Mid (hMid := hMid)
    ∧ quiescent_MidIdeal (hMidIdeal := hMidIdeal)
    ∧ quiescent_MidRefIdeal (hMidRefIdeal := hMidRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Mid_MidIdeal
    ∧ algebraic_MidIdeal_MidRefIdeal (hMidIdeal := hMidIdeal) (hMidRefIdeal := hMidRefIdeal)
-- ==== Pre_finite.lean ====
abbrev S8x4096x2048 : Shape := ⟨3, ![8, 4096, 2048]⟩
abbrev S8x256x2048 : Shape := ⟨3, ![8, 256, 2048]⟩
abbrev S4x128 : Shape := ⟨2, ![4, 128]⟩
abbrev S256 : Shape := ⟨1, ![256]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x256x2048 : S_.BroadcastsInDim S8x256x2048 (![] : Fin 0 → Fin S8x256x2048.rank)
  reducesTo_S8x256x2048_S_d0_1_2 : S8x256x2048.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S8x256x2048 .f32) (main_arg5 : FVec F S4x128 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S8x256x2048 .f32 := Host.absf main_arg4
  let main_cst_6 : FVec F S_ .f32 := constant S_ .f32 0x7F800000#32
  let main_v17 : FVec F S8x256x2048 .f32 := broadcastInDim S8x256x2048 ![] bcast_S_S8x256x2048 main_cst_6
  let main_v18 : IVec S8x256x2048 1 := cmpf .olt main_v16 main_v17
  let main_c_7 : IVec S_ 1 := constantI S_ 1 1#1
  let main_v19 : IVec S_ 1 := (fun x v => Host.reduce IntOp.andi x v reducesTo_S8x256x2048_S_d0_1_2 h_S_) main_v18 main_c_7
  let main_v20 : FVec F S4x128 .f32 := Host.absf main_arg5
  let main_cst_8 : FVec F S_ .f32 := constant S_ .f32 0x7F800000#32
  let main_v21 : FVec F S4x128 .f32 := broadcastInDim S4x128 ![] bcast_S_S4x128 main_cst_8
  let main_v22 : IVec S4x128 1 := cmpf .olt main_v20 main_v21
  let main_c_9 : IVec S_ 1 := constantI S_ 1 1#1
  let main_v23 : IVec S_ 1 := (fun x v => Host.reduce IntOp.andi x v reducesTo_S4x128_S_d0_1 h_S_) main_v22 main_c_9
  (main_v3, main_v7, main_v11, main_v15, main_v19, main_v23)

def fn {F : FTy → Type} [FloatOps F] (main_arg0 : FVec F S8x4096x2048 .f32) (main_arg1 : FVec F S8x4096x2048 .f32) (main_arg2 : FVec F S8x4096x2048 .f32) (main_arg3 : FVec F S8x256x2048 .f32) (main_arg4 : FVec F S8x256x2048 .f32) (main_arg5 : FVec F S4x128 .f32) (main_arg6 : FVec F S256 .f32) : IVec S_ 1 × IVec S_ 1 × IVec S_ 1 × IVec S_ 1 × IVec S_ 1 × IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : FVec F S8x4096x2048 .f32 := Host.absf main_arg2
  let main_cst_2 : FVec F S_ .f32 := constant S_ .f32 0x7F800000#32
  let main_v9 : FVec F S8x4096x2048 .f32 := broadcastInDim S8x4096x2048 ![] bcast_S_S8x4096x2048 main_cst_2
  let main_v10 : IVec S8x4096x2048 1 := cmpf .olt main_v8 main_v9
  let main_c_3 : IVec S_ 1 := constantI S_ 1 1#1
  let main_v11 : IVec S_ 1 := (fun x v => Host.reduce IntOp.andi x v reducesTo_S8x4096x2048_S_d0_1_2 h_S_) main_v10 main_c_3
  let main_v12 : FVec F S8x256x2048 .f32 := Host.absf main_arg3
  let main_cst_4 : FVec F S_ .f32 := constant S_ .f32 0x7F800000#32
  let main_v13 : FVec F S8x256x2048 .f32 := broadcastInDim S8x256x2048 ![] bcast_S_S8x256x2048 main_cst_4
  let main_v14 : IVec S8x256x2048 1 := cmpf .olt main_v12 main_v13
  let main_c_5 : IVec S_ 1 := constantI S_ 1 1#1
  let main_v15 : IVec S_ 1 := (fun x v => Host.reduce IntOp.andi x v reducesTo_S8x256x2048_S_d0_1_2 h_S_) main_v14 main_c_5
  fn_part1 (F := F) main_arg4 main_arg5 main_v3 main_v7 main_v11 main_v15
-- ==== Attn.lean ====
abbrev S8x4096x2048 : Shape := ⟨3, ![8, 4096, 2048]⟩
abbrev S8x256x2048 : Shape := ⟨3, ![8, 256, 2048]⟩
abbrev S4x128 : Shape := ⟨2, ![4, 128]⟩
abbrev S256 : Shape := ⟨1, ![256]⟩
abbrev S_ : Shape := ⟨0, ![]⟩
abbrev S8x4096x4096 : Shape := ⟨3, ![8, 4096, 4096]⟩
abbrev S32768x4096 : Shape := ⟨2, ![32768, 4096]⟩
abbrev S64x512x2048 : Shape := ⟨3, ![64, 512, 2048]⟩
abbrev S64x2048x512 : Shape := ⟨3, ![64, 2048, 512]⟩
abbrev S2048x2048 : Shape := ⟨2, ![2048, 2048]⟩
abbrev S8x2048x256 : Shape := ⟨3, ![8, 2048, 256]⟩
abbrev S256x1 : Shape := ⟨2, ![256, 1]⟩
abbrev S32768x2048 : Shape := ⟨2, ![32768, 2048]⟩
abbrev S1024x256 : Shape := ⟨2, ![1024, 256]⟩
abbrev S4096x256 : Shape := ⟨2, ![4096, 256]⟩
abbrev S8x256x512 : Shape := ⟨3, ![8, 256, 512]⟩
abbrev S256x256 : Shape := ⟨2, ![256, 256]⟩
abbrev S1x256x256 : Shape := ⟨3, ![1, 256, 256]⟩
abbrev S2x256x1024 : Shape := ⟨3, ![2, 256, 1024]⟩
abbrev S1x2x2048x1024 : Shape := ⟨4, ![1, 2, 2048, 1024]⟩
abbrev S1024x128 : Shape := ⟨2, ![1024, 128]⟩
abbrev S1x1024 : Shape := ⟨2, ![1, 1024]⟩
abbrev S2048x256 : Shape := ⟨2, ![2048, 256]⟩
abbrev S1x256x512 : Shape := ⟨3, ![1, 256, 512]⟩
abbrev S256x512 : Shape := ⟨2, ![256, 512]⟩
abbrev S2048x128 : Shape := ⟨2, ![2048, 128]⟩
abbrev S2048x1024 : Shape := ⟨2, ![2048, 1024]⟩
abbrev S1x1x2048x1024 : Shape := ⟨4, ![1, 1, 2048, 1024]⟩
abbrev S1024 : Shape := ⟨1, ![1024]⟩
abbrev S1x256x1024 : Shape := ⟨3, ![1, 256, 1024]⟩
abbrev S256x1024 : Shape := ⟨2, ![256, 1024]⟩
abbrev S512x1024 : Shape := ⟨2, ![512, 1024]⟩
abbrev S256x128 : Shape := ⟨2, ![256, 128]⟩
abbrev S1x1x256x1024 : Shape := ⟨4, ![1, 1, 256, 1024]⟩
abbrev S1x128 : Shape := ⟨2, ![1, 128]⟩
abbrev S1 : Shape := ⟨1, ![1]⟩
abbrev S1x1 : Shape := ⟨2, ![1, 1]⟩

abbrev nBuf : Space → Nat
  | .hbm => 26
  | .vmem => 16
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x4096x2048, .f32⟩
  | .hbm, ⟨3, _⟩ => ⟨S8x256x2048, .f32⟩
  | .hbm, ⟨4, _⟩ => ⟨S8x256x2048, .f32⟩
  | .hbm, ⟨5, _⟩ => ⟨S4x128, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x2048, .f32⟩
  | .hbm, ⟨13, _⟩ => ⟨S8x4096x2048, .f32⟩
  | .hbm, ⟨14, _⟩ => ⟨S8x4096x4096, .f32⟩
  | .hbm, ⟨15, _⟩ => ⟨S32768x4096, .f32⟩
  | .hbm, ⟨16, _⟩ => ⟨S32768x4096, .bf16⟩
  | .hbm, ⟨17, _⟩ => ⟨S64x512x2048, .f32⟩
  | .hbm, ⟨18, _⟩ => ⟨S64x2048x512, .f32⟩
  | .hbm, ⟨19, _⟩ => ⟨S64x2048x512, .bf16⟩
  | .hbm, ⟨20, _⟩ => ⟨S2048x2048, .f32⟩
  | .hbm, ⟨21, _⟩ => ⟨S2048x2048, .bf16⟩
  | .hbm, ⟨22, _⟩ => ⟨S8x2048x256, .f32⟩
  | .hbm, ⟨23, _⟩ => ⟨S8x2048x256, .bf16⟩
  | .hbm, ⟨24, _⟩ => ⟨S256x1, .f32⟩
  | .hbm, ⟨25, _⟩ => ⟨S32768x2048, .bf16⟩
  | .local _ .vmem, ⟨0, _⟩ => ⟨S4x128, .f32⟩
  | .local _ .vmem, ⟨1, _⟩ => ⟨S1024x256, .bf16⟩
  | .local _ .vmem, ⟨2, _⟩ => ⟨S1024x256, .bf16⟩
  | .local _ .vmem, ⟨3, _⟩ => ⟨S4096x256, .bf16⟩
  | .local _ .vmem, ⟨4, _⟩ => ⟨S4096x256, .bf16⟩
  | .local _ .vmem, ⟨5, _⟩ => ⟨S8x256x512, .bf16⟩
  | .local _ .vmem, ⟨6, _⟩ => ⟨S8x256x512, .bf16⟩
  | .local _ .vmem, ⟨7, _⟩ => ⟨S256x256, .bf16⟩
  | .local _ .vmem, ⟨8, _⟩ => ⟨S256x256, .bf16⟩
  | .local _ .vmem, ⟨9, _⟩ => ⟨S1x256x256, .bf16⟩
  | .local _ .vmem, ⟨10, _⟩ => ⟨S1x256x256, .bf16⟩
  | .local _ .vmem, ⟨11, _⟩ => ⟨S256x1, .f32⟩
  | .local _ .vmem, ⟨12, _⟩ => ⟨S1024x256, .bf16⟩
  | .local _ .vmem, ⟨13, _⟩ => ⟨S1024x256, .bf16⟩
  | .local _ .vmem, ⟨14, _⟩ => ⟨S2x256x1024, .f32⟩
  | .local _ .vmem, ⟨15, _⟩ => ⟨S1x2x2048x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 4], ![false, false, false]⟩

@[reducible] def k0_t1_loop : Scf.Loop 32 :=
  let c0_i32 : BitVec 32 := 0#32
  let c2_i32 : BitVec 32 := 2#32
  let v10 : BitVec 32 := Scalar.addi c0_i32 c2_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_67 : BitVec 32 := 1#32
  let v122 : BitVec 32 := Scalar.muli arg13 c1_i32_67
  let c0_i32_68 : BitVec 32 := 0#32
  let v123 : BitVec 32 := Scalar.addi v122 c0_i32_68
  let c2048_i32 : BitVec 32 := 2048#32
  let v124 : BitVec 32 := Scalar.muli v123 c2048_i32
  v124
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_67 : BitVec 32 := 1#32
  let v122 : BitVec 32 := Scalar.muli arg13 c1_i32_67
  let c0_i32_68 : BitVec 32 := 0#32
  let v123 : BitVec 32 := Scalar.addi v122 c0_i32_68
  let c2048_i32 : BitVec 32 := 2048#32
  let v124 : BitVec 32 := Scalar.muli v123 c2048_i32
  let v125 : BitVec 32 := v124
  let v126 : Index := Scalar.indexCast v125
  let c0_69 : Index := 0#32
  ![v126.toNat, 0]
def k0_off2 (k0_t1 : Fin k0_t1_loop.trips) (c0_i32_70 : BitVec 32) : Fin 3 → Nat :=
  let c0_i32 : BitVec 32 := 0#32
  let c1_i32 : BitVec 32 := 1#32
  let arg13 : BitVec 32 := Scf.iv c0_i32 c1_i32 k0_t1
  let c1_i32_67 : BitVec 32 := 1#32
  let v122 : BitVec 32 := Scalar.muli arg13 c1_i32_67
  let c0_i32_68 : BitVec 32 := 0#32
  let v123 : BitVec 32 := Scalar.addi v122 c0_i32_68
  let c4_i32 : BitVec 32 := 4#32
  let v129 : BitVec 32 := Scalar.muli v123 c4_i32
  let v130 : BitVec 32 := Scalar.addi v129 c0_i32_70
  let v131 : Index := Scalar.indexCast v130
  let c0_71 : Index := 0#32
  let c0_72 : Index := 0#32
  ![v131.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S8x4096x2048 : Shape := ⟨3, ![8, 4096, 2048]⟩
abbrev S8x256x2048 : Shape := ⟨3, ![8, 256, 2048]⟩
abbrev S4x128 : Shape := ⟨2, ![4, 128]⟩
abbrev S256 : Shape := ⟨1, ![256]⟩
abbrev S8x4096x8x2x128 : Shape := ⟨5, ![8, 4096, 8, 2, 128]⟩
abbrev S8x8x2x4096x128 : Shape := ⟨5, ![8, 8, 2, 4096, 128]⟩
abbrev S8x4096x8x256 : Shape := ⟨4, ![8, 4096, 8, 256]⟩
abbrev S8x8x4096x256 : Shape := ⟨4, ![8, 8, 4096, 256]⟩
abbrev S8x256x8x2x128 : Shape := ⟨5, ![8, 256, 8, 2, 128]⟩
abbrev S8x8x2x256x128 : Shape := ⟨5, ![8, 8, 2, 256, 128]⟩
abbrev S8x256x8x256 : Shape := ⟨4, ![8, 256, 8, 256]⟩
abbrev S8x8x256x256 : Shape := ⟨4, ![8, 8, 256, 256]⟩
abbrev S8x8x2x4352x128 : Shape := ⟨5, ![8, 8, 2, 4352, 128]⟩
abbrev S8x8x4352x256 : Shape := ⟨4, ![8, 8, 4352, 256]⟩
abbrev S1x128 : Shape := ⟨2, ![1, 128]⟩
abbrev S128 : Shape := ⟨1, ![128]⟩
abbrev S_ : Shape := ⟨0, ![]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S1x1x1x256 : Shape := ⟨4, ![1, 1, 1, 256]⟩
abbrev S32768x2048 : Shape := ⟨2, ![32768, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x4096x2048, .f32⟩
  | .hbm, ⟨3, _⟩ => ⟨S8x256x2048, .f32⟩
  | .hbm, ⟨4, _⟩ => ⟨S8x256x2048, .f32⟩
  | .hbm, ⟨5, _⟩ => ⟨S4x128, .f32⟩
  | .hbm, ⟨6, _⟩ => ⟨S256, .f32⟩
  | .hbm, ⟨7, _⟩ => ⟨S8x4096x8x2x128, .f32⟩
  | .hbm, ⟨8, _⟩ => ⟨S8x8x2x4096x128, .f32⟩
  | .hbm, ⟨9, _⟩ => ⟨S8x4096x8x2x128, .f32⟩
  | .hbm, ⟨10, _⟩ => ⟨S8x8x2x4096x128, .f32⟩
  | .hbm, ⟨11, _⟩ => ⟨S8x4096x8x256, .f32⟩
  | .hbm, ⟨12, _⟩ => ⟨S8x8x4096x256, .f32⟩
  | .hbm, ⟨13, _⟩ => ⟨S8x256x8x2x128, .f32⟩
  | .hbm, ⟨14, _⟩ => ⟨S8x8x2x256x128, .f32⟩
  | .hbm, ⟨15, _⟩ => ⟨S8x256x8x256, .f32⟩
  | .hbm, ⟨16, _⟩ => ⟨S8x8x256x256, .f32⟩
  | .hbm, ⟨17, _⟩ => ⟨S8x8x2x4352x128, .f32⟩
  | .hbm, ⟨18, _⟩ => ⟨S8x8x4352x256, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x8x2x4096x4352, .f32⟩
  | .hbm, ⟨39, _⟩ => ⟨S_, .f32⟩
  | .hbm, ⟨40, _⟩ => ⟨S_, .f32⟩
  | .hbm, ⟨41, _⟩ => ⟨S8x8x2x4096x4352, .f32⟩
  | .hbm, ⟨42, _⟩ => ⟨S8x8x2x4096x4352, .f32⟩
  | .hbm, ⟨43, _⟩ => ⟨S_, .f32⟩
  | .hbm, ⟨44, _⟩ => ⟨S8x8x2x4096, .f32⟩
  | .hbm, ⟨45, _⟩ => ⟨S_, .f32⟩
  | .hbm, ⟨46, _⟩ => ⟨S8x8x2x4096, .f32⟩
  | .hbm, ⟨47, _⟩ => ⟨S8x8x2x4096, .f32⟩
  | .hbm, ⟨48, _⟩ => ⟨S8x8x2x4096x1, .f32⟩
  | .hbm, ⟨49, _⟩ => ⟨S8x8x2x4096x4352, .f32⟩
  | .hbm, ⟨50, _⟩ => ⟨S8x8x2x4096x4352, .f32⟩
  | .hbm, ⟨51, _⟩ => ⟨S8x8x2x4096x4352, .f32⟩
  | .hbm, ⟨52, _⟩ => ⟨S_, .f32⟩
  | .hbm, ⟨53, _⟩ => ⟨S8x8x2x4096, .f32⟩
  | .hbm, ⟨54, _⟩ => ⟨S8x8x2x4096x1, .f32⟩
  | .hbm, ⟨55, _⟩ => ⟨S8x8x2x4096x4352, .f32⟩
  | .hbm, ⟨56, _⟩ => ⟨S8x8x2x4096x4352, .f32⟩
  | .hbm, ⟨57, _⟩ => ⟨S8x8x1x4096x4352, .f32⟩
  | .hbm, ⟨58, _⟩ => ⟨S8x8x4096x4352, .f32⟩
  | .hbm, ⟨59, _⟩ => ⟨S8x8x1x4096x4352, .f32⟩
  | .hbm, ⟨60, _⟩ => ⟨S8x8x4096x4352, .f32⟩
  | .hbm, ⟨61, _⟩ => ⟨S8x8x4096x4352, .f32⟩
  | .hbm, ⟨62, _⟩ => ⟨S8x8x4096x4352, .f32⟩
  | .hbm, ⟨63, _⟩ => ⟨S8x8x4096x4352, .f32⟩
  | .hbm, ⟨64, _⟩ => ⟨S8x8x4096x256, .f32⟩
  | .hbm, ⟨65, _⟩ => ⟨S8x8x4096x256, .f32⟩
  | .hbm, ⟨66, _⟩ => ⟨S_, .f32⟩
  | .hbm, ⟨67, _⟩ => ⟨S8x8x4096, .f32⟩
  | .hbm, ⟨68, _⟩ => ⟨S8x8x4096x1, .f32⟩
  | .hbm, ⟨69, _⟩ => ⟨S_, .f32⟩
  | .hbm, ⟨70, _⟩ => ⟨S8x8x4096x1, .f32⟩
  | .hbm, ⟨71, _⟩ => ⟨S8x8x4096x1, .f32⟩
  | .hbm, ⟨72, _⟩ => ⟨S_, .f32⟩
  | .hbm, ⟨73, _⟩ => ⟨S8x8x4096x1, .f32⟩
  | .hbm, ⟨74, _⟩ => ⟨S8x8x4096x1, .f32⟩
  | .hbm, ⟨75, _⟩ => ⟨S8x8x4096x1, .f32⟩
  | .hbm, ⟨76, _⟩ => ⟨S8x8x4096x256, .f32⟩
  | .hbm, ⟨77, _⟩ => ⟨S8x8x4096x256, .f32⟩
  | .hbm, ⟨78, _⟩ => ⟨S1x1x1x256, .f32⟩
  | .hbm, ⟨79, _⟩ => ⟨S8x8x4096x256, .f32⟩
  | .hbm, ⟨80, _⟩ => ⟨S8x8x4096x256, .f32⟩
  | .hbm, ⟨81, _⟩ => ⟨S_, .f32⟩
  | .hbm, ⟨82, _⟩ => ⟨S8x8x4096x256, .f32⟩
  | .hbm, ⟨83, _⟩ => ⟨S8x8x4096x256, .f32⟩
  | .hbm, ⟨84, _⟩ => ⟨S8x4096x8x256, .f32⟩
  | .hbm, ⟨85, _⟩ => ⟨S32768x2048, .f32⟩
  | .hbm, ⟨86, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Ffn.lean ====
abbrev S32768x2048 : Shape := ⟨2, ![32768, 2048]⟩
abbrev S8x9x2048 : Shape := ⟨3, ![8, 9, 2048]⟩
abbrev S2048x5632 : Shape := ⟨2, ![2048, 5632]⟩
abbrev S5632x2048 : Shape := ⟨2, ![5632, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S1x1x64x512 : Shape := ⟨4, ![1, 1, 64, 512]⟩
abbrev S1x1x16x2048 : Shape := ⟨4, ![1, 1, 16, 2048]⟩
abbrev S64x512 : Shape := ⟨2, ![64, 512]⟩
abbrev S16x2048 : Shape := ⟨2, ![16, 2048]⟩
abbrev S1x1x2048 : Shape := ⟨3, ![1, 1, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 19
  | .vmem => 27
  | .smem => 0
  | _ => 0

abbrev bufTy : (tb : Table) → Fin (tcTables nBuf tb) → BufTy
  | .hbm, ⟨0, _⟩ => ⟨S32768x2048, .f32⟩
  | .hbm, ⟨1, _⟩ => ⟨S8x9x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S4x2x2048x5632, .f32⟩
  | .hbm, ⟨8, _⟩ => ⟨S4x2x2048x5632, .f32⟩
  | .hbm, ⟨9, _⟩ => ⟨S4x2x5632x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S1x2048, .f32⟩
  | .hbm, ⟨14, _⟩ => ⟨S1x2048, .f32⟩
  | .hbm, ⟨15, _⟩ => ⟨S32768x2048, .f32⟩
  | .hbm, ⟨16, _⟩ => ⟨S2048x5632, .bf16⟩
  | .hbm, ⟨17, _⟩ => ⟨S2048x5632, .bf16⟩
  | .hbm, ⟨18, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1x1x64x512, .f32⟩
  | .local _ .vmem, ⟨13, _⟩ => ⟨S1x1x64x512, .f32⟩
  | .local _ .vmem, ⟨14, _⟩ => ⟨S1x1x64x512, .f32⟩
  | .local _ .vmem, ⟨15, _⟩ => ⟨S1x1x64x512, .f32⟩
  | .local _ .vmem, ⟨16, _⟩ => ⟨S1x1x16x2048, .f32⟩
  | .local _ .vmem, ⟨17, _⟩ => ⟨S1x1x16x2048, .f32⟩
  | .local _ .vmem, ⟨18, _⟩ => ⟨S1024x2048, .f32⟩
  | .local _ .vmem, ⟨19, _⟩ => ⟨S1024x2048, .f32⟩
  | .local _ .vmem, ⟨20, _⟩ => ⟨S64x512, .bf16⟩
  | .local _ .vmem, ⟨21, _⟩ => ⟨S64x512, .bf16⟩
  | .local _ .vmem, ⟨22, _⟩ => ⟨S64x512, .bf16⟩
  | .local _ .vmem, ⟨23, _⟩ => ⟨S64x512, .bf16⟩
  | .local _ .vmem, ⟨24, _⟩ => ⟨S16x2048, .bf16⟩
  | .local _ .vmem, ⟨25, _⟩ => ⟨S16x2048, .bf16⟩
  | .local _ .vmem, ⟨26, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat, arg1.toNat]

def cc0_transform_9 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c1_i32 : BitVec 32 := 1#32
  let c0_i32_0 : BitVec 32 := 0#32
  let c0_i32_1 : BitVec 32 := 0#32
  ![c0_i32.toNat, c1_i32.toNat, v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnIdeal.lean ====
variable {F : FTy → Type} [FloatOps F] [Named F]
def κ : String → Option EReal := fun
  | "eps_alpha" => some (((1 / 100000) * ((Real.sqrt (Real.sqrt 8)) * (Real.sqrt (Real.sqrt 8)))⁻¹ : ℝ) : EReal)
  | "inv_alpha" => some (((Real.sqrt (Real.sqrt 8))⁻¹ : ℝ) : EReal)
  | _ => none
-- ==== FfnRefIdeal.lean ====
abbrev S32768x2048 : Shape := ⟨2, ![32768, 2048]⟩
abbrev S8x9x2048 : Shape := ⟨3, ![8, 9, 2048]⟩
abbrev S2048x5632 : Shape := ⟨2, ![2048, 5632]⟩
abbrev S5632x2048 : Shape := ⟨2, ![5632, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S8x4096x2048 : Shape := ⟨3, ![8, 4096, 2048]⟩
abbrev S8x1x2048 : Shape := ⟨3, ![8, 1, 2048]⟩
abbrev S8x2048 : Shape := ⟨2, ![8, 2048]⟩
abbrev S_ : Shape := ⟨0, ![]⟩
abbrev S8x4096x5632 : Shape := ⟨3, ![8, 4096, 5632]⟩
abbrev S8x4096 : Shape := ⟨2, ![8, 4096]⟩
abbrev S8x4096x1 : Shape := ⟨3, ![8, 4096, 1]⟩
abbrev S1x1x2048 : Shape := ⟨3, ![1, 1, 2048]⟩
abbrev S1x1x2048x5632 : Shape := ⟨4, ![1, 1, 2048, 5632]⟩
abbrev S1x1x5632x2048 : Shape := ⟨4, ![1, 1, 5632, 2048]⟩

abbrev nBuf : Space → Nat
  | .hbm => 92
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x9x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S4x2x2048x5632, .f32⟩
  | .hbm, ⟨8, _⟩ => ⟨S4x2x2048x5632, .f32⟩
  | .hbm, ⟨9, _⟩ => ⟨S4x2x5632x2048, .f32⟩
  | .hbm, ⟨10, _⟩ => ⟨S8x4096x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | .hbm, ⟨19, _⟩ => ⟨S8x1x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x4096x5632, .f32⟩
  | .hbm, ⟨31, _⟩ => ⟨S8x4096x5632, .f32⟩
  | .hbm, ⟨32, _⟩ => ⟨S8x4096x5632, .f32⟩
  | .hbm, ⟨33, _⟩ => ⟨S_, .f32⟩
  | .hbm, ⟨34, _⟩ => ⟨S8x4096x5632, .f32⟩
  | .hbm, ⟨35, _⟩ => ⟨S8x4096x5632, .f32⟩
  | .hbm, ⟨36, _⟩ => ⟨S_, .f32⟩
  | .hbm, ⟨37, _⟩ => ⟨S8x4096x5632, .f32⟩
  | .hbm, ⟨38, _⟩ => ⟨S8x4096x5632, .f32⟩
  | .hbm, ⟨39, _⟩ => ⟨S8x4096x5632, .f32⟩
  | .hbm, ⟨40, _⟩ => ⟨S8x4096x5632, .f32⟩
  | .hbm, ⟨41, _⟩ => ⟨S8x4096x5632, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x2048, .f32⟩
  | .hbm, ⟨67, _⟩ => ⟨S8x4096x2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x2048, .f32⟩
  | .hbm, ⟨75, _⟩ => ⟨S8x4096x2048, .f32⟩
  | .hbm, ⟨76, _⟩ => ⟨S1x1x2048, .f32⟩
  | .hbm, ⟨77, _⟩ => ⟨S8x4096x2048, .f32⟩
  | .hbm, ⟨78, _⟩ => ⟨S8x4096x2048, .f32⟩
  | .hbm, ⟨79, _⟩ => ⟨S1x1x2048, .f32⟩
  | .hbm, ⟨80, _⟩ => ⟨S8x4096x2048, .f32⟩
  | .hbm, ⟨81, _⟩ => ⟨S8x4096x2048, .f32⟩
  | .hbm, ⟨82, _⟩ => ⟨S32768x2048, .f32⟩
  | .hbm, ⟨83, _⟩ => ⟨S1x1x2048x5632, .f32⟩
  | .hbm, ⟨84, _⟩ => ⟨S2048x5632, .f32⟩
  | .hbm, ⟨85, _⟩ => ⟨S2048x5632, .bf16⟩
  | .hbm, ⟨86, _⟩ => ⟨S1x1x2048x5632, .f32⟩
  | .hbm, ⟨87, _⟩ => ⟨S2048x5632, .f32⟩
  | .hbm, ⟨88, _⟩ => ⟨S2048x5632, .bf16⟩
  | .hbm, ⟨89, _⟩ => ⟨S1x1x5632x2048, .f32⟩
  | .hbm, ⟨90, _⟩ => ⟨S5632x2048, .f32⟩
  | .hbm, ⟨91, _⟩ => ⟨S5632x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Last.lean ====
abbrev S32768x2048 : Shape := ⟨2, ![32768, 2048]⟩
abbrev S8x9x2048 : Shape := ⟨3, ![8, 9, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S1x1x2048 : Shape := ⟨3, ![1, 1, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S8x9x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== LastIdeal.lean ====
variable {F : FTy → Type} [FloatOps F] [Named F]
def κ : String → Option EReal := fun
  | "eps_alpha" => some (((1 / 100000) * ((Real.sqrt (Real.sqrt 8)) * (Real.sqrt (Real.sqrt 8)))⁻¹ : ℝ) : EReal)
  | "inv_alpha" => some (((Real.sqrt (Real.sqrt 8))⁻¹ : ℝ) : EReal)
  | _ => none
-- ==== LastRefIdeal.lean ====
abbrev S32768x2048 : Shape := ⟨2, ![32768, 2048]⟩
abbrev S8x9x2048 : Shape := ⟨3, ![8, 9, 2048]⟩
abbrev S2048x5632 : Shape := ⟨2, ![2048, 5632]⟩
abbrev S5632x2048 : Shape := ⟨2, ![5632, 2048]⟩
abbrev S2048 : Shape := ⟨1, ![2048]⟩
abbrev S8x4096x2048 : Shape := ⟨3, ![8, 4096, 2048]⟩
abbrev S8x1x2048 : Shape := ⟨3, ![8, 1, 2048]⟩
abbrev S8x2048 : Shape := ⟨2, ![8, 2048]⟩
abbrev S_ : Shape := ⟨0, ![]⟩
abbrev S8x4096x5632 : Shape := ⟨3, ![8, 4096, 5632]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x9x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S8x4096x2048, .f32⟩
  | .hbm, ⟨8, _⟩ => ⟨S8x1x2048, .f32⟩
  | .hbm, ⟨9, _⟩ => ⟨S8x2048, .f32⟩
  | .hbm, ⟨10, _⟩ => ⟨S8x1x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x2048, .f32⟩
  | .hbm, ⟨16, _⟩ => ⟨S8x1x2048, .f32⟩
  | .hbm, ⟨17, _⟩ => ⟨S_, .f32⟩
  | .hbm, ⟨18, _⟩ => ⟨S8x1x2048, .f32⟩
  | .hbm, ⟨19, _⟩ => ⟨S8x1x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x4096x5632, .f32⟩
  | .hbm, ⟨28, _⟩ => ⟨S8x4096x5632, .f32⟩
  | .hbm, ⟨29, _⟩ => ⟨S8x4096x5632, .f32⟩
  | .hbm, ⟨30, _⟩ => ⟨S_, .f32⟩
  | .hbm, ⟨31, _⟩ => ⟨S8x4096x5632, .f32⟩
  | .hbm, ⟨32, _⟩ => ⟨S8x4096x5632, .f32⟩
  | .hbm, ⟨33, _⟩ => ⟨S_, .f32⟩
  | .hbm, ⟨34, _⟩ => ⟨S8x4096x5632, .f32⟩
  | .hbm, ⟨35, _⟩ => ⟨S8x4096x5632, .f32⟩
  | .hbm, ⟨36, _⟩ => ⟨S8x4096x5632, .f32⟩
  | .hbm, ⟨37, _⟩ => ⟨S8x4096x5632, .f32⟩
  | .hbm, ⟨38, _⟩ => ⟨S8x4096x5632, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x2048, .f32⟩
  | .hbm, ⟨55, _⟩ => ⟨S8x4096x2048, .f32⟩
  | .hbm, ⟨56, _⟩ => ⟨S8x4096x2048, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x2048, .f32⟩
  | .hbm, ⟨64, _⟩ => ⟨S8x4096x2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1, .f32⟩
  | .hbm, ⟨71, _⟩ => ⟨S8x4096x2048, .f32⟩
  | .hbm, ⟨72, _⟩ => ⟨S8x4096x2048, .f32⟩
  | .hbm, ⟨73, _⟩ => ⟨S1x1x2048, .f32⟩
  | .hbm, ⟨74, _⟩ => ⟨S8x4096x2048, .f32⟩
  | .hbm, ⟨75, _⟩ => ⟨S8x4096x2048, .f32⟩
  | .hbm, ⟨76, _⟩ => ⟨S1x1x2048, .f32⟩
  | .hbm, ⟨77, _⟩ => ⟨S8x4096x2048, .f32⟩
  | .hbm, ⟨78, _⟩ => ⟨S8x4096x2048, .f32⟩
  | .hbm, ⟨79, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Mid.lean ====
abbrev S32768x2048 : Shape := ⟨2, ![32768, 2048]⟩
abbrev S8x9x2048 : Shape := ⟨3, ![8, 9, 2048]⟩
abbrev S2048x5632 : Shape := ⟨2, ![2048, 5632]⟩
abbrev S5632x2048 : Shape := ⟨2, ![5632, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S1x1x64x512 : Shape := ⟨4, ![1, 1, 64, 512]⟩
abbrev S1x1x16x2048 : Shape := ⟨4, ![1, 1, 16, 2048]⟩
abbrev S64x512 : Shape := ⟨2, ![64, 512]⟩
abbrev S16x2048 : Shape := ⟨2, ![16, 2048]⟩
abbrev S1x1x2048 : Shape := ⟨3, ![1, 1, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 19
  | .vmem => 27
  | .smem => 0
  | _ => 0

abbrev bufTy : (tb : Table) → Fin (tcTables nBuf tb) → BufTy
  | .hbm, ⟨0, _⟩ => ⟨S32768x2048, .f32⟩
  | .hbm, ⟨1, _⟩ => ⟨S8x9x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S4x2x2048x5632, .f32⟩
  | .hbm, ⟨8, _⟩ => ⟨S4x2x2048x5632, .f32⟩
  | .hbm, ⟨9, _⟩ => ⟨S4x2x5632x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S1x2048, .f32⟩
  | .hbm, ⟨14, _⟩ => ⟨S1x2048, .f32⟩
  | .hbm, ⟨15, _⟩ => ⟨S32768x2048, .f32⟩
  | .hbm, ⟨16, _⟩ => ⟨S2048x5632, .bf16⟩
  | .hbm, ⟨17, _⟩ => ⟨S2048x5632, .bf16⟩
  | .hbm, ⟨18, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1x1x64x512, .f32⟩
  | .local _ .vmem, ⟨13, _⟩ => ⟨S1x1x64x512, .f32⟩
  | .local _ .vmem, ⟨14, _⟩ => ⟨S1x1x64x512, .f32⟩
  | .local _ .vmem, ⟨15, _⟩ => ⟨S1x1x64x512, .f32⟩
  | .local _ .vmem, ⟨16, _⟩ => ⟨S1x1x16x2048, .f32⟩
  | .local _ .vmem, ⟨17, _⟩ => ⟨S1x1x16x2048, .f32⟩
  | .local _ .vmem, ⟨18, _⟩ => ⟨S1024x2048, .f32⟩
  | .local _ .vmem, ⟨19, _⟩ => ⟨S1024x2048, .f32⟩
  | .local _ .vmem, ⟨20, _⟩ => ⟨S64x512, .bf16⟩
  | .local _ .vmem, ⟨21, _⟩ => ⟨S64x512, .bf16⟩
  | .local _ .vmem, ⟨22, _⟩ => ⟨S64x512, .bf16⟩
  | .local _ .vmem, ⟨23, _⟩ => ⟨S64x512, .bf16⟩
  | .local _ .vmem, ⟨24, _⟩ => ⟨S16x2048, .bf16⟩
  | .local _ .vmem, ⟨25, _⟩ => ⟨S16x2048, .bf16⟩
  | .local _ .vmem, ⟨26, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat, arg1.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat, arg1.toNat]

def cc0_transform_9 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, c0_i32.toNat, v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MidIdeal.lean ====
variable {F : FTy → Type} [FloatOps F] [Named F]
def κ : String → Option EReal := fun
  | "eps_alpha" => some (((1 / 100000) * ((Real.sqrt (Real.sqrt 8)) * (Real.sqrt (Real.sqrt 8)))⁻¹ : ℝ) : EReal)
  | "inv_alpha" => some (((Real.sqrt (Real.sqrt 8))⁻¹ : ℝ) : EReal)
  | _ => none
-- ==== MidRefIdeal.lean ====
abbrev S32768x2048 : Shape := ⟨2, ![32768, 2048]⟩
abbrev S8x9x2048 : Shape := ⟨3, ![8, 9, 2048]⟩
abbrev S2048x5632 : Shape := ⟨2, ![2048, 5632]⟩
abbrev S5632x2048 : Shape := ⟨2, ![5632, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S8x4096x2048 : Shape := ⟨3, ![8, 4096, 2048]⟩
abbrev S8x1x2048 : Shape := ⟨3, ![8, 1, 2048]⟩
abbrev S8x2048 : Shape := ⟨2, ![8, 2048]⟩
abbrev S_ : Shape := ⟨0, ![]⟩
abbrev S8x4096x5632 : Shape := ⟨3, ![8, 4096, 5632]⟩
abbrev S8x4096 : Shape := ⟨2, ![8, 4096]⟩
abbrev S8x4096x1 : Shape := ⟨3, ![8, 4096, 1]⟩
abbrev S1x1x2048 : Shape := ⟨3, ![1, 1, 2048]⟩
abbrev S1x1x2048x5632 : Shape := ⟨4, ![1, 1, 2048, 5632]⟩
abbrev S1x1x5632x2048 : Shape := ⟨4, ![1, 1, 5632, 2048]⟩

abbrev nBuf : Space → Nat
  | .hbm => 92
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x9x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S4x2x2048x5632, .f32⟩
  | .hbm, ⟨8, _⟩ => ⟨S4x2x2048x5632, .f32⟩
  | .hbm, ⟨9, _⟩ => ⟨S4x2x5632x2048, .f32⟩
  | .hbm, ⟨10, _⟩ => ⟨S8x4096x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | .hbm, ⟨19, _⟩ => ⟨S8x1x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x4096x5632, .f32⟩
  | .hbm, ⟨31, _⟩ => ⟨S8x4096x5632, .f32⟩
  | .hbm, ⟨32, _⟩ => ⟨S8x4096x5632, .f32⟩
  | .hbm, ⟨33, _⟩ => ⟨S_, .f32⟩
  | .hbm, ⟨34, _⟩ => ⟨S8x4096x5632, .f32⟩
  | .hbm, ⟨35, _⟩ => ⟨S8x4096x5632, .f32⟩
  | .hbm, ⟨36, _⟩ => ⟨S_, .f32⟩
  | .hbm, ⟨37, _⟩ => ⟨S8x4096x5632, .f32⟩
  | .hbm, ⟨38, _⟩ => ⟨S8x4096x5632, .f32⟩
  | .hbm, ⟨39, _⟩ => ⟨S8x4096x5632, .f32⟩
  | .hbm, ⟨40, _⟩ => ⟨S8x4096x5632, .f32⟩
  | .hbm, ⟨41, _⟩ => ⟨S8x4096x5632, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x2048, .f32⟩
  | .hbm, ⟨67, _⟩ => ⟨S8x4096x2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x2048, .f32⟩
  | .hbm, ⟨75, _⟩ => ⟨S8x4096x2048, .f32⟩
  | .hbm, ⟨76, _⟩ => ⟨S1x1x2048, .f32⟩
  | .hbm, ⟨77, _⟩ => ⟨S8x4096x2048, .f32⟩
  | .hbm, ⟨78, _⟩ => ⟨S8x4096x2048, .f32⟩
  | .hbm, ⟨79, _⟩ => ⟨S1x1x2048, .f32⟩
  | .hbm, ⟨80, _⟩ => ⟨S8x4096x2048, .f32⟩
  | .hbm, ⟨81, _⟩ => ⟨S8x4096x2048, .f32⟩
  | .hbm, ⟨82, _⟩ => ⟨S32768x2048, .f32⟩
  | .hbm, ⟨83, _⟩ => ⟨S1x1x2048x5632, .f32⟩
  | .hbm, ⟨84, _⟩ => ⟨S2048x5632, .f32⟩
  | .hbm, ⟨85, _⟩ => ⟨S2048x5632, .bf16⟩
  | .hbm, ⟨86, _⟩ => ⟨S1x1x2048x5632, .f32⟩
  | .hbm, ⟨87, _⟩ => ⟨S2048x5632, .f32⟩
  | .hbm, ⟨88, _⟩ => ⟨S2048x5632, .bf16⟩
  | .hbm, ⟨89, _⟩ => ⟨S1x1x5632x2048, .f32⟩
  | .hbm, ⟨90, _⟩ => ⟨S5632x2048, .f32⟩
  | .hbm, ⟨91, _⟩ => ⟨S5632x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Proof.AttnTrip.lean ====
/- One trip of the attention kernel's loop over blocks of 2048 keys, as an equation: the running maxima and sums of the two
   maps, and the two accumulators, after the trip as functions of those before it. What the score scratch held before the trip
   does not enter. -/
module

public import proofs.«01_k».proof.Proof.Gen.AttnIdeal.Loops
public import Idealize.ShloMosaic.Lib.Pipeline.ValueKit
public import Idealize.ShloMosaic.Lib.Pipeline.ReadBack

@[expose] public section

set_option maxRecDepth 16384

noncomputable section

namespace Cert.AttnTrip

open Cert.AttnIdeal Cert.AttnIdeal.Gen Idealize.ShloMosaic Idealize.ShloMosaic.TcCoe Idealize.SL.Sem

variable {F : FTy → Type} [FloatOps F]

/-- What the loop carries in registers: maximum and sum of the first map, then of the second. -/
abbrev Carry (F : FTy → Type) [FloatOps F] : Type := FVec F S1x1024 .f32 × FVec F S1x1024 .f32 × FVec F S1x1024 .f32 × FVec F S1x1024 .f32

/-- The carried registers, and the two accumulators. -/
abbrev State (F : FTy → Type) [FloatOps F] : Type := Carry F × FVec F S1x256x1024 .f32 × FVec F S1x256x1024 .f32

/-- The accumulator of the first map in the scratch, and that of the second. -/
abbrev r0 : Rect S2x256x1024 := Rect.unit (s := S2x256x1024) ![0, 0, 0] S1x256x1024.size inb_S2x256x1024_S1x256x1024_0_0_0
abbrev r1 : Rect S2x256x1024 := Rect.unit (s := S2x256x1024) ![1, 0, 0] S1x256x1024.size inb_S2x256x1024_S1x256x1024_1_0_0

/-- Block `k` of 2048 keys. -/
def kB (x2 : Vec F S4096x256 .bf16) (k : Fin k0_t1_loop.trips) : Vec F S2048x256 .bf16 :=
  View.ld x2 (Rect.unit (s := S4096x256) (k0_off1 k) S2048x256.size (k0_off1_inb k))

/-- Part `j` (of four) of block `k` of the values. -/
def vB (x3 : Vec F S8x256x512 .bf16) (k : Fin k0_t1_loop.trips) (j : Fin 4) : Vec F S1x256x512 .bf16 :=
  View.ld x3 (Rect.unit (s := S8x256x512) (k0_off2 k (BitVec.ofNat 32 j)) S1x256x512.size (k0_off2_inb k j))

/-- The scores of block `k` in the first map, and in the second. -/
def sc0 (x1 : Vec F S1024x256 .bf16) (x2 : Vec F S4096x256 .bf16) (k : Fin k0_t1_loop.trips) : FVec F S1x1x2048x1024 .f32 :=
  k0_pay7 (k0_pay17 x1) (kB x2 k)
def sc1 (x1 : Vec F S1024x256 .bf16) (x2 : Vec F S4096x256 .bf16) (k : Fin k0_t1_loop.trips) : FVec F S1x1x2048x1024 .f32 :=
  k0_pay9 (k0_pay18 x1) (k0_pay8 (kB x2 k))

/-- The state after trip `k`, from the state before it. -/
def stp (x1 : Vec F S1024x256 .bf16) (x2 : Vec F S4096x256 .bf16) (x3 : Vec F S8x256x512 .bf16) (k : Fin k0_t1_loop.trips) (s : State F) : State F :=
  ((k0_pay11 s.1.1 (sc0 x1 x2 k), k0_pay14 s.1.1 s.1.2.1 (sc0 x1 x2 k),
    k0_pay23 s.1.2.2.1 (sc1 x1 x2 k), k0_pay26 s.1.2.2.1 s.1.2.2.2 (sc1 x1 x2 k)),
   k0_pay15 s.1.1 (k0_pay3 (vB x3 k 0)) (k0_pay4 (vB x3 k 1)) (k0_pay5 (vB x3 k 2)) (k0_pay6 (vB x3 k 3)) (sc0 x1 x2 k) s.2.1,
   k0_pay27 s.1.2.2.1 (k0_pay3 (vB x3 k 0)) (k0_pay4 (vB x3 k 1)) (k0_pay5 (vB x3 k 2)) (k0_pay6 (vB x3 k 3)) (sc1 x1 x2 k) s.2.2)

/-- The state before trip `n`. -/
def stN (x1 : Vec F S1024x256 .bf16) (x2 : Vec F S4096x256 .bf16) (x3 : Vec F S8x256x512 .bf16) (s0 : State F) : ℕ → State F
  | 0 => s0
  | n + 1 => if h : n < k0_t1_loop.trips then stp x1 x2 x3 ⟨n, h⟩ (stN x1 x2 x3 s0 n) else stN x1 x2 x3 s0 n

variable (𝒱 : Variants) (c : Dev nD) (bd : Option 𝒱.V) (i : grid0.Coords) (arg3 : Memref sig .tc .vmem S4x128 .f32) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S8x256x512 .bf16) (harg6 : arg6.IsWhole) (arg7 : Memref sig .tc .vmem S256x256 .bf16) (harg7 : arg7.IsWhole) (arg8 : Memref sig .tc .vmem S1x256x256 .bf16) (harg8 : arg8.IsWhole) (arg9 : Memref sig .tc .vmem S256x1 .f32) (harg9 : arg9.IsWhole) (arg10 : Memref sig .tc .vmem S1024x256 .bf16) (harg10 : arg10.IsWhole) (arg11 : Memref sig .tc .vmem S2x256x1024 .f32) (harg11 : arg11.IsWhole) (arg12 : Memref sig .tc .vmem S1x2x2048x1024 .f32) (harg12 : arg12.IsWhole)
variable (x1 : Vec F S1024x256 .bf16) (x2 : Vec F S4096x256 .bf16) (x3 : Vec F S8x256x512 .bf16) (k : Fin k0_t1_loop.trips)
  (acc : Carry F) (f11 : BufTy.Contents (Elt F) arg11.view.ty) (f12 : BufTy.Contents (Elt F) arg12.view.ty)

/-- The two accumulators that contents of the scratch hold. -/
abbrev accs : FVec F S1x256x1024 .f32 × FVec F S1x256x1024 .f32 :=
  (arg11.view.readAt (Elt F) r0.toLoadRect f11, arg11.view.readAt (Elt F) r1.toLoadRect f11)

omit [FloatOps F] in
/-- Both accumulators stored: each is what was stored, whatever was there. -/
theorem accs_two [∀ e, Nonempty (Elt F e)] (p q : FVec F S1x256x1024 .f32) :
    accs arg11 (arg11.view.writes (Elt F) f11 [⟨r1, p⟩, ⟨r0, q⟩]) = (q, p) := by
  refine Prod.ext ?_ ?_
  · exact (View.readAt_writes_of_cover arg11.view f11 [⟨r1, p⟩, ⟨r0, q⟩] r0.toLoadRect fun j => ⟨⟨r0, q⟩, List.mem_cons_of_mem _ List.mem_cons_self, LoadRect.idx_mem_of_within (show LoadRect.within r0 r0.toLoadRect = true by decide) j⟩).trans
      (by simp (disch := decide) only [↓ View.readCov_skip, ↓ View.readCov_cons_toLoadRect])
  · exact (View.readAt_writes_of_cover arg11.view f11 [⟨r1, p⟩, ⟨r0, q⟩] r1.toLoadRect fun j => ⟨⟨r1, p⟩, List.mem_cons_self, LoadRect.idx_mem_of_within (show LoadRect.within r1 r1.toLoadRect = true by decide) j⟩).trans
      (by simp (disch := decide) only [↓ View.readCov_cons_toLoadRect])

/-- One trip: the registers. -/
theorem trip_reg : (trip_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) k).1 acc f11 f12
    = (stp x1 x2 x3 k (acc, accs arg11 f11)).1 := by
  unfold trip_k0_t1
  frame_open
  simp (disch := decide) only [↓ View.readCov_skip, ↓ View.readCov_cons_toLoadRect, View.readAt_eq_ld, Memref.IsWhole.read_unread]
  rfl

/-- One trip: what it stores in the accumulators' scratch. -/
theorem trip_acc : (trip_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) k).2.1 acc f11 f12
    = [⟨r1, (stp x1 x2 x3 k (acc, accs arg11 f11)).2.2⟩, ⟨r0, (stp x1 x2 x3 k (acc, accs arg11 f11)).2.1⟩] := by
  unfold trip_k0_t1
  frame_open
  simp (disch := decide) only [↓ View.readCov_skip, ↓ View.readCov_cons_toLoadRect, View.readAt_eq_ld, Memref.IsWhole.read_unread]
  rfl

/-- The state before trip `n` of the run, whatever the score scratch held at the loop's entry. -/
theorem st_eq (G11 : BufTy.Contents (Elt F) arg11.view.ty) (G12 : BufTy.Contents (Elt F) arg12.view.ty) (init : Carry F) (n : ℕ) (hn : n ≤ k0_t1_loop.trips) :
    ((st_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) G11 G12 init n).1,
      accs arg11 (arg11.view.writes (Elt F) G11 (st_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) G11 G12 init n).2.1))
      = stN x1 x2 x3 (init, accs arg11 G11) n := by
  induction n with
  | zero => rfl
  | succ n ih =>
    have ih := ih (by omega)
    have hn : n < k0_t1_loop.trips := hn
    rw [st_k0_t1_succ (k := ⟨n, hn⟩), stN, dif_pos hn, ← ih]
    dsimp only [tripR_k0_t1, tripL_k0_t1]
    rw [trip_reg, trip_acc, View.writes_append, accs_two]

end Cert.AttnTrip

end
-- ==== Proof.AttnRun.lean ====
/- The attention kernel's body at one grid point, run over its blocks: what it leaves in the output block. -/
module

public import proofs.«01_k».proof.Proof.Gen.AttnIdeal.Frame.Runs
public import proofs.«01_k».proof.Proof.AttnTrip
public import Idealize.ShloMosaic.Lib.VecWindow

@[expose] public section

set_option maxRecDepth 16384

noncomputable section

namespace Cert.AttnRun

open Cert.AttnIdeal Cert.AttnIdeal.Gen Cert.AttnTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

omit [FloatOps F] in
/-- A load after two lists of stores: the later list over what the earlier one left. -/
theorem readCov_append [∀ e, Nonempty (Elt F e)] {sp : Space} {s : Shape} {e : EltTy} (v : View sig .tc sp s e) (L L' : List (View.Piece (Elt F) s e)) (B : LoadRect s) :
    v.readCov (L ++ L') B = v.readAt (Elt F) B (v.writes (Elt F) (v.writes (Elt F) v.junk L') L) := by
  unfold View.readCov; rw [View.writes_append]

/-- The registers and accumulators after the loop over the 4096 latent keys. -/
def stL (x1 : Vec F S1024x256 .bf16) (x2 : Vec F S4096x256 .bf16) (x3 : Vec F S8x256x512 .bf16) : State F :=
  stN x1 x2 x3 ((k0_pay20, k0_pay21, k0_pay20, k0_pay21), fun x => k0_pay19 (r0.idx x), fun x => k0_pay19 (r1.idx x)) k0_t1_loop.trips

/-- The sums of the two maps after the block of context keys too. -/
def lEnd0 (x1 : Vec F S1024x256 .bf16) (x4 : Vec F S256x256 .bf16) (s : State F) : FVec F S1x1024 .f32 :=
  k0_pay36 s.1.1 s.1.2.1 (k0_pay30 x1 x4)
def lEnd1 (x1 : Vec F S1024x256 .bf16) (x4 : Vec F S256x256 .bf16) (s : State F) : FVec F S1x1024 .f32 :=
  k0_pay42 s.1.2.2.1 s.1.2.2.2 (k0_pay31 x1 x4)

/-- The accumulators of the two maps after the block of context keys too. -/
def aEnd0 (x1 : Vec F S1024x256 .bf16) (x4 : Vec F S256x256 .bf16) (x5 : Vec F S1x256x256 .bf16) (s : State F) : FVec F S1x256x1024 .f32 :=
  k0_pay37 s.1.1 (k0_pay29 x5) (k0_pay30 x1 x4) s.2.1
def aEnd1 (x1 : Vec F S1024x256 .bf16) (x4 : Vec F S256x256 .bf16) (x5 : Vec F S1x256x256 .bf16) (s : State F) : FVec F S1x256x1024 .f32 :=
  k0_pay44 (k0_pay29 x5) (k0_pay41 s.1.2.2.1 (k0_pay31 x1 x4)) (k0_pay43 s.1.2.2.1 (k0_pay31 x1 x4)) s.2.2

/-- What the body leaves in the output block. -/
def outV (x0 : Vec F S4x128 .f32) (x1 : Vec F S1024x256 .bf16) (x2 : Vec F S4096x256 .bf16) (x3 : Vec F S8x256x512 .bf16) (x4 : Vec F S256x256 .bf16)
    (x5 : Vec F S1x256x256 .bf16) (x6 : Vec F S256x1 .f32) : Vec F S1024x256 .bf16 :=
  k0_pay1
    (k0_pay45 (lEnd0 x1 x4 (stL x1 x2 x3)) (lEnd1 x1 x4 (stL x1 x2 x3)) x0 (aEnd0 x1 x4 x5 (stL x1 x2 x3)) (aEnd1 x1 x4 x5 (stL x1 x2 x3)))
    (k0_pay46 (lEnd0 x1 x4 (stL x1 x2 x3)) (lEnd1 x1 x4 (stL x1 x2 x3)) x0 (aEnd0 x1 x4 x5 (stL x1 x2 x3)) (aEnd1 x1 x4 x5 (stL x1 x2 x3)))
    x6

/-- A load from an array just filled with one whole-array store reads that store's payload. -/
theorem fill_read (v : View sig .tc .vmem S2x256x1024 .f32) (Z : Vec F S2x256x1024 .f32) (r : Rect S2x256x1024) :
    v.readAt (Elt F) r.toLoadRect (v.writes (Elt F) v.junk [⟨Rect.unit ![0, 0, 0] S2x256x1024.size inb_S2x256x1024_S2x256x1024_0_0_0, Z⟩]) = (fun x => Z (r.idx x)) := by
  have h : ∀ a : Fin S2x256x1024.rank, (![0, 0, 0] : Fin 3 → ℕ) a = 0 := by decide
  exact View.readCov_fill (off := ![0, 0, 0]) v inb_S2x256x1024_S2x256x1024_0_0_0 Z [] r h

/-- What the loop leaves, whatever the score scratch held before it: the registers, and the accumulators as later loads read them. -/
theorem st_final (𝒱 : Variants) (c : Dev nD) (bd : Option 𝒱.V) (i : grid0.Coords) (arg3 : Memref sig .tc .vmem S4x128 .f32) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S8x256x512 .bf16) (harg6 : arg6.IsWhole) (arg7 : Memref sig .tc .vmem S256x256 .bf16) (harg7 : arg7.IsWhole) (arg8 : Memref sig .tc .vmem S1x256x256 .bf16) (harg8 : arg8.IsWhole) (arg9 : Memref sig .tc .vmem S256x1 .f32) (harg9 : arg9.IsWhole) (arg10 : Memref sig .tc .vmem S1024x256 .bf16) (harg10 : arg10.IsWhole) (arg11 : Memref sig .tc .vmem S2x256x1024 .f32) (harg11 : arg11.IsWhole) (arg12 : Memref sig .tc .vmem S1x2x2048x1024 .f32) (harg12 : arg12.IsWhole) (x1 : Vec F S1024x256 .bf16) (x2 : Vec F S4096x256 .bf16) (x3 : Vec F S8x256x512 .bf16)
    (fs1 : BufTy.Contents (Elt F) arg12.view.ty) (T : ℕ) (hT : T = k0_t1_loop.trips) :
    (st_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) (arg11.view.writes (Elt F) arg11.view.junk [⟨Rect.unit ![0, 0, 0] S2x256x1024.size inb_S2x256x1024_S2x256x1024_0_0_0, k0_pay19⟩]) fs1 (k0_pay20, k0_pay21, k0_pay20, k0_pay21) T).1 = (stL x1 x2 x3).1
    ∧ arg11.view.readAt (Elt F) (Rect.unit (s := S2x256x1024) ![0, 0, 0] S1x256x1024.size inb_S2x256x1024_S1x256x1024_0_0_0).toLoadRect
        (arg11.view.writes (Elt F) (arg11.view.writes (Elt F) arg11.view.junk [⟨Rect.unit ![0, 0, 0] S2x256x1024.size inb_S2x256x1024_S2x256x1024_0_0_0, k0_pay19⟩]) (st_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) (arg11.view.writes (Elt F) arg11.view.junk [⟨Rect.unit ![0, 0, 0] S2x256x1024.size inb_S2x256x1024_S2x256x1024_0_0_0, k0_pay19⟩]) fs1 (k0_pay20, k0_pay21, k0_pay20, k0_pay21) T).2.1) = (stL x1 x2 x3).2.1
    ∧ arg11.view.readAt (Elt F) (Rect.unit (s := S2x256x1024) ![1, 0, 0] S1x256x1024.size inb_S2x256x1024_S1x256x1024_1_0_0).toLoadRect
        (arg11.view.writes (Elt F) (arg11.view.writes (Elt F) arg11.view.junk [⟨Rect.unit ![0, 0, 0] S2x256x1024.size inb_S2x256x1024_S2x256x1024_0_0_0, k0_pay19⟩]) (st_k0_t1 (F := F) 𝒱 c bd i arg3 harg3 arg4 harg4 arg5 harg5 arg6 harg6 arg7 harg7 arg8 harg8 arg9 harg9 arg10 harg10 arg11 harg11 arg12 harg12 x1 (harg5.unread x2) (harg6.unread x3) (arg11.view.writes (Elt F) arg11.view.junk [⟨Rect.unit ![0, 0, 0] S2x256x1024.size inb_S2x256x1024_S2x256x1024_0_0_0, k0_pay19⟩]) fs1 (k0_pay20, k0_pay21, k0_pay20, k0_pay21) T).2.1) = (stL x1 x2 x3).2.2 := by
  have hst := st_eq 𝒱 c bd i arg3 harg3 arg4 harg4 arg5 harg5 arg6 harg6 arg7 harg7 arg8 harg8 arg9 harg9 arg10 harg10 arg11 harg11 arg12 harg12 x1 x2 x3 (arg11.view.writes (Elt F) arg11.view.junk [⟨Rect.unit ![0, 0, 0] S2x256x1024.size inb_S2x256x1024_S2x256x1024_0_0_0, k0_pay19⟩]) fs1 (k0_pay20, k0_pay21, k0_pay20, k0_pay21) T hT.le
  have e0 : arg11.view.readAt (Elt F) r0.toLoadRect (arg11.view.writes (Elt F) arg11.view.junk [⟨Rect.unit ![0, 0, 0] S2x256x1024.size inb_S2x256x1024_S2x256x1024_0_0_0, k0_pay19⟩]) = (fun x => k0_pay19 (r0.idx x)) :=
    fill_read arg11.view _ _
  have e1 : arg11.view.readAt (Elt F) r1.toLoadRect (arg11.view.writes (Elt F) arg11.view.junk [⟨Rect.unit ![0, 0, 0] S2x256x1024.size inb_S2x256x1024_S2x256x1024_0_0_0, k0_pay19⟩]) = (fun x => k0_pay19 (r1.idx x)) :=
    fill_read arg11.view _ _
  have ha : accs arg11 (arg11.view.writes (Elt F) arg11.view.junk [⟨Rect.unit ![0, 0, 0] S2x256x1024.size inb_S2x256x1024_S2x256x1024_0_0_0, k0_pay19⟩]) = ((fun x => k0_pay19 (r0.idx x)), (fun x => k0_pay19 (r1.idx x))) := Prod.ext e0 e1
  rw [ha] at hst
  have hL : stL x1 x2 x3 = stN x1 x2 x3 ((k0_pay20, k0_pay21, k0_pay20, k0_pay21), (fun x => k0_pay19 (r0.idx x)), (fun x => k0_pay19 (r1.idx x))) T := by rw [stL, hT]
  have hf := hL.trans hst.symm
  exact ⟨(congrArg Prod.fst hf).symm, (congrArg (fun s => s.2.1) hf).symm, (congrArg (fun s => s.2.2) hf).symm⟩

set_option maxHeartbeats 2000000 in
/-- The body at whole memrefs: from the inputs at their contents, it leaves the inputs as they were and the output block at `outV`. -/
theorem kernelRun (c : Dev nD) (i : grid0.Coords) (arg3 : Memref sig .tc .vmem S4x128 .f32) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S8x256x512 .bf16) (harg6 : arg6.IsWhole) (arg7 : Memref sig .tc .vmem S256x256 .bf16) (harg7 : arg7.IsWhole) (arg8 : Memref sig .tc .vmem S1x256x256 .bf16) (harg8 : arg8.IsWhole) (arg9 : Memref sig .tc .vmem S256x1 .f32) (harg9 : arg9.IsWhole) (arg10 : Memref sig .tc .vmem S1024x256 .bf16) (harg10 : arg10.IsWhole) (arg11 : Memref sig .tc .vmem S2x256x1024 .f32) (harg11 : arg11.IsWhole) (arg12 : Memref sig .tc .vmem S1x2x2048x1024 .f32) (harg12 : arg12.IsWhole)
    (x0 : Vec F S4x128 .f32) (x1 : Vec F S1024x256 .bf16) (x2 : Vec F S4096x256 .bf16) (x3 : Vec F S8x256x512 .bf16) (x4 : Vec F S256x256 .bf16) (x5 : Vec F S1x256x256 .bf16) (x6 : Vec F S256x1 .f32) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outV x0 x1 x2 x3 x4 x5 x6) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12) K := by
  intro E K
  simp only [cc0_diff_attention_eq_skeleton]; unfold cc0_diff_attention_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    frame_open
    obtain ⟨h1, h2, h3⟩ := st_final Variants.none c none i arg3 harg3 arg4 harg4 arg5 harg5 arg6 harg6 arg7 harg7 arg8 harg8 arg9 harg9 arg10 harg10 arg11 harg11 arg12 harg12 x1 x2 x3 fs1 (Scf.trips k0_t1_loop.lb k0_t1_loop.ub k0_t1_loop.st) rfl
    simp (disch := decide) only [↓ View.readCov_skip, ↓ View.readCov_cons_toLoadRect, readCov_append,
      View.readAt_eq_ld, View.ld_unit_lit', Memref.IsWhole.read_unread] at h1 h2 h3 ⊢
    refine (View.read_writes_full arg10.view f7 inb_S1024x256_S1024x256_0_0 _ []).trans ?_
    simp only [h1, h2, h3]
    rfl
  isplitl [HS0]
  · iexists _, _; isplitr; swap; · iexact HS0
    ipureintro; rfl
  iexists _, _; isplitr; swap; · iexact HS1
  ipureintro; rfl

end Cert.AttnRun

end
-- ==== Proof.AttnLaunch.lean ====
/- The attention kernel's launch: the frame of its run with the output array named, point by point. -/
module

public import proofs.«01_k».proof.Proof.AttnRun
public import Idealize.ShloMosaic.Lib.Pipeline.Value

@[expose] public section

set_option maxRecDepth 16384

noncomputable section

namespace Cert.AttnRun

open Cert.AttnIdeal Cert.AttnIdeal.Gen Cert.AttnTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' staging buffers hold after the body at point `t`: the run's contents at
    the point's memrefs and input blocks. -/
def outsAt0 (c : Dev nD) (t : Fin cfg0.N) : Vec F S1024x256 .bf16 :=
  outV (iblk m c 0 t) (iblk m c 1 t) (iblk m c 2 t) (iblk m c 3 t) (iblk m c 4 t) (iblk m c 5 t) (iblk m c 6 t)

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v16) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 0 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 0).trans (((dats m 0 c).arrAt_in 0 rfl _).trans ((A_eq m c 0).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v16) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.AttnRun

end
-- ==== Proof.AttnSame.lean ====
/- The attention program as printed has the text of its idealization, so the one run serves both. -/
module

public import proofs.«01_k».proof.Defs
public import proofs.«01_k».proof.Proof.Gen.Attn
public import proofs.«01_k».proof.Proof.AttnLaunch

@[expose] public section

noncomputable section

namespace Cert.AttnSame

open Idealize.ShloMosaic Idealize.SL.Sem

variable {F : FTy → Type} [FloatOps F]

/-- The two programs' kernels are one. -/
theorem bodies : Cert.Attn.defs₀ (F := F) = Cert.AttnIdeal.defs₀ (F := F) := by
  refine congrArg Defs.onTc ?_
  funext l x
  match l, x with
  | ⟨0, _⟩, (t, s) => rfl

/-- … and so are their bodies with the pipeline's. -/
theorem same : Cert.Attn.defs (F := F) = Cert.AttnIdeal.defs (F := F) :=
  congrArg (Idealize.ShloMosaic.Pipeline.defs (Cert.Attn.pcfgs (F := F))) bodies

/-- The host programs are one. -/
theorem mains : Cert.Attn.main (F := F) = Cert.AttnIdeal.main (F := F) := rfl

/-- The printed program runs and leaves its arguments as they were. -/
theorem frame : Cert.quiescent_Attn := by
  intro m ρ _
  rw [same, mains]
  exact Cert.AttnRun.frame (F := Bits) m ρ

end Cert.AttnSame

end
-- ==== Proof.AttnMath.lean ====
/- The arithmetic of softmax attention over the extended reals: the streamed form, one block of keys after another
   with a running maximum, and the form with all keys at once. -/
module

public import Idealize.ShloMosaic.Lib.Pipeline.ValueKit
public import Idealize.ShloMosaic.PureOps.Ideal.Laws

@[expose] public section

noncomputable section

namespace Cert.AttnMath

open Idealize.ShloMosaic

/-- A sum of reals, read in the extended reals. -/
theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- The maximum of −∞ and finitely many reals, at least one, is a real. -/
theorem fold_max_coe {n : ℕ} (hn : 0 < n) (s : Fin n → EReal) (r : Fin n → ℝ) (h : ∀ j, s j = (r j : EReal)) :
    ∃ M : ℝ, Finset.univ.fold max (⊥ : EReal) s = (M : EReal) := by
  have key : ∀ S : Finset (Fin n), S.Nonempty → ∃ M : ℝ, S.fold max (⊥ : EReal) s = (M : EReal) := by
    intro S hS
    induction hS using Finset.Nonempty.cons_induction with
    | singleton a => exact ⟨r a, by simp [h]⟩
    | cons a S ha hS ih =>
      obtain ⟨M, hM⟩ := ih
      refine ⟨max (r a) M, ?_⟩
      rw [Finset.fold_cons, hM, h]
      exact (EReal.coe_strictMono.monotone.map_max).symm
  exact key Finset.univ ⟨⟨0, hn⟩, Finset.mem_univ _⟩

/-- 2 to a real power. -/
theorem exp2_coe (x : ℝ) : Ideal.exp2 (x : EReal) = (((2 : ℝ) ^ x : ℝ) : EReal) := rfl

theorem exp_coe (x : ℝ) : Ideal.exp (x : EReal) = ((Real.exp x : ℝ) : EReal) := rfl

theorem exp2_bot : Ideal.exp2 ⊥ = 0 := rfl

/-- What the running maximum `m`, the running sum `l` and the running weighted sum `a` stand for: `W` is the sum of 2 to
    the scores so far and `Z` that sum weighted by the values, both scaled by 2 to the minus `m`. -/
def Rep (m l a : EReal) (W Z : ℝ) : Prop :=
  ∃ M : ℝ, m = (M : EReal) ∧ l = ((W * 2 ^ (-M) : ℝ) : EReal) ∧ a = ((Z * 2 ^ (-M) : ℝ) : EReal)

/-- The running maximum after a block of scores `s`. -/
def mNew {n : ℕ} (m : EReal) (s : Fin n → EReal) : EReal := max m (Finset.univ.fold max ⊥ s)

/-- The running sum after a block of scores `s`. -/
def lNew {n : ℕ} (m l : EReal) (s : Fin n → EReal) : EReal :=
  Ideal.exp2 (m - mNew m s) * l + ∑ j, Ideal.exp2 (s j - mNew m s)

/-- The running weighted sum after a block of scores `s` with values `v`. -/
def aNew {n : ℕ} (m a : EReal) (s v : Fin n → EReal) : EReal :=
  Ideal.exp2 (m - mNew m s) * a + ∑ j, v j * Ideal.exp2 (s j - mNew m s)

variable {n : ℕ} (hn : 0 < n) (s v : Fin n → EReal) (r w : Fin n → ℝ) (hs : ∀ j, s j = (r j : EReal)) (hv : ∀ j, v j = (w j : EReal))

include hs in
theorem sum_p (M : ℝ) : (∑ j, Ideal.exp2 (s j - (M : EReal))) = (((∑ j, (2 : ℝ) ^ (r j)) * 2 ^ (-M) : ℝ) : EReal) := by
  rw [Finset.sum_mul, ← coe_sum]
  refine Finset.sum_congr rfl fun j _ => ?_
  rw [hs, ← EReal.coe_sub, exp2_coe, sub_eq_add_neg, Real.rpow_add two_pos]

include hs hv in
theorem sum_vp (M : ℝ) : (∑ j, v j * Ideal.exp2 (s j - (M : EReal))) = (((∑ j, w j * (2 : ℝ) ^ (r j)) * 2 ^ (-M) : ℝ) : EReal) := by
  rw [Finset.sum_mul, ← coe_sum]
  refine Finset.sum_congr rfl fun j _ => ?_
  rw [hs, hv, ← EReal.coe_sub, exp2_coe, ← EReal.coe_mul, sub_eq_add_neg, Real.rpow_add two_pos, mul_assoc]

include hn hs hv in
/-- The first block: the running sums start empty. -/
theorem rep_first : Rep (mNew ⊥ s) (lNew ⊥ 0 s) (aNew ⊥ 0 s v) (∑ j, (2 : ℝ) ^ (r j)) (∑ j, w j * (2 : ℝ) ^ (r j)) := by
  obtain ⟨M, hM⟩ := fold_max_coe hn s r hs
  have e : mNew ⊥ s = (M : EReal) := by rw [mNew, hM]; exact max_eq_right bot_le
  refine ⟨M, e, ?_, ?_⟩
  · rw [lNew, e, sum_p s r hs, EReal.bot_sub, exp2_bot, zero_mul, zero_add]
  · rw [aNew, e, sum_vp s v r w hs hv, EReal.bot_sub, exp2_bot, zero_mul, zero_add]

include hn hs hv in
/-- One more block. -/
theorem rep_step {m l a : EReal} {W Z : ℝ} (h : Rep m l a W Z) :
    Rep (mNew m s) (lNew m l s) (aNew m a s v) (W + ∑ j, (2 : ℝ) ^ (r j)) (Z + ∑ j, w j * (2 : ℝ) ^ (r j)) := by
  obtain ⟨M₀, rfl, rfl, rfl⟩ := h
  obtain ⟨M₁, hM⟩ := fold_max_coe hn s r hs
  have e : mNew (M₀ : EReal) s = ((max M₀ M₁ : ℝ) : EReal) := by
    rw [mNew, hM]; exact (EReal.coe_strictMono.monotone.map_max).symm
  generalize max M₀ M₁ = M at e
  have c : ∀ x : ℝ, (2 : ℝ) ^ (M₀ - M) * (x * 2 ^ (-M₀)) = x * 2 ^ (-M) := by
    intro x
    rw [mul_left_comm, ← Real.rpow_add two_pos]; congr 2; ring
  refine ⟨M, e, ?_, ?_⟩
  · rw [lNew, e, sum_p s r hs, ← EReal.coe_sub, exp2_coe, ← EReal.coe_mul, ← EReal.coe_add, c, add_mul]
  · rw [aNew, e, sum_vp s v r w hs hv, ← EReal.coe_sub, exp2_coe, ← EReal.coe_mul, ← EReal.coe_add, c, add_mul]

/-- The quotient of the two running sums does not depend on the maximum. -/
theorem rep_div {m l a : EReal} {W Z : ℝ} (hW : 0 < W) (h : Rep m l a W Z) (c : ℝ) :
    a * Ideal.div (c : EReal) l = ((c * (Z / W) : ℝ) : EReal) := by
  obtain ⟨M, rfl, rfl, rfl⟩ := h
  have h2 : (0 : ℝ) < 2 ^ (-M) := Real.rpow_pos_of_pos two_pos _
  have hl : (((W * 2 ^ (-M) : ℝ)) : EReal) ≠ 0 := by
    rw [← EReal.coe_zero, Ne, EReal.coe_eq_coe_iff]; positivity
  rw [Ideal.div, if_neg hl, ← EReal.coe_inv, ← EReal.coe_mul, ← EReal.coe_mul, EReal.coe_eq_coe_iff]
  field_simp

/-- Softmax weights of `n` scores at the shift `M`, applied to values: the quotient of two sums. -/
theorem soft_real (s : Fin n → ℝ) (M : ℝ) (j : Fin n) :
    Real.exp (s j - M) / (∑ i, Real.exp (s i - M)) = Real.exp (s j) / ∑ i, Real.exp (s i) := by
  have hM : Real.exp (-M) ≠ 0 := Real.exp_ne_zero _
  simp only [sub_eq_add_neg, Real.exp_add, ← Finset.sum_mul]
  rw [mul_div_mul_right _ _ hM]

end Cert.AttnMath

end
-- ==== Proof.AttnPay.lean ====
/- The attention kernel's running maxima and sums at one query, over the extended reals: a query is a column, a key a row. -/
module

public import proofs.«01_k».proof.Proof.AttnMath
public import proofs.«01_k».proof.Proof.AttnRun
public import Idealize.ShloMosaic.Lib.Pointwise

@[expose] public section

set_option maxRecDepth 16384

noncomputable section

namespace Cert.AttnPay

open Cert.AttnIdeal Cert.AttnIdeal.Gen Cert.AttnTrip Cert.AttnRun Cert.AttnMath Idealize.ShloMosaic Idealize.ShloMosaic.Pointwise

abbrev F := Idealize.ShloMosaic.Ideal

/-- The word of minus infinity. -/
theorem negInf : Ideal.ofBits .f32 0xFF800000#32 = ⊥ := by
  simp [Ideal.ofBits, Ideal.ieee]

/-- The maximum of each column, of a matrix with any number of rows. -/
theorem maxCol {n : ℕ} (x : FVec F ⟨2, ![n, 1024]⟩ .f32) (h : (⟨2, ![n, 1024]⟩ : Shape).Reduces [0] S1024) (r : Fin 1024) :
    multiReduction .maximumf [0] S1024 x 0xFF800000#32 h (.inl rfl) rfl (ix1 r) = Finset.univ.fold max (⊥ : EReal) (fun j : Fin n => x (ix2 j r)) := by
  rw [← negInf]
  pointwise []

/-- One number per column against the maximum of the column. -/
theorem maxAt {n : ℕ} (m : FVec F S1x1024 .f32) (x : FVec F ⟨2, ![n, 1024]⟩ .f32) (h : (⟨2, ![n, 1024]⟩ : Shape).Reduces [0] S1024) (r : Fin 1024) :
    maximumf m (shapeCast S1x1024 (multiReduction .maximumf [0] S1024 x 0xFF800000#32 h (.inl rfl) rfl) shapeCasts_S1024_S1x1024) (ix2 0 r)
      = mNew (m (ix2 0 r)) (fun j : Fin n => x (ix2 j r)) := by
  rw [mNew, ← maxCol x h]
  generalize multiReduction .maximumf [0] S1024 x 0xFF800000#32 h (.inl rfl) rfl = y
  pointwise []

/-- First map, latent keys: the running maximum. -/
theorem pay11 (m : FVec F S1x1024 .f32) (s : Vec F S1x1x2048x1024 .f32) (r : Fin 1024) :
    k0_pay11 m s (ix2 0 r) = mNew (m (ix2 0 r)) (fun j : Fin 2048 => s (ix4 0 0 j r)) := by
  have e : ∀ j : Fin 2048, k0_pay10 s (ix2 j r) = s (ix4 0 0 j r) := fun j => by pointwise [k0_pay10]
  simp only [← e]
  exact maxAt m (k0_pay10 s) _ r

/-- … the weights of the block's keys, … -/
theorem pay12 (m : FVec F S1x1024 .f32) (s : Vec F S1x1x2048x1024 .f32) (j : Fin 2048) (r : Fin 1024) :
    k0_pay12 m s (ix2 j r) = Ideal.exp2 (s (ix4 0 0 j r) - mNew (m (ix2 0 r)) (fun j : Fin 2048 => s (ix4 0 0 j r))) := by
  rw [← pay11, k0_pay12]
  generalize k0_pay11 m s = M
  pointwise [k0_pay10]
  rfl

/-- … the factor of what was summed before, … -/
theorem pay13 (m : FVec F S1x1024 .f32) (s : Vec F S1x1x2048x1024 .f32) (r : Fin 1024) :
    k0_pay13 m s (ix2 0 r) = Ideal.exp2 (m (ix2 0 r) - mNew (m (ix2 0 r)) (fun j : Fin 2048 => s (ix4 0 0 j r))) := by
  rw [← pay11, k0_pay13]
  generalize k0_pay11 m s = M
  pointwise []
  rfl

/-- … and the running sum. -/
theorem pay14 (m l : FVec F S1x1024 .f32) (s : Vec F S1x1x2048x1024 .f32) (r : Fin 1024) :
    k0_pay14 m l s (ix2 0 r) = lNew (m (ix2 0 r)) (l (ix2 0 r)) (fun j : Fin 2048 => s (ix4 0 0 j r)) := by
  rw [lNew, ← pay13]
  simp only [← pay12 m s]
  rw [k0_pay14]
  generalize k0_pay13 m s = Q
  generalize k0_pay12 m s = P
  pointwise []

/-- Second map, latent keys: the running maximum. -/
theorem pay23 (m : FVec F S1x1024 .f32) (s : Vec F S1x1x2048x1024 .f32) (r : Fin 1024) :
    k0_pay23 m s (ix2 0 r) = mNew (m (ix2 0 r)) (fun j : Fin 2048 => s (ix4 0 0 j r)) := by
  have e : ∀ j : Fin 2048, k0_pay22 s (ix2 j r) = s (ix4 0 0 j r) := fun j => by pointwise [k0_pay22]
  simp only [← e]
  exact maxAt m (k0_pay22 s) _ r

/-- … the weights of the block's keys, … -/
theorem pay24 (m : FVec F S1x1024 .f32) (s : Vec F S1x1x2048x1024 .f32) (j : Fin 2048) (r : Fin 1024) :
    k0_pay24 m s (ix2 j r) = Ideal.exp2 (s (ix4 0 0 j r) - mNew (m (ix2 0 r)) (fun j : Fin 2048 => s (ix4 0 0 j r))) := by
  rw [← pay23, k0_pay24]
  generalize k0_pay23 m s = M
  pointwise [k0_pay22]
  rfl

/-- … the factor of what was summed before, … -/
theorem pay25 (m : FVec F S1x1024 .f32) (s : Vec F S1x1x2048x1024 .f32) (r : Fin 1024) :
    k0_pay25 m s (ix2 0 r) = Ideal.exp2 (m (ix2 0 r) - mNew (m (ix2 0 r)) (fun j : Fin 2048 => s (ix4 0 0 j r))) := by
  rw [← pay23, k0_pay25]
  generalize k0_pay23 m s = M
  pointwise []
  rfl

/-- … and the running sum. -/
theorem pay26 (m l : FVec F S1x1024 .f32) (s : Vec F S1x1x2048x1024 .f32) (r : Fin 1024) :
    k0_pay26 m l s (ix2 0 r) = lNew (m (ix2 0 r)) (l (ix2 0 r)) (fun j : Fin 2048 => s (ix4 0 0 j r)) := by
  rw [lNew, ← pay25]
  simp only [← pay24 m s]
  rw [k0_pay26]
  generalize k0_pay25 m s = Q
  generalize k0_pay24 m s = P
  pointwise []

/-- First map, context keys: the running maximum. -/
theorem pay33 (m : FVec F S1x1024 .f32) (s : Vec F S1x1x256x1024 .f32) (r : Fin 1024) :
    k0_pay33 m s (ix2 0 r) = mNew (m (ix2 0 r)) (fun j : Fin 256 => s (ix4 0 0 j r)) := by
  have e : ∀ j : Fin 256, k0_pay32 s (ix2 j r) = s (ix4 0 0 j r) := fun j => by pointwise [k0_pay32]
  simp only [← e]
  exact maxAt m (k0_pay32 s) _ r

/-- … the weights of the block's keys, … -/
theorem pay34 (m : FVec F S1x1024 .f32) (s : Vec F S1x1x256x1024 .f32) (j : Fin 256) (r : Fin 1024) :
    k0_pay34 m s (ix2 j r) = Ideal.exp2 (s (ix4 0 0 j r) - mNew (m (ix2 0 r)) (fun j : Fin 256 => s (ix4 0 0 j r))) := by
  rw [← pay33, k0_pay34]
  generalize k0_pay33 m s = M
  pointwise [k0_pay32]
  rfl

/-- … the factor of what was summed before, … -/
theorem pay35 (m : FVec F S1x1024 .f32) (s : Vec F S1x1x256x1024 .f32) (r : Fin 1024) :
    k0_pay35 m s (ix2 0 r) = Ideal.exp2 (m (ix2 0 r) - mNew (m (ix2 0 r)) (fun j : Fin 256 => s (ix4 0 0 j r))) := by
  rw [← pay33, k0_pay35]
  generalize k0_pay33 m s = M
  pointwise []
  rfl

/-- … and the running sum. -/
theorem pay36 (m l : FVec F S1x1024 .f32) (s : Vec F S1x1x256x1024 .f32) (r : Fin 1024) :
    k0_pay36 m l s (ix2 0 r) = lNew (m (ix2 0 r)) (l (ix2 0 r)) (fun j : Fin 256 => s (ix4 0 0 j r)) := by
  rw [lNew, ← pay35]
  simp only [← pay34 m s]
  rw [k0_pay36]
  generalize k0_pay35 m s = Q
  generalize k0_pay34 m s = P
  pointwise []

/-- Second map, context keys: the running maximum. -/
theorem pay39 (m : FVec F S1x1024 .f32) (s : Vec F S1x1x256x1024 .f32) (r : Fin 1024) :
    k0_pay39 m s (ix2 0 r) = mNew (m (ix2 0 r)) (fun j : Fin 256 => s (ix4 0 0 j r)) := by
  have e : ∀ j : Fin 256, k0_pay38 s (ix2 j r) = s (ix4 0 0 j r) := fun j => by pointwise [k0_pay38]
  simp only [← e]
  exact maxAt m (k0_pay38 s) _ r

/-- … the weights of the block's keys, … -/
theorem pay40 (m : FVec F S1x1024 .f32) (s : Vec F S1x1x256x1024 .f32) (j : Fin 256) (r : Fin 1024) :
    k0_pay40 m s (ix2 j r) = Ideal.exp2 (s (ix4 0 0 j r) - mNew (m (ix2 0 r)) (fun j : Fin 256 => s (ix4 0 0 j r))) := by
  rw [← pay39, k0_pay40]
  generalize k0_pay39 m s = M
  pointwise [k0_pay38]
  rfl

/-- … the factor of what was summed before, … -/
theorem pay41 (m : FVec F S1x1024 .f32) (s : Vec F S1x1x256x1024 .f32) (r : Fin 1024) :
    k0_pay41 m s (ix2 0 r) = Ideal.exp2 (m (ix2 0 r) - mNew (m (ix2 0 r)) (fun j : Fin 256 => s (ix4 0 0 j r))) := by
  rw [← pay39, k0_pay41]
  generalize k0_pay39 m s = M
  pointwise []
  rfl

/-- … and the running sum. -/
theorem pay42 (m l : FVec F S1x1024 .f32) (s : Vec F S1x1x256x1024 .f32) (r : Fin 1024) :
    k0_pay42 m l s (ix2 0 r) = lNew (m (ix2 0 r)) (l (ix2 0 r)) (fun j : Fin 256 => s (ix4 0 0 j r)) := by
  rw [lNew, ← pay41]
  simp only [← pay40 m s]
  rw [k0_pay42]
  generalize k0_pay41 m s = Q
  generalize k0_pay40 m s = P
  pointwise []

end Cert.AttnPay

end
-- ==== Proof.AttnPayAcc.lean ====
/- The attention kernel's weighted sums of values at one query and one feature. -/
module

public import proofs.«01_k».proof.Proof.AttnPay
public import proofs.«01_k».proof.Proof.AttnRun
public import Idealize.ShloMosaic.Lib.Pointwise

@[expose] public section

set_option maxRecDepth 16384

noncomputable section

namespace Cert.AttnPay

open Cert.AttnIdeal Cert.AttnIdeal.Gen Cert.AttnTrip Cert.AttnRun Cert.AttnMath Idealize.ShloMosaic Idealize.ShloMosaic.Pointwise

/-- A sum over 2048 keys as four sums over 512. -/
theorem sum_four (f : Fin 2048 → EReal) :
    ∑ j, f j = (((∑ c : Fin 512, f ⟨c, by omega⟩) + ∑ c : Fin 512, f ⟨512 + c, by omega⟩) + ∑ c : Fin 512, f ⟨1024 + c, by omega⟩)
      + ∑ c : Fin 512, f ⟨1536 + c, by omega⟩ := by
  rw [show (∑ j, f j) = ∑ j : Fin (512 + 512 + 512 + 512), f j from rfl, Fin.sum_univ_add, Fin.sum_univ_add, Fin.sum_univ_add]
  rfl

/-- The weighted sum after a block of keys, whose values come in four parts of 512. -/
theorem pay15 (m : FVec F S1x1024 .f32) (v0 v1 v2 v3 : FVec F S256x512 .bf16) (s : Vec F S1x1x2048x1024 .f32) (a : Vec F S1x256x1024 .f32)
    (V : Fin 2048 → EReal) (f : Fin 256) (r : Fin 1024) (h0 : ∀ c : Fin 512, v0 (ix2 f c) = V ⟨c, by omega⟩) (h1 : ∀ c : Fin 512, v1 (ix2 f c) = V ⟨512 + c, by omega⟩)
    (h2 : ∀ c : Fin 512, v2 (ix2 f c) = V ⟨1024 + c, by omega⟩) (h3 : ∀ c : Fin 512, v3 (ix2 f c) = V ⟨1536 + c, by omega⟩) :
    k0_pay15 m v0 v1 v2 v3 s a (ix3 0 f r) = aNew (m (ix2 0 r)) (a (ix3 0 f r)) (fun j : Fin 2048 => s (ix4 0 0 j r)) V := by
  rw [aNew, sum_four]
  simp only [← h0, ← h1, ← h2, ← h3, ← pay12 m s, ← pay13 m s]
  rw [k0_pay15]
  generalize k0_pay13 m s = Q
  generalize k0_pay12 m s = P
  pointwise []
  simp only [add_assoc]

theorem pay27 (m : FVec F S1x1024 .f32) (v0 v1 v2 v3 : FVec F S256x512 .bf16) (s : Vec F S1x1x2048x1024 .f32) (a : Vec F S1x256x1024 .f32)
    (V : Fin 2048 → EReal) (f : Fin 256) (r : Fin 1024) (h0 : ∀ c : Fin 512, v0 (ix2 f c) = V ⟨c, by omega⟩) (h1 : ∀ c : Fin 512, v1 (ix2 f c) = V ⟨512 + c, by omega⟩)
    (h2 : ∀ c : Fin 512, v2 (ix2 f c) = V ⟨1024 + c, by omega⟩) (h3 : ∀ c : Fin 512, v3 (ix2 f c) = V ⟨1536 + c, by omega⟩) :
    k0_pay27 m v0 v1 v2 v3 s a (ix3 0 f r) = aNew (m (ix2 0 r)) (a (ix3 0 f r)) (fun j : Fin 2048 => s (ix4 0 0 j r)) V := by
  rw [aNew, sum_four]
  simp only [← h0, ← h1, ← h2, ← h3, ← pay24 m s, ← pay25 m s]
  rw [k0_pay27]
  generalize k0_pay25 m s = Q
  generalize k0_pay24 m s = P
  pointwise []
  simp only [add_assoc]

/-- The weighted sums after the context keys. -/
theorem pay37 (m : FVec F S1x1024 .f32) (v : Vec F S1x256x256 .bf16) (s : Vec F S1x1x256x1024 .f32) (a : Vec F S1x256x1024 .f32) (f : Fin 256) (r : Fin 1024) :
    k0_pay37 m (k0_pay29 v) s a (ix3 0 f r) = aNew (m (ix2 0 r)) (a (ix3 0 f r)) (fun j : Fin 256 => s (ix4 0 0 j r)) (fun j : Fin 256 => v (ix3 0 f j)) := by
  rw [aNew]
  simp only [← pay34 m s, ← pay35 m s]
  rw [k0_pay37]
  generalize k0_pay35 m s = Q
  generalize k0_pay34 m s = P
  pointwise [k0_pay29]

theorem pay44 (m : FVec F S1x1024 .f32) (v : Vec F S1x256x256 .bf16) (s : Vec F S1x1x256x1024 .f32) (a : Vec F S1x256x1024 .f32) (f : Fin 256) (r : Fin 1024) :
    k0_pay44 (k0_pay29 v) (k0_pay41 m s) (k0_pay43 m s) a (ix3 0 f r) = aNew (m (ix2 0 r)) (a (ix3 0 f r)) (fun j : Fin 256 => s (ix4 0 0 j r)) (fun j : Fin 256 => v (ix3 0 f j)) := by
  rw [aNew]
  simp only [← pay40 m s, ← pay41 m s]
  rw [k0_pay44, k0_pay43]
  generalize k0_pay41 m s = Q
  generalize k0_pay40 m s = P
  pointwise [k0_pay29]

end Cert.AttnPay

end
-- ==== Proof.AttnPayScore.lean ====
/- The attention kernel's scores of one key and one query. -/
module

public import proofs.«01_k».proof.Proof.AttnPay
public import proofs.«01_k».proof.Proof.AttnRun
public import Idealize.ShloMosaic.Lib.Pointwise

@[expose] public section

set_option maxRecDepth 16384

noncomputable section

namespace Cert.AttnPay

open Cert.AttnIdeal Cert.AttnIdeal.Gen Cert.AttnTrip Cert.AttnRun Cert.AttnMath Idealize.ShloMosaic Idealize.ShloMosaic.Pointwise

/-- The scores of a block of keys, in the first map and in the second. -/
theorem pay7 (x1 : Vec F S1024x256 .bf16) (b : Vec F S2048x256 .bf16) (j : Fin 2048) (r : Fin 1024) :
    k0_pay7 (k0_pay17 x1) b (ix4 0 0 j r) = ∑ d : Fin 128, b (ix2 j ⟨d, by omega⟩) * x1 (ix2 r ⟨d, by omega⟩) := by
  pointwise [k0_pay7, k0_pay17, k0_pay16, k0_pay2]

theorem pay9 (x1 : Vec F S1024x256 .bf16) (b : Vec F S2048x256 .bf16) (j : Fin 2048) (r : Fin 1024) :
    k0_pay9 (k0_pay18 x1) (k0_pay8 b) (ix4 0 0 j r) = ∑ d : Fin 128, b (ix2 j ⟨128 + d, by omega⟩) * x1 (ix2 r ⟨128 + d, by omega⟩) := by
  pointwise [k0_pay9, k0_pay18, k0_pay16, k0_pay8, k0_pay2]

/-- The scores of the context keys, in the first map and in the second. -/
theorem pay30 (x1 : Vec F S1024x256 .bf16) (b : Vec F S256x256 .bf16) (j : Fin 256) (r : Fin 1024) :
    k0_pay30 x1 b (ix4 0 0 j r) = ∑ d : Fin 128, b (ix2 j ⟨d, by omega⟩) * x1 (ix2 r ⟨d, by omega⟩) := by
  pointwise [k0_pay30, k0_pay28, k0_pay17, k0_pay16]

theorem pay31 (x1 : Vec F S1024x256 .bf16) (b : Vec F S256x256 .bf16) (j : Fin 256) (r : Fin 1024) :
    k0_pay31 x1 b (ix4 0 0 j r) = ∑ d : Fin 128, b (ix2 j ⟨128 + d, by omega⟩) * x1 (ix2 r ⟨128 + d, by omega⟩) := by
  pointwise [k0_pay31, k0_pay28, k0_pay18, k0_pay16]

end Cert.AttnPay

end
-- ==== Proof.AttnTile.lean ====
/- What the attention kernel's loop leaves at one query and one feature, from real operands: the sum of 2 to the scores, and that sum
   weighted by the values, each over the key blocks so far. -/
module

public import proofs.«01_k».proof.Proof.AttnPayAcc
public import proofs.«01_k».proof.Proof.AttnPayScore

@[expose] public section

set_option maxRecDepth 16384

noncomputable section

namespace Cert.AttnTile

open Cert.AttnIdeal Cert.AttnIdeal.Gen Cert.AttnTrip Cert.AttnRun Cert.AttnMath Cert.AttnPay Idealize.ShloMosaic Idealize.ShloMosaic.Pointwise

/-- Where block `k` of the keys, and part `i` of block `k` of the values, begin. -/
theorem off1 : ∀ k : Fin k0_t1_loop.trips, k0_off1 k = ![2048 * k.val, 0] := by decide +kernel
theorem off2 : ∀ (k : Fin k0_t1_loop.trips) (i : Fin 4), k0_off2 k (BitVec.ofNat 32 i) = ![4 * k.val + i.val, 0, 0] := by decide +kernel
theorem two : ∀ k : Fin k0_t1_loop.trips, k.val < 2 := by decide +kernel

/-- A key of block `k`. -/
theorem kB_apply (x2 : Vec F S4096x256 .bf16) (k : Fin k0_t1_loop.trips) (j : Fin 2048) (d : Fin 256) :
    kB x2 k (ix2 j d) = x2 (ix2 ⟨2048 * k.val + j.val, by have := two k; omega⟩ d) := by
  have h := off1 k
  refine View.ld_unit_apply_of x2 _ _ _ (ix2 j d) _ fun a => ?_
  match a with
  | ⟨0, _⟩ => show 2048 * k.val + j.val = k0_off1 k 0 + j.val; rw [h]; rfl
  | ⟨1, _⟩ => show d.val = k0_off1 k 1 + d.val; rw [h]; exact (Nat.zero_add _).symm

/-- A value of part `i` of block `k`. -/
theorem vB_apply (x3 : Vec F S8x256x512 .bf16) (k : Fin k0_t1_loop.trips) (i : Fin 4) (f : Fin 256) (c : Fin 512) :
    vB x3 k i (ix3 0 f c) = x3 (ix3 ⟨4 * k.val + i.val, by have := two k; omega⟩ f c) := by
  have h := off2 k i
  refine View.ld_unit_apply_of x3 _ _ _ (ix3 0 f c) _ fun a => ?_
  match a with
  | ⟨0, _⟩ => show 4 * k.val + i.val = k0_off2 k (BitVec.ofNat 32 i) 0 + 0; rw [h]; rfl
  | ⟨1, _⟩ => show f.val = k0_off2 k (BitVec.ofNat 32 i) 1 + f.val; rw [h]; exact (Nat.zero_add _).symm
  | ⟨2, _⟩ => show c.val = k0_off2 k (BitVec.ofNat 32 i) 2 + c.val; rw [h]; exact (Nat.zero_add _).symm

/-- What the state stands for at query `r` and feature `f`, in the first map and in the second. -/
def Rep0 (s : State F) (r : Fin 1024) (f : Fin 256) (W Z : ℝ) : Prop := Rep (s.1.1 (ix2 0 r)) (s.1.2.1 (ix2 0 r)) (s.2.1 (ix3 0 f r)) W Z
def Rep1 (s : State F) (r : Fin 1024) (f : Fin 256) (W Z : ℝ) : Prop := Rep (s.1.2.2.1 (ix2 0 r)) (s.1.2.2.2 (ix2 0 r)) (s.2.2 (ix3 0 f r)) W Z

variable (x1 : Vec F S1024x256 .bf16) (x2 : Vec F S4096x256 .bf16) (x3 : Vec F S8x256x512 .bf16) (k : Fin k0_t1_loop.trips) (s : State F)
  (r : Fin 1024) (f : Fin 256)

/-- The values of block `k`, key by key. -/
def vK (j : Fin 2048) : EReal := x3 (ix3 ⟨4 * k.val + j.val / 512, by have := two k; omega⟩ f ⟨j.val % 512, by omega⟩)

theorem v0 (c : Fin 512) : k0_pay3 (vB x3 k 0) (ix2 f c) = vK x3 k f ⟨c, by omega⟩ := by
  have e : k0_pay3 (vB x3 k 0) (ix2 f c) = vB x3 k 0 (ix3 0 f c) := by generalize vB x3 k 0 = y; pointwise [k0_pay3]
  rw [e, vB_apply, vK]; congr 2 <;> apply Fin.ext <;> simp <;> omega
theorem v1 (c : Fin 512) : k0_pay4 (vB x3 k 1) (ix2 f c) = vK x3 k f ⟨512 + c, by omega⟩ := by
  have e : k0_pay4 (vB x3 k 1) (ix2 f c) = vB x3 k 1 (ix3 0 f c) := by generalize vB x3 k 1 = y; pointwise [k0_pay4]
  rw [e, vB_apply, vK]; congr 2 <;> apply Fin.ext <;> simp <;> omega
theorem v2 (c : Fin 512) : k0_pay5 (vB x3 k 2) (ix2 f c) = vK x3 k f ⟨1024 + c, by omega⟩ := by
  have e : k0_pay5 (vB x3 k 2) (ix2 f c) = vB x3 k 2 (ix3 0 f c) := by generalize vB x3 k 2 = y; pointwise [k0_pay5]
  rw [e, vB_apply, vK]; congr 2 <;> apply Fin.ext <;> simp <;> omega
theorem v3 (c : Fin 512) : k0_pay6 (vB x3 k 3) (ix2 f c) = vK x3 k f ⟨1536 + c, by omega⟩ := by
  have e : k0_pay6 (vB x3 k 3) (ix2 f c) = vB x3 k 3 (ix3 0 f c) := by generalize vB x3 k 3 = y; pointwise [k0_pay6]
  rw [e, vB_apply, vK]; congr 2 <;> apply Fin.ext <;> simp <;> omega

/-- The state after trip `k` at one entry, first map. -/
theorem stp0 : (stp x1 x2 x3 k s).1.1 (ix2 0 r) = mNew (s.1.1 (ix2 0 r)) (fun j : Fin 2048 => sc0 x1 x2 k (ix4 0 0 j r))
    ∧ (stp x1 x2 x3 k s).1.2.1 (ix2 0 r) = lNew (s.1.1 (ix2 0 r)) (s.1.2.1 (ix2 0 r)) (fun j : Fin 2048 => sc0 x1 x2 k (ix4 0 0 j r))
    ∧ (stp x1 x2 x3 k s).2.1 (ix3 0 f r) = aNew (s.1.1 (ix2 0 r)) (s.2.1 (ix3 0 f r)) (fun j : Fin 2048 => sc0 x1 x2 k (ix4 0 0 j r)) (vK x3 k f) :=
  ⟨pay11 _ _ r, pay14 _ _ _ r, pay15 _ _ _ _ _ _ _ _ f r (v0 x3 k f) (v1 x3 k f) (v2 x3 k f) (v3 x3 k f)⟩

/-- The state after trip `k` at one entry, second map. -/
theorem stp1 : (stp x1 x2 x3 k s).1.2.2.1 (ix2 0 r) = mNew (s.1.2.2.1 (ix2 0 r)) (fun j : Fin 2048 => sc1 x1 x2 k (ix4 0 0 j r))
    ∧ (stp x1 x2 x3 k s).1.2.2.2 (ix2 0 r) = lNew (s.1.2.2.1 (ix2 0 r)) (s.1.2.2.2 (ix2 0 r)) (fun j : Fin 2048 => sc1 x1 x2 k (ix4 0 0 j r))
    ∧ (stp x1 x2 x3 k s).2.2 (ix3 0 f r) = aNew (s.1.2.2.1 (ix2 0 r)) (s.2.2 (ix3 0 f r)) (fun j : Fin 2048 => sc1 x1 x2 k (ix4 0 0 j r)) (vK x3 k f) :=
  ⟨pay23 _ _ r, pay26 _ _ _ r, pay27 _ _ _ _ _ _ _ _ f r (v0 x3 k f) (v1 x3 k f) (v2 x3 k f) (v3 x3 k f)⟩

/-- The initial state: nothing summed. -/
def sI : State F := ((k0_pay20, k0_pay21, k0_pay20, k0_pay21), fun x => k0_pay19 (r0.idx x), fun x => k0_pay19 (r1.idx x))

theorem init_m0 : sI.1.1 (ix2 0 r) = (⊥ : EReal) := negInf
theorem init_m1 : sI.1.2.2.1 (ix2 0 r) = (⊥ : EReal) := negInf
theorem init_l0 : sI.1.2.1 (ix2 0 r) = (0 : EReal) := Ideal.ofBits_zero_f32
theorem init_l1 : sI.1.2.2.2 (ix2 0 r) = (0 : EReal) := Ideal.ofBits_zero_f32
theorem init_a0 : sI.2.1 (ix3 0 f r) = (0 : EReal) := Ideal.ofBits_zero_f32
theorem init_a1 : sI.2.2 (ix3 0 f r) = (0 : EReal) := Ideal.ofBits_zero_f32

/-- The two trips' blocks. -/
abbrev t0 : Fin k0_t1_loop.trips := ⟨0, by decide +kernel⟩
abbrev t1 : Fin k0_t1_loop.trips := ⟨1, by decide +kernel⟩

theorem stL_eq : stL x1 x2 x3 = stp x1 x2 x3 t1 (stp x1 x2 x3 t0 sI) := by
  have h : k0_t1_loop.trips = 2 := by decide +kernel
  rw [stL, h]
  rw [stN, stN, dif_pos (show 1 < k0_t1_loop.trips by decide +kernel), dif_pos (show 0 < k0_t1_loop.trips by decide +kernel), stN, sI]

/-- After both trips, first map: the sums over the keys of block 0 and of block 1. -/
theorem rep0_L (c0 c1 w0 w1 : Fin 2048 → ℝ) (h0 : ∀ j, sc0 x1 x2 t0 (ix4 0 0 j r) = ((c0 j : ℝ) : EReal)) (h1 : ∀ j, sc0 x1 x2 t1 (ix4 0 0 j r) = ((c1 j : ℝ) : EReal))
    (g0 : ∀ j, vK x3 t0 f j = ((w0 j : ℝ) : EReal)) (g1 : ∀ j, vK x3 t1 f j = ((w1 j : ℝ) : EReal)) :
    Rep0 (stL x1 x2 x3) r f (∑ j, (2 : ℝ) ^ (c0 j) + ∑ j, (2 : ℝ) ^ (c1 j)) (∑ j, w0 j * (2 : ℝ) ^ (c0 j) + ∑ j, w1 j * (2 : ℝ) ^ (c1 j)) := by
  rw [stL_eq, Rep0]
  obtain ⟨e1, e2, e3⟩ := stp0 x1 x2 x3 t1 (stp x1 x2 x3 t0 sI) r f
  rw [e1, e2, e3]
  refine rep_step (by decide) _ _ c1 w1 h1 g1 ?_
  obtain ⟨e1, e2, e3⟩ := stp0 x1 x2 x3 t0 sI r f
  rw [e1, e2, e3, init_m0, init_l0, init_a0]
  exact rep_first (by decide) _ _ c0 w0 h0 g0

/-- After both trips, second map. -/
theorem rep1_L (c0 c1 w0 w1 : Fin 2048 → ℝ) (h0 : ∀ j, sc1 x1 x2 t0 (ix4 0 0 j r) = ((c0 j : ℝ) : EReal)) (h1 : ∀ j, sc1 x1 x2 t1 (ix4 0 0 j r) = ((c1 j : ℝ) : EReal))
    (g0 : ∀ j, vK x3 t0 f j = ((w0 j : ℝ) : EReal)) (g1 : ∀ j, vK x3 t1 f j = ((w1 j : ℝ) : EReal)) :
    Rep1 (stL x1 x2 x3) r f (∑ j, (2 : ℝ) ^ (c0 j) + ∑ j, (2 : ℝ) ^ (c1 j)) (∑ j, w0 j * (2 : ℝ) ^ (c0 j) + ∑ j, w1 j * (2 : ℝ) ^ (c1 j)) := by
  rw [stL_eq, Rep1]
  obtain ⟨e1, e2, e3⟩ := stp1 x1 x2 x3 t1 (stp x1 x2 x3 t0 sI) r f
  rw [e1, e2, e3]
  refine rep_step (by decide) _ _ c1 w1 h1 g1 ?_
  obtain ⟨e1, e2, e3⟩ := stp1 x1 x2 x3 t0 sI r f
  rw [e1, e2, e3, init_m1, init_l1, init_a1]
  exact rep_first (by decide) _ _ c0 w0 h0 g0

/-- After the context keys too, first map and second. -/
theorem rep0_End (x4 : Vec F S256x256 .bf16) (x5 : Vec F S1x256x256 .bf16) (W Z : ℝ) (c w : Fin 256 → ℝ) (h : ∀ j, k0_pay30 x1 x4 (ix4 0 0 j r) = ((c j : ℝ) : EReal))
    (g : ∀ j, x5 (ix3 0 f j) = ((w j : ℝ) : EReal)) (hs : Rep0 s r f W Z) :
    ∃ m, Rep m (lEnd0 x1 x4 s (ix2 0 r)) (aEnd0 x1 x4 x5 s (ix3 0 f r)) (W + ∑ j, (2 : ℝ) ^ (c j)) (Z + ∑ j, w j * (2 : ℝ) ^ (c j)) := by
  refine ⟨mNew (s.1.1 (ix2 0 r)) (fun j : Fin 256 => k0_pay30 x1 x4 (ix4 0 0 j r)), ?_⟩
  rw [lEnd0, aEnd0, pay36, pay37]
  exact rep_step (by decide) _ _ c w h g hs

theorem rep1_End (x4 : Vec F S256x256 .bf16) (x5 : Vec F S1x256x256 .bf16) (W Z : ℝ) (c w : Fin 256 → ℝ) (h : ∀ j, k0_pay31 x1 x4 (ix4 0 0 j r) = ((c j : ℝ) : EReal))
    (g : ∀ j, x5 (ix3 0 f j) = ((w j : ℝ) : EReal)) (hs : Rep1 s r f W Z) :
    ∃ m, Rep m (lEnd1 x1 x4 s (ix2 0 r)) (aEnd1 x1 x4 x5 s (ix3 0 f r)) (W + ∑ j, (2 : ℝ) ^ (c j)) (Z + ∑ j, w j * (2 : ℝ) ^ (c j)) := by
  refine ⟨mNew (s.1.2.2.1 (ix2 0 r)) (fun j : Fin 256 => k0_pay31 x1 x4 (ix4 0 0 j r)), ?_⟩
  rw [lEnd1, aEnd1, pay42, pay44]
  exact rep_step (by decide) _ _ c w h g hs

end Cert.AttnTile

end
-- ==== Proof.AttnPayOut.lean ====
/- The attention kernel's last expressions: the difference of the two maps and the norm. -/
module

public import proofs.«01_k».proof.Proof.AttnPay
public import proofs.«01_k».proof.Proof.AttnRun
public import Idealize.ShloMosaic.Lib.Pointwise

@[expose] public section

set_option maxRecDepth 16384

noncomputable section

namespace Cert.AttnPay

open Cert.AttnIdeal Cert.AttnIdeal.Gen Cert.AttnTrip Cert.AttnRun Cert.AttnMath Idealize.ShloMosaic Idealize.ShloMosaic.Pointwise

/-- The weight of the second map. -/
def lam (x0 : Vec F S4x128 .f32) : EReal :=
  Ideal.exp (∑ d : Fin 128, x0 (ix2 0 d) * x0 (ix2 1 d)) - Ideal.exp (∑ d : Fin 128, x0 (ix2 2 d) * x0 (ix2 3 d)) + Ideal.ofBits .f32 0x3EB60549#32

/-- The difference of the two maps' results. -/
theorem pay45 (l0 l1 : FVec F S1x1024 .f32) (x0 : Vec F S4x128 .f32) (a0 a1 : Vec F S1x256x1024 .f32) (f : Fin 256) (r : Fin 1024) :
    k0_pay45 l0 l1 x0 a0 a1 (ix2 f r)
      = a0 (ix3 0 f r) * Ideal.div 1 (l0 (ix2 0 r)) - a1 (ix3 0 f r) * Ideal.div (lam x0) (l1 (ix2 0 r)) := by
  pointwise [k0_pay45, lam]

/-- The norm, and the parameter of each feature. -/
theorem pay1 (l0 l1 : FVec F S1x1024 .f32) (x0 : Vec F S4x128 .f32) (a0 a1 : Vec F S1x256x1024 .f32) (x6 : Vec F S256x1 .f32) (o : Fin 256 → EReal) (f : Fin 256) (r : Fin 1024)
    (ho : ∀ f : Fin 256, k0_pay45 l0 l1 x0 a0 a1 (ix2 f r) = o f) :
    k0_pay1 (k0_pay45 l0 l1 x0 a0 a1) (k0_pay46 l0 l1 x0 a0 a1) x6 (ix2 r f)
      = o f * (Ideal.rsqrt (Ideal.div (∑ g, o g * o g) (Ideal.ofBits .f32 0x43800000#32) + Ideal.ofBits .f32 0x3727C5AC#32) * Ideal.ofBits .f32 0x3F24FD5C#32) * x6 (ix2 f 0) := by
  simp only [← ho]
  rw [k0_pay46]
  generalize k0_pay45 l0 l1 x0 a0 a1 = y
  pointwise [k0_pay1]

end Cert.AttnPay

end
-- ==== Proof.AttnBlock.lean ====
/- What the attention kernel leaves in its output block at one query and one feature, from real operands. -/
module

public import proofs.«01_k».proof.Proof.AttnTile
public import proofs.«01_k».proof.Proof.AttnPayOut

@[expose] public section

set_option maxRecDepth 16384

noncomputable section

namespace Cert.AttnBlock

open Cert.AttnIdeal Cert.AttnIdeal.Gen Cert.AttnTrip Cert.AttnRun Cert.AttnMath Cert.AttnPay Cert.AttnTile Idealize.ShloMosaic Idealize.ShloMosaic.Pointwise

/-- A sum over 4096 keys as two sums over 2048. -/
theorem sum_two (f : Fin 4096 → ℝ) : ∑ j, f j = (∑ j : Fin 2048, f ⟨j, by omega⟩) + ∑ j : Fin 2048, f ⟨2048 + j, by omega⟩ := by
  rw [show (∑ j, f j) = ∑ j : Fin (2048 + 2048), f j from rfl, Fin.sum_univ_add]
  rfl

/-- 2 to the scores, summed over the latent keys and the context keys. -/
def wS (S : Fin 4096 → ℝ) (C : Fin 256 → ℝ) : ℝ := ∑ j, (2 : ℝ) ^ (S j) + ∑ j, (2 : ℝ) ^ (C j)

/-- The same sum weighted by values. -/
def zS (S V : Fin 4096 → ℝ) (C U : Fin 256 → ℝ) : ℝ := ∑ j, V j * (2 : ℝ) ^ (S j) + ∑ j, U j * (2 : ℝ) ^ (C j)

theorem wS_pos (S : Fin 4096 → ℝ) (C : Fin 256 → ℝ) : 0 < wS S C :=
  add_pos_of_nonneg_of_pos (Finset.sum_nonneg fun _ _ => (Real.rpow_pos_of_pos two_pos _).le)
    (Finset.sum_pos (fun _ _ => Real.rpow_pos_of_pos two_pos _) ⟨⟨0, by decide⟩, Finset.mem_univ _⟩)

/-- The norm over the features, with its constants, and each feature's parameter. -/
def normed (o : Fin 256 → EReal) (s : EReal) (f : Fin 256) : EReal :=
  o f * (Ideal.rsqrt (Ideal.div (∑ g, o g * o g) (Ideal.ofBits .f32 0x43800000#32) + Ideal.ofBits .f32 0x3727C5AC#32) * Ideal.ofBits .f32 0x3F24FD5C#32) * s

/-- A lane of the first and of the second map, and a latent key's block and its place there. -/
def lo (d : Fin 128) : Fin 256 := ⟨d, by omega⟩
def hi (d : Fin 128) : Fin 256 := ⟨128 + d, by omega⟩
def kq (j : Fin 4096) : Fin 8 := ⟨j / 512, by omega⟩
def kr (j : Fin 4096) : Fin 512 := ⟨j % 512, by omega⟩

variable (x0 : Vec F S4x128 .f32) (x1 : Vec F S1024x256 .bf16) (x2 : Vec F S4096x256 .bf16) (x3 : Vec F S8x256x512 .bf16) (x4 : Vec F S256x256 .bf16)
  (x5 : Vec F S1x256x256 .bf16) (x6 : Vec F S256x1 .f32) (r : Fin 1024)
  (S0 S1 : Fin 4096 → ℝ) (C0 C1 : Fin 256 → ℝ) (V : Fin 256 → Fin 4096 → ℝ) (U : Fin 256 → Fin 256 → ℝ) (lr : ℝ)
  (hS0 : ∀ j : Fin 4096, ∑ d : Fin 128, x2 (ix2 j (lo d)) * x1 (ix2 r (lo d)) = ((S0 j : ℝ) : EReal))
  (hS1 : ∀ j : Fin 4096, ∑ d : Fin 128, x2 (ix2 j (hi d)) * x1 (ix2 r (hi d)) = ((S1 j : ℝ) : EReal))
  (hC0 : ∀ j : Fin 256, ∑ d : Fin 128, x4 (ix2 j (lo d)) * x1 (ix2 r (lo d)) = ((C0 j : ℝ) : EReal))
  (hC1 : ∀ j : Fin 256, ∑ d : Fin 128, x4 (ix2 j (hi d)) * x1 (ix2 r (hi d)) = ((C1 j : ℝ) : EReal))
  (hV : ∀ (f : Fin 256) (j : Fin 4096), x3 (ix3 (kq j) f (kr j)) = ((V f j : ℝ) : EReal))
  (hU : ∀ (f : Fin 256) (j : Fin 256), x5 (ix3 0 f j) = ((U f j : ℝ) : EReal))
  (hl : lam x0 = ((lr : ℝ) : EReal))

include hV in
theorem vK0 (f : Fin 256) (j : Fin 2048) : vK x3 t0 f j = ((V f ⟨j, by omega⟩ : ℝ) : EReal) := by
  rw [← hV, vK]; congr 2; apply Fin.ext; simp [t0, kq]

include hV in
theorem vK1 (f : Fin 256) (j : Fin 2048) : vK x3 t1 f j = ((V f ⟨2048 + j, by omega⟩ : ℝ) : EReal) := by
  rw [← hV, vK]; congr 2 <;> apply Fin.ext <;> simp [t1, kq, kr] <;> omega

include hS0 hS1 hC0 hC1 hV hU hl in
/-- The difference of the two maps' weighted means of the values. -/
theorem out_o (f : Fin 256) :
    k0_pay45 (lEnd0 x1 x4 (stL x1 x2 x3)) (lEnd1 x1 x4 (stL x1 x2 x3)) x0 (aEnd0 x1 x4 x5 (stL x1 x2 x3)) (aEnd1 x1 x4 x5 (stL x1 x2 x3)) (ix2 f r)
      = ((zS S0 (V f) C0 (U f) / wS S0 C0 - lr * (zS S1 (V f) C1 (U f) / wS S1 C1) : ℝ) : EReal) := by
  have a0 := rep0_L x1 x2 x3 r f (fun j => S0 ⟨j, by omega⟩) (fun j => S0 ⟨2048 + j, by omega⟩) (fun j => V f ⟨j, by omega⟩) (fun j => V f ⟨2048 + j, by omega⟩)
    (fun j => by rw [← hS0, sc0, pay7]; simp only [kB_apply]; simp [t0, lo, hi]) (fun j => by rw [← hS0, sc0, pay7]; simp only [kB_apply]; rfl) (vK0 x3 V hV f) (vK1 x3 V hV f)
  have a1 := rep1_L x1 x2 x3 r f (fun j => S1 ⟨j, by omega⟩) (fun j => S1 ⟨2048 + j, by omega⟩) (fun j => V f ⟨j, by omega⟩) (fun j => V f ⟨2048 + j, by omega⟩)
    (fun j => by rw [← hS1, sc1, pay9]; simp only [kB_apply]; simp [t0, lo, hi]) (fun j => by rw [← hS1, sc1, pay9]; simp only [kB_apply]; rfl) (vK0 x3 V hV f) (vK1 x3 V hV f)
  obtain ⟨m0, b0⟩ := rep0_End x1 (stL x1 x2 x3) r f x4 x5 _ _ C0 (U f) (fun j => by rw [← hC0, pay30]; rfl) (hU f) a0
  obtain ⟨m1, b1⟩ := rep1_End x1 (stL x1 x2 x3) r f x4 x5 _ _ C1 (U f) (fun j => by rw [← hC1, pay31]; rfl) (hU f) a1
  rw [← sum_two (fun j => (2 : ℝ) ^ (S0 j)), ← sum_two (fun j => V f j * (2 : ℝ) ^ (S0 j))] at b0
  rw [← sum_two (fun j => (2 : ℝ) ^ (S1 j)), ← sum_two (fun j => V f j * (2 : ℝ) ^ (S1 j))] at b1
  have d0 := rep_div (wS_pos S0 C0) b0 1
  have d1 := rep_div (wS_pos S1 C1) b1 lr
  rw [pay45, hl, ← EReal.coe_one, d0, d1, ← EReal.coe_sub, one_mul]
  rfl

include hS0 hS1 hC0 hC1 hV hU hl in
/-- The output block at query `r` and feature `f`. -/
theorem outV_apply (f : Fin 256) : outV x0 x1 x2 x3 x4 x5 x6 (ix2 r f)
    = normed (fun g => ((zS S0 (V g) C0 (U g) / wS S0 C0 - lr * (zS S1 (V g) C1 (U g) / wS S1 C1) : ℝ) : EReal)) (x6 (ix2 f 0)) f := by
  rw [outV, pay1 _ _ _ _ _ _ _ f r (out_o x0 x1 x2 x3 x4 x5 r S0 S1 C0 C1 V U lr hS0 hS1 hC0 hC1 hV hU hl), normed]

end Cert.AttnBlock

end
-- ==== Proof.AttnBlocks.lean ====
module

public import proofs.«01_k».proof.Proof.AttnLaunch
public import proofs.«01_k».proof.Proof.AttnBlock
public import Idealize.ShloMosaic.Lib.Pointwise

@[expose] public section

noncomputable section

namespace Cert.AttnBlocks

open Cert.AttnIdeal Cert.AttnIdeal.Gen Cert.AttnPay
open Idealize.ShloMosaic Idealize.ShloMosaic.TcCoe Idealize.ShloMosaic.Pipeline
open scoped Idealize.ShloMosaic

variable (m : (ℓ : Loc nD τ sig) → Buf (Elt F) ℓ) (c : Dev nD)

/-- The block that every window reads or writes at grid point `t`, which stands for batch `t / 32`, head `t / 4 % 8`
    and query tile `t % 4`. -/
theorem idx : ∀ t : Fin cfg0.N, win0_0.index t = ![0, 0]
    ∧ win0_1.index t = ![t.val / 32 * 4 + t.val % 4, t.val / 4 % 8]
    ∧ win0_2.index t = ![t.val / 32, 8 + t.val / 4 % 8]
    ∧ win0_3.index t = ![t.val / 32, t.val / 4 % 8, 0]
    ∧ win0_4.index t = ![t.val / 32, t.val / 4 % 8]
    ∧ win0_5.index t = ![t.val / 32, t.val / 4 % 8, 0]
    ∧ win0_6.index t = ![0, 0]
    ∧ win0_7.index t = ![t.val / 32 * 4 + t.val % 4, t.val / 4 % 8] :=
  (by decide +kernel : ∀ t : Fin grid0.N, _)

/-- The batch, head and query tile of a grid point. -/
def bt (t : Fin cfg0.N) : Fin 8 := ⟨t.val / 32, by have : t.val < 256 := t.isLt; omega⟩
def hd (t : Fin cfg0.N) : Fin 8 := ⟨t.val / 4 % 8, by omega⟩

/-- A query row of the tile, as a row of its batch. -/
def row (t : Fin cfg0.N) (r : Fin 1024) : Fin 4096 := ⟨t.val % 4 * 1024 + r.val, by omega⟩

/-- A lane of a head, as a column of the layer's width. -/
def col (h : Fin 8) (d : Fin 256) : Fin 2048 := ⟨h.val * 256 + d.val, by omega⟩

theorem b0 (t : Fin cfg0.N) : iblk m c 0 t = m ((c.tc : Thread nD τ).loc main_arg5) := by
  blk_ext! [iblk, V, idx t]

theorem b1 (t : Fin cfg0.N) (r : Fin 1024) (d : Fin 256) :
    (iblk m c 1 t : FVec F S1024x256 .bf16) (ix2 r d)
      = Ideal.div ((m ((c.tc : Thread nD τ).loc main_arg0) : FVec F S8x4096x2048 .f32) (ix3 (bt t) (row t r) (col (hd t) d)))
          (Ideal.sqrt (Ideal.ofBits .f32 0x43000000#32) * Ideal.log (Ideal.ofBits .f32 0x40000000#32)) := by
  blk_simp [iblk, idx t]
  entry_read
  pointwise []
  blk_simp [idx t]
  have h8 : t.val / 4 % 8 < 8 := Nat.mod_lt _ (by omega)
  split
  · congr 1
    blk_ext [idx t, bt, row, col, hd]
  · rename_i hn
    exact absurd (by omega) hn

theorem b2 (t : Fin cfg0.N) (j : Fin 4096) (d : Fin 256) :
    (iblk m c 2 t : FVec F S4096x256 .bf16) (ix2 j d)
      = (m ((c.tc : Thread nD τ).loc main_arg1) : FVec F S8x4096x2048 .f32) (ix3 (bt t) j (col (hd t) d)) := by
  blk_simp [iblk, idx t]
  entry_read
  pointwise []
  blk_simp [idx t]
  rw [dif_neg (by simp; omega)]
  blk_ext [idx t, bt, row, col, hd]

theorem b3 (t : Fin cfg0.N) (f : Fin 256) (j : Fin 4096) :
    (iblk m c 3 t : FVec F S8x256x512 .bf16) (ix3 ⟨j.val / 512, by omega⟩ f ⟨j.val % 512, by omega⟩)
      = (m ((c.tc : Thread nD τ).loc main_arg2) : FVec F S8x4096x2048 .f32) (ix3 (bt t) j (col (hd t) f)) := by
  blk_simp [iblk, idx t]
  entry_read
  pointwise []
  blk_ext [idx t, bt, row, col, hd]

theorem b4 (t : Fin cfg0.N) (j : Fin 256) (d : Fin 256) :
    (iblk m c 4 t : FVec F S256x256 .bf16) (ix2 j d)
      = (m ((c.tc : Thread nD τ).loc main_arg3) : FVec F S8x256x2048 .f32) (ix3 (bt t) j (col (hd t) d)) := by
  blk_simp [iblk, idx t]
  entry_read
  pointwise []
  blk_ext [idx t, bt, row, col, hd]

theorem b5 (t : Fin cfg0.N) (f : Fin 256) (j : Fin 256) :
    (iblk m c 5 t : FVec F S1x256x256 .bf16) (ix3 0 f j)
      = (m ((c.tc : Thread nD τ).loc main_arg4) : FVec F S8x256x2048 .f32) (ix3 (bt t) j (col (hd t) f)) := by
  blk_simp [iblk, idx t]
  entry_read
  pointwise []
  blk_ext [idx t, bt, row, col, hd]

theorem b6 (t : Fin cfg0.N) (f : Fin 256) :
    (iblk m c 6 t : FVec F S256x1 .f32) (ix2 f 0) = (m ((c.tc : Thread nD τ).loc main_arg6) : FVec F S256 .f32) (ix1 f) := by
  blk_simp [iblk, idx t]
  entry_read
  pointwise []
  blk_ext [idx t, bt, row, col, hd]

end Cert.AttnBlocks

end
-- ==== Proof.AttnRefValue.lean ====
module

public import proofs.«01_k».proof.Proof.Gen.AttnRefIdeal.Read
public import proofs.«01_k».proof.Proof.AttnBlock
public import Idealize.ShloMosaic.Lib.Pointwise

@[expose] public section

noncomputable section

namespace Cert.AttnRefValue

open Cert.AttnRefIdeal Cert.AttnRefIdeal.Gen Cert.AttnRefIdeal.Read Cert.AttnMath Cert.AttnPay
open Idealize.ShloMosaic Idealize.ShloMosaic.TcCoe
open scoped Idealize.ShloMosaic

/-- A lane of a head, as a column of the layer's width. -/
def col (h : Fin 8) (d : Fin 256) : Fin 2048 := ⟨h.val * 256 + d.val, by omega⟩

/-- A lane of one of a head's two key maps. -/
def lane (p : Fin 2) (d : Fin 128) : Fin 256 := ⟨p.val * 128 + d.val, by omega⟩

/-- The queries, split into heads and maps. -/
theorem query (x0 : FVec F S8x4096x2048 .f32) (b h : Fin 8) (p : Fin 2) (i : Fin 4096) (d : Fin 128) :
    val_main_v1 x0 (ix5 b h p i d) = x0 (ix3 b i (col h (lane p d))) := by
  pointwise [val_main_v1, val_main_v0]
  blk_ext [col, lane]

/-- The keys and the cached keys, one after the other. -/
theorem key (x1 : FVec F S8x4096x2048 .f32) (x3 : FVec F S8x256x2048 .f32) (b h : Fin 8) (p : Fin 2) (n : Fin 4352) (d : Fin 128) :
    val_main_v10 x1 x3 (ix5 b h p n d)
      = if hn : n.val < 4096 then x1 (ix3 b ⟨n.val, hn⟩ (col h (lane p d))) else x3 (ix3 b ⟨n.val - 4096, by omega⟩ (col h (lane p d))) := by
  pointwise [val_main_v10, val_main_v3, val_main_v2, val_main_v7, val_main_v6, Cert.AttnRefIdeal.Value.fn_main_v10]
  have e : (⟨h.val * 256 + p.val * 128 + d.val, by omega⟩ : Fin 2048) = col h (lane p d) := by apply Fin.ext; simp only [col, lane]; omega
  rw [e]

/-- The values and the cached values, one after the other. -/
theorem value (x2 : FVec F S8x4096x2048 .f32) (x4 : FVec F S8x256x2048 .f32) (b h : Fin 8) (n : Fin 4352) (f : Fin 256) :
    val_main_v11 x2 x4 (ix4 b h n f)
      = if hn : n.val < 4096 then x2 (ix3 b ⟨n.val, hn⟩ (col h f)) else x4 (ix3 b ⟨n.val - 4096, by omega⟩ (col h f)) := by
  pointwise [val_main_v11, val_main_v5, val_main_v4, val_main_v9, val_main_v8, Cert.AttnRefIdeal.Value.fn_main_v11]
  rfl

/-- The scores. -/
theorem score (x0 x1 : FVec F S8x4096x2048 .f32) (x3 : FVec F S8x256x2048 .f32) (b h : Fin 8) (p : Fin 2) (i : Fin 4096) (n : Fin 4352) :
    val_main_v31 x0 x1 x3 (ix5 b h p i n)
      = Ideal.div (∑ d : Fin 128, val_main_v1 x0 (ix5 b h p i d) * val_main_v10 x1 x3 (ix5 b h p n d)) (Ideal.sqrt (Ideal.ofBits .f32 0x43000000#32)) := by
  rw [val_main_v31, val_main_v28]
  generalize val_main_v1 x0 = y0
  generalize val_main_v10 x1 x3 = y1
  pointwise [val_main_v30, val_main_v29, val_main_cst_2]

/-- The greatest score of a row. -/
theorem maxRow {n : ℕ} (s : FVec F ⟨5, ![8, 8, 2, 4096, n]⟩ .f32) (hr : (⟨5, ![8, 8, 2, 4096, n]⟩ : Shape).ReducesTo [4] S8x8x2x4096) (b h : Fin 8) (p : Fin 2) (i : Fin 4096) :
    Host.reduce FloatOps.maximumf s (constant S_ .f32 0xFF800000#32) hr h_S_ (ix4 b h p i)
      = Finset.univ.fold max (⊥ : EReal) (fun j : Fin n => s (ix5 b h p i j)) := by
  rw [← negInf]
  pointwise []

variable (x0 x1 x2 : FVec F S8x4096x2048 .f32) (x3 x4 : FVec F S8x256x2048 .f32) (x5 : FVec F S4x128 .f32) (x6 : FVec F S256 .f32)
  (b h : Fin 8) (i : Fin 4096)

/-- The greatest score of a row, at its stage. -/
theorem top (p : Fin 2) : val_main_v32 x0 x1 x3 (ix4 b h p i)
    = Finset.univ.fold max (⊥ : EReal) (fun j : Fin 4352 => val_main_v31 x0 x1 x3 (ix5 b h p i j)) := by
  rw [val_main_v32, val_main_cst_3]
  generalize val_main_v31 x0 x1 x3 = y
  exact maxRow y _ b h p i

/-- The number that the scores of a row are shifted by. -/
theorem shift (p : Fin 2) : val_main_v34 x0 x1 x3 (ix4 b h p i) = max ⊥ (val_main_v32 x0 x1 x3 (ix4 b h p i)) := by
  rw [val_main_v34_apply, val_main_v33_apply, val_main_cst_4_apply, ← negInf]
  rfl

/-- The exponentials of the shifted scores. -/
theorem expo (p : Fin 2) (n : Fin 4352) : val_main_v38 x0 x1 x3 (ix5 b h p i n)
    = Ideal.exp (val_main_v31 x0 x1 x3 (ix5 b h p i n) - val_main_v34 x0 x1 x3 (ix4 b h p i)) := by
  rw [val_main_v38, val_main_v37, val_main_v36, val_main_v35]
  generalize val_main_v34 x0 x1 x3 = y
  generalize val_main_v31 x0 x1 x3 = z
  pointwise []

/-- The weights of the keys. -/
theorem weight (p : Fin 2) (n : Fin 4352) : val_main_v42 x0 x1 x3 (ix5 b h p i n)
    = Ideal.div (val_main_v38 x0 x1 x3 (ix5 b h p i n)) (∑ k : Fin 4352, val_main_v38 x0 x1 x3 (ix5 b h p i k)) := by
  rw [val_main_v42, val_main_v41, val_main_v40, val_main_v39]
  generalize val_main_v38 x0 x1 x3 = y
  pointwise [val_main_cst_5]

/-- The factor of the second map. -/
theorem factor (k : S_.Idx) : val_main_v27 x5 k = Cert.AttnPay.lam x5 := by
  pointwise [val_main_v27, val_main_v26, val_main_v25, val_main_v24, val_main_v23, val_main_v22, val_main_v21, val_main_v20, val_main_v19, val_main_v18,
    val_main_v17, val_main_v16, val_main_v15, val_main_v14, val_main_v13, val_main_v12, val_main_cst, val_main_cst_0, val_main_cst_1, Cert.AttnPay.lam]

/-- The first map's weights. -/
theorem first (n : Fin 4352) : val_main_v44 x0 x1 x3 (ix4 b h i n) = val_main_v42 x0 x1 x3 (ix5 b h 0 i n) := by
  rw [val_main_v44, val_main_v43]
  generalize val_main_v42 x0 x1 x3 = y
  pointwise []

/-- The second map's weights. -/
theorem second (n : Fin 4352) : val_main_v46 x0 x1 x3 (ix4 b h i n) = val_main_v42 x0 x1 x3 (ix5 b h 1 i n) := by
  rw [val_main_v46_apply, val_main_v45_apply]
  congr 1
  funext a
  apply Fin.ext
  match a with
  | ⟨0, _⟩ => show ((((b.val * 8 + h.val) * 4096 + i.val) * 4352 + n.val) / 142606336 : ℕ) = b.val; omega
  | ⟨1, _⟩ => show ((((b.val * 8 + h.val) * 4096 + i.val) * 4352 + n.val) / 17825792 % 8 : ℕ) = h.val; omega
  | ⟨2, _⟩ => rfl
  | ⟨3, _⟩ => show ((((b.val * 8 + h.val) * 4096 + i.val) * 4352 + n.val) / 4352 % 4096 : ℕ) = i.val; omega
  | ⟨4, _⟩ => show ((((b.val * 8 + h.val) * 4096 + i.val) * 4352 + n.val) % 4352 : ℕ) = n.val; omega

/-- The difference of the two maps' weights. -/
theorem differ (n : Fin 4352) : val_main_v49 x0 x1 x3 x5 (ix4 b h i n)
    = val_main_v44 x0 x1 x3 (ix4 b h i n) - Cert.AttnPay.lam x5 * val_main_v46 x0 x1 x3 (ix4 b h i n) := by
  rw [← factor x5 (fun a => a.elim0), val_main_v49_apply, val_main_v48_apply, val_main_v47_apply]
  rfl

/-- The mean of the values under those weights. -/
theorem mean (f : Fin 256) : val_main_v50 x0 x1 x2 x3 x4 x5 (ix4 b h i f)
    = ∑ n : Fin 4352, val_main_v49 x0 x1 x3 x5 (ix4 b h i n) * val_main_v11 x2 x4 (ix4 b h n f) := by
  rw [val_main_v50]
  generalize val_main_v49 x0 x1 x3 x5 = y
  generalize val_main_v11 x2 x4 = z
  pointwise []

/-- The result's place. -/
theorem place (f : Fin 256) : val_main_v68 x0 x1 x2 x3 x4 x5 x6 (ix2 ⟨b.val * 4096 + i.val, by omega⟩ (col h f))
    = val_main_v65 x0 x1 x2 x3 x4 x5 x6 (ix4 b h i f) := by
  rw [val_main_v68, val_main_v67, val_main_v66]
  generalize val_main_v65 x0 x1 x2 x3 x4 x5 x6 = y
  pointwise [col]
  blk_ext []

/-- The sum of squares over the features. -/
theorem squares (r : Fin 1) : val_main_v53 x0 x1 x2 x3 x4 x5 (ix4 b h i r)
    = ∑ g : Fin 256, val_main_v50 x0 x1 x2 x3 x4 x5 (ix4 b h i g) * val_main_v50 x0 x1 x2 x3 x4 x5 (ix4 b h i g) := by
  have e : ∀ g : Fin 256, idx_main_v52 (idx_main_v53 (ix4 b h i r)) g = ix4 b h i g := by
    intro g
    funext a
    match a with
    | ⟨0, _⟩ => rfl
    | ⟨1, _⟩ => rfl
    | ⟨2, _⟩ => rfl
    | ⟨3, _⟩ => rfl
  have z : (FloatOps.ofBits .f32 0x00000000#32 : F .f32) = (0 : EReal) := Ideal.ofBits_zero_f32
  rw [val_main_v53_apply, val_main_v52_apply, val_main_cst_6_apply, z, zero_add]
  refine Finset.sum_congr rfl fun g _ => ?_
  rw [e, val_main_v51_apply]
  rfl

/-- The inverse root of the mean square. -/
theorem inverse (f : Fin 256) : val_main_v59 x0 x1 x2 x3 x4 x5 (ix4 b h i f)
    = Ideal.rsqrt (Ideal.div (val_main_v53 x0 x1 x2 x3 x4 x5 (ix4 b h i 0)) (Ideal.ofBits .f32 0x43800000#32) + Ideal.ofBits .f32 0x3727C5AC#32) := by
  have e : idx_main_v59 (ix4 b h i f) = ix4 b h i 0 := by
    funext a
    match a with
    | ⟨0, _⟩ => rfl
    | ⟨1, _⟩ => rfl
    | ⟨2, _⟩ => rfl
    | ⟨3, _⟩ => rfl
  rw [val_main_v59_apply, e, val_main_v58_apply, val_main_v57_apply, val_main_v56_apply, val_main_cst_8_apply, val_main_v55_apply, val_main_v54_apply,
    val_main_cst_7_apply]
  generalize val_main_v53 x0 x1 x2 x3 x4 x5 (ix4 b h i 0) = y
  rfl

/-- The parameter of a feature. -/
theorem gain (f : Fin 256) : val_main_v62 x6 (ix4 b h i f) = x6 (ix1 f) := by
  rw [val_main_v62, val_main_v61]
  pointwise []

/-- The result at a batch, a query row, a head and a feature. -/
theorem result (f : Fin 256) : val_main_v65 x0 x1 x2 x3 x4 x5 x6 (ix4 b h i f)
    = Cert.AttnBlock.normed (fun g => val_main_v50 x0 x1 x2 x3 x4 x5 (ix4 b h i g)) (x6 (ix1 f)) f := by
  rw [val_main_v65_apply, val_main_v64_apply, val_main_cst_9_apply, val_main_v63_apply, gain, val_main_v60_apply, inverse, squares]
  generalize val_main_v50 x0 x1 x2 x3 x4 x5 = y
  rw [Cert.AttnBlock.normed]
  generalize Ideal.rsqrt _ = z
  show (y (ix4 b h i f) * z) * x6 (ix1 f) * Ideal.ofBits .f32 0x3F24FD5C#32 = y (ix4 b h i f) * (z * Ideal.ofBits .f32 0x3F24FD5C#32) * x6 (ix1 f)
  generalize Ideal.ofBits .f32 0x3F24FD5C#32 = w
  rw [mul_assoc, mul_comm (x6 (ix1 f)) w, ← mul_assoc, mul_assoc (y (ix4 b h i f)) z w]

end Cert.AttnRefValue

end
-- ==== Proof.AttnRefReal.lean ====
/- The attention reference at a batch, a query row, a head and a feature, from real operands. -/
module

public import proofs.«01_k».proof.Proof.AttnRefValue

@[expose] public section

noncomputable section

namespace Cert.AttnRefValue

open Cert.AttnRefIdeal Cert.AttnRefIdeal.Gen Cert.AttnRefIdeal.Read Cert.AttnMath Cert.AttnPay
open Idealize.ShloMosaic Idealize.ShloMosaic.TcCoe Idealize.ShloMosaic.Pointwise

/-- The words of 128 and 2. -/
theorem word128 : Ideal.ofBits .f32 0x43000000#32 = ((128 : ℝ) : EReal) := by
  simp [Ideal.ofBits, Ideal.ieee]
  rw [← EReal.coe_mul]
  norm_num

theorem word2 : Ideal.ofBits .f32 0x40000000#32 = ((2 : ℝ) : EReal) := by
  simp [Ideal.ofBits, Ideal.ieee]
  rw [← EReal.coe_mul]
  norm_num

/-- The word of the second map's constant is a real. -/
theorem wordLam : ∃ c : ℝ, Ideal.ofBits .f32 0x3EB60549#32 = (c : EReal) :=
  ⟨_, by simp only [Ideal.ofBits, Ideal.ieee]; rfl⟩

theorem sqrt_coe {x : ℝ} (h : 0 ≤ x) : Ideal.sqrt (x : EReal) = ((Real.sqrt x : ℝ) : EReal) := by
  show (if x < 0 then (⊥ : EReal) else _) = _
  rw [if_neg (not_lt.mpr h)]

theorem log_coe {x : ℝ} (h : 0 < x) : Ideal.log (x : EReal) = ((Real.log x : ℝ) : EReal) := by
  show (if x ≤ 0 then (⊥ : EReal) else _) = _
  rw [if_neg (not_le.mpr h)]

theorem div_coe (x : ℝ) {y : ℝ} (h : y ≠ 0) : Ideal.div (x : EReal) (y : EReal) = ((x / y : ℝ) : EReal) := by
  have e : ((y : ℝ) : EReal) ≠ 0 := by rw [← EReal.coe_zero, Ne, EReal.coe_eq_coe_iff]; exact h
  rw [Ideal.div, if_neg e, ← EReal.coe_inv, ← EReal.coe_mul, div_eq_mul_inv]

/-- A sum over all keys: the latent keys, then the context keys. -/
theorem sum_keys (g : Fin 4352 → ℝ) : ∑ n, g n = ∑ j : Fin 4096, g ⟨j.val, by omega⟩ + ∑ j : Fin 256, g ⟨4096 + j.val, by omega⟩ := by
  rw [show (∑ n, g n) = ∑ n : Fin (4096 + 256), g n from rfl, Fin.sum_univ_add]
  rfl

variable (x0 x1 x2 : FVec F S8x4096x2048 .f32) (x3 x4 : FVec F S8x256x2048 .f32) (x5 : FVec F S4x128 .f32)
  (b h : Fin 8) (i : Fin 4096) (s : Fin 2 → Fin 4352 → ℝ) (v : Fin 256 → Fin 4352 → ℝ) (lr : ℝ)

/-- A map's weights, the scores being real. -/
theorem weight_real (p : Fin 2) (hs : ∀ n, val_main_v31 x0 x1 x3 (ix5 b h p i n) = ((s p n : ℝ) : EReal)) (n : Fin 4352) :
    val_main_v42 x0 x1 x3 (ix5 b h p i n) = ((Real.exp (s p n) / ∑ k, Real.exp (s p k) : ℝ) : EReal) := by
  obtain ⟨M, hM⟩ := fold_max_coe (n := 4352) (by omega) (fun n => val_main_v31 x0 x1 x3 (ix5 b h p i n)) (s p) hs
  have e : ∀ n, val_main_v38 x0 x1 x3 (ix5 b h p i n) = ((Real.exp (s p n - M) : ℝ) : EReal) := by
    intro n
    rw [expo, shift, top, hM, hs, max_eq_right bot_le, ← EReal.coe_sub, exp_coe]
  have hp : (0 : ℝ) < ∑ k, Real.exp (s p k - M) := Finset.sum_pos (fun _ _ => Real.exp_pos _) ⟨⟨0, by omega⟩, Finset.mem_univ _⟩
  rw [weight, Finset.sum_congr rfl fun k _ => e k, e, coe_sum, div_coe _ hp.ne', soft_real]

/-- The mean of the values under the difference of the maps' weights. -/
theorem mean_real (hs : ∀ p n, val_main_v31 x0 x1 x3 (ix5 b h p i n) = ((s p n : ℝ) : EReal))
    (hv : ∀ f n, val_main_v11 x2 x4 (ix4 b h n f) = ((v f n : ℝ) : EReal)) (hl : lam x5 = (lr : EReal)) (f : Fin 256) :
    val_main_v50 x0 x1 x2 x3 x4 x5 (ix4 b h i f)
      = (((∑ n, v f n * Real.exp (s 0 n)) / (∑ n, Real.exp (s 0 n)) - lr * ((∑ n, v f n * Real.exp (s 1 n)) / ∑ n, Real.exp (s 1 n)) : ℝ) : EReal) := by
  have e : ∀ n, val_main_v49 x0 x1 x3 x5 (ix4 b h i n) * val_main_v11 x2 x4 (ix4 b h n f)
      = (((Real.exp (s 0 n) / (∑ k, Real.exp (s 0 k)) - lr * (Real.exp (s 1 n) / ∑ k, Real.exp (s 1 k))) * v f n : ℝ) : EReal) := by
    intro n
    rw [differ, first, second, weight_real x0 x1 x3 b h i s 0 (hs 0), weight_real x0 x1 x3 b h i s 1 (hs 1), hv, hl, ← EReal.coe_mul, ← EReal.coe_sub,
      ← EReal.coe_mul]
  rw [mean, Finset.sum_congr rfl fun n _ => e n, coe_sum, EReal.coe_eq_coe_iff, Finset.sum_div, Finset.sum_div, Finset.mul_sum, ← Finset.sum_sub_distrib]
  refine Finset.sum_congr rfl fun n _ => ?_
  ring

end Cert.AttnRefValue

end
-- ==== Proof.AttnFinal.lean ====
/- The attention kernel's output array is the reference's, from real operands. -/
module

public import proofs.«01_k».proof.Proof.AttnBlocks
public import proofs.«01_k».proof.Proof.AttnRefReal
public import Idealize.ShloMosaic.Lib.Pipeline.ValueKit

@[expose] public section

noncomputable section

namespace Cert.AttnFinal

open Cert.AttnIdeal Cert.AttnIdeal.Gen Cert.AttnPay Cert.AttnBlock Cert.AttnBlocks Cert.AttnMath
open Idealize.ShloMosaic Idealize.ShloMosaic.TcCoe Idealize.ShloMosaic.Pipeline Idealize.ShloMosaic.Pointwise

/-- 2 to a score of the kernel is the exponential of the reference's score. -/
theorem two_pow (q k : Fin 128 → ℝ) :
    (2 : ℝ) ^ (∑ d, k d * (q d / (Real.sqrt 128 * Real.log 2))) = Real.exp ((∑ d, q d * k d) / Real.sqrt 128) := by
  have h2 : Real.log 2 ≠ 0 := (Real.log_pos (by norm_num)).ne'
  have hs : Real.sqrt 128 ≠ 0 := (Real.sqrt_pos.mpr (by norm_num)).ne'
  rw [Real.rpow_def_of_pos two_pos]
  congr 1
  rw [Finset.mul_sum, Finset.sum_div]
  refine Finset.sum_congr rfl fun d _ => ?_
  field_simp

/-- A scaled query entry. -/
theorem scaled (x : ℝ) : Ideal.div (x : EReal) (Ideal.sqrt (Ideal.ofBits .f32 0x43000000#32) * Ideal.log (Ideal.ofBits .f32 0x40000000#32))
    = ((x / (Real.sqrt 128 * Real.log 2) : ℝ) : EReal) := by
  have h2 : Real.log 2 ≠ 0 := (Real.log_pos (by norm_num)).ne'
  have hs : Real.sqrt 128 ≠ 0 := (Real.sqrt_pos.mpr (by norm_num)).ne'
  rw [Cert.AttnRefValue.word128, Cert.AttnRefValue.word2, Cert.AttnRefValue.sqrt_coe (by norm_num), Cert.AttnRefValue.log_coe (by norm_num), ← EReal.coe_mul,
    Cert.AttnRefValue.div_coe _ (mul_ne_zero hs h2)]

/-- A sum of products of reals. -/
theorem dot_coe {n : ℕ} (x y : Fin n → EReal) (a b : Fin n → ℝ) (hx : ∀ d, x d = (a d : EReal)) (hy : ∀ d, y d = (b d : EReal)) :
    ∑ d, x d * y d = ((∑ d, a d * b d : ℝ) : EReal) := by
  rw [← coe_sum]
  exact Finset.sum_congr rfl fun d _ => by rw [hx, hy, EReal.coe_mul]

variable (x0 x1 x2 : FVec F Cert.AttnRefIdeal.S8x4096x2048 .f32) (x3 x4 : FVec F Cert.AttnRefIdeal.S8x256x2048 .f32) (x5 : FVec F Cert.AttnRefIdeal.S4x128 .f32)
  (Q K W : Cert.AttnRefIdeal.S8x4096x2048.Idx → ℝ) (KC WC : Cert.AttnRefIdeal.S8x256x2048.Idx → ℝ) (lr : ℝ)
  (hQ : ∀ j, x0 j = ((Q j : ℝ) : EReal)) (hK : ∀ j, x1 j = ((K j : ℝ) : EReal)) (hW : ∀ j, x2 j = ((W j : ℝ) : EReal))
  (hKC : ∀ j, x3 j = ((KC j : ℝ) : EReal)) (hWC : ∀ j, x4 j = ((WC j : ℝ) : EReal)) (hl : lam x5 = ((lr : ℝ) : EReal))
  (b h : Fin 8) (i : Fin 4096)

/-- The kernel's score of a latent key and of a context key, and the values by key, as reals. -/
def sK (p : Fin 2) (j : Fin 4096) : ℝ :=
  ∑ d : Fin 128, K (ix3 b j (col h (Cert.AttnRefValue.lane p d))) * (Q (ix3 b i (col h (Cert.AttnRefValue.lane p d))) / (Real.sqrt 128 * Real.log 2))
def sC (p : Fin 2) (j : Fin 256) : ℝ :=
  ∑ d : Fin 128, KC (ix3 b j (col h (Cert.AttnRefValue.lane p d))) * (Q (ix3 b i (col h (Cert.AttnRefValue.lane p d))) / (Real.sqrt 128 * Real.log 2))
def vK (f : Fin 256) (j : Fin 4096) : ℝ := W (ix3 b j (col h f))
def vC (f : Fin 256) (j : Fin 256) : ℝ := WC (ix3 b j (col h f))

/-- The reference's key entry, score and value by key, as reals. -/
def kR (p : Fin 2) (n : Fin 4352) (d : Fin 128) : ℝ :=
  if hn : n.val < 4096 then K (ix3 b ⟨n.val, hn⟩ (col h (Cert.AttnRefValue.lane p d))) else KC (ix3 b ⟨n.val - 4096, by omega⟩ (col h (Cert.AttnRefValue.lane p d)))
def sR (p : Fin 2) (n : Fin 4352) : ℝ :=
  (∑ d : Fin 128, Q (ix3 b i (col h (Cert.AttnRefValue.lane p d))) * kR K KC b h p n d) / Real.sqrt 128
def vR (f : Fin 256) (n : Fin 4352) : ℝ :=
  if hn : n.val < 4096 then W (ix3 b ⟨n.val, hn⟩ (col h f)) else WC (ix3 b ⟨n.val - 4096, by omega⟩ (col h f))

include hQ hK hKC in
theorem score_real (p : Fin 2) (n : Fin 4352) : Cert.AttnRefIdeal.Read.val_main_v31 (F := F) x0 x1 x3 (ix5 b h p i n) = ((sR Q K KC b h i p n : ℝ) : EReal) := by
  have hs : Real.sqrt 128 ≠ 0 := (Real.sqrt_pos.mpr (by norm_num)).ne'
  rw [Cert.AttnRefValue.score, dot_coe _ _ (fun d => Q (ix3 b i (col h (Cert.AttnRefValue.lane p d)))) (kR K KC b h p n), Cert.AttnRefValue.word128,
    Cert.AttnRefValue.sqrt_coe (by norm_num), Cert.AttnRefValue.div_coe _ hs, sR]
  · intro d; rw [Cert.AttnRefValue.query]; exact hQ _
  · intro d
    rw [Cert.AttnRefValue.key, kR]
    split
    · exact hK _
    · exact hKC _

include hW hWC in
theorem value_real (f : Fin 256) (n : Fin 4352) : Cert.AttnRefIdeal.Read.val_main_v11 (F := F) x2 x4 (ix4 b h n f) = ((vR W WC b h f n : ℝ) : EReal) := by
  rw [Cert.AttnRefValue.value, vR]
  split
  · exact hW _
  · exact hWC _

/-- The exponential of the reference's score of a key is 2 to the kernel's. -/
theorem exp_latent (p : Fin 2) (j : Fin 4096) : Real.exp (sR Q K KC b h i p ⟨j.val, by omega⟩) = (2 : ℝ) ^ (sK Q K b h i p j) := by
  rw [sR, sK, two_pow (fun d => Q (ix3 b i (col h (Cert.AttnRefValue.lane p d)))) (fun d => K (ix3 b j (col h (Cert.AttnRefValue.lane p d))))]
  congr 2
  refine Finset.sum_congr rfl fun d _ => ?_
  rw [kR, dif_pos j.isLt]

theorem exp_context (p : Fin 2) (j : Fin 256) : Real.exp (sR Q K KC b h i p ⟨4096 + j.val, by omega⟩) = (2 : ℝ) ^ (sC Q KC b h i p j) := by
  rw [sR, sC, two_pow (fun d => Q (ix3 b i (col h (Cert.AttnRefValue.lane p d)))) (fun d => KC (ix3 b j (col h (Cert.AttnRefValue.lane p d))))]
  congr 2
  refine Finset.sum_congr rfl fun d _ => ?_
  rw [kR, dif_neg (by simp)]
  simp only [Nat.add_sub_cancel_left]

theorem value_latent (f : Fin 256) (j : Fin 4096) : vR W WC b h f ⟨j.val, by omega⟩ = vK W b h f j := by
  rw [vR, dif_pos j.isLt, vK]

theorem value_context (f : Fin 256) (j : Fin 256) : vR W WC b h f ⟨4096 + j.val, by omega⟩ = vC WC b h f j := by
  rw [vR, dif_neg (by simp), vC]
  simp only [Nat.add_sub_cancel_left]

include hQ hK hW hKC hWC hl in
/-- The reference's mean of the values, in the kernel's words. -/
theorem mean_same (f : Fin 256) : Cert.AttnRefIdeal.Read.val_main_v50 (F := F) x0 x1 x2 x3 x4 x5 (ix4 b h i f)
    = ((zS (sK Q K b h i 0) (vK W b h f) (sC Q KC b h i 0) (vC WC b h f) / wS (sK Q K b h i 0) (sC Q KC b h i 0)
        - lr * (zS (sK Q K b h i 1) (vK W b h f) (sC Q KC b h i 1) (vC WC b h f) / wS (sK Q K b h i 1) (sC Q KC b h i 1)) : ℝ) : EReal) := by
  rw [Cert.AttnRefValue.mean_real x0 x1 x2 x3 x4 x5 b h i (sR Q K KC b h i) (vR W WC b h) lr (score_real x0 x1 x3 Q K KC hQ hK hKC b h i)
    (value_real x2 x4 W WC hW hWC b h) hl f]
  simp only [Cert.AttnRefValue.sum_keys, exp_latent, exp_context, value_latent, value_context, zS, wS]

end Cert.AttnFinal

end
-- ==== Proof.AttnArray.lean ====
/- The attention kernel's output array after the run, from finite arguments. -/
module

public import proofs.«01_k».proof.Proof.AttnFinal
public import Idealize.ShloMosaic.Lib.Pipeline.Covers

@[expose] public section

noncomputable section

namespace Cert.AttnArray

open Cert.AttnIdeal Cert.AttnIdeal.Gen Cert.AttnPay Cert.AttnBlock Cert.AttnBlocks Cert.AttnMath Cert.AttnFinal Cert.AttnRun
open Idealize.ShloMosaic Idealize.ShloMosaic.TcCoe Idealize.ShloMosaic.Pipeline Idealize.ShloMosaic.Pointwise

/-- The lanes of the two maps, in the reference's words. -/
theorem lane0 (d : Fin 128) : lo d = Cert.AttnRefValue.lane 0 d := Fin.ext (by simp [lo, hi, Cert.AttnRefValue.lane])

theorem lane1 (d : Fin 128) : hi d = Cert.AttnRefValue.lane 1 d := Fin.ext (by simp [lo, hi, Cert.AttnRefValue.lane])

/-- A sum of products over the lanes of a map. -/
theorem products {n : ℕ} (x : FVec F ⟨2, ![n, 256]⟩ .bf16) (y : FVec F S1024x256 .bf16) (j : Fin n) (r : Fin 1024) (p : Fin 2) (k q : Fin 256 → ℝ)
    (hx : ∀ d, x (ix2 j d) = ((k d : ℝ) : EReal)) (hy : ∀ d, y (ix2 r d) = ((q d : ℝ) : EReal))
    (l : Fin 128 → Fin 256) (e : ∀ d, l d = Cert.AttnRefValue.lane p d) :
    ∑ d : Fin 128, x (ix2 j (l d)) * y (ix2 r (l d)) = ((∑ d : Fin 128, k (Cert.AttnRefValue.lane p d) * q (Cert.AttnRefValue.lane p d) : ℝ) : EReal) :=
  dot_coe _ _ _ _ (fun d => by rw [e, hx]) (fun d => by rw [e, hy])

variable (m : (ℓ : Loc nD τ sig) → Buf (Elt F) ℓ) (c : Dev nD)
  (Q K W : Cert.AttnRefIdeal.S8x4096x2048.Idx → ℝ) (KC WC : Cert.AttnRefIdeal.S8x256x2048.Idx → ℝ) (lr : ℝ)
  (hQ : ∀ j, (m ((c.tc : Thread nD τ).loc main_arg0) : FVec F S8x4096x2048 .f32) j = ((Q j : ℝ) : EReal))
  (hK : ∀ j, (m ((c.tc : Thread nD τ).loc main_arg1) : FVec F S8x4096x2048 .f32) j = ((K j : ℝ) : EReal))
  (hW : ∀ j, (m ((c.tc : Thread nD τ).loc main_arg2) : FVec F S8x4096x2048 .f32) j = ((W j : ℝ) : EReal))
  (hKC : ∀ j, (m ((c.tc : Thread nD τ).loc main_arg3) : FVec F S8x256x2048 .f32) j = ((KC j : ℝ) : EReal))
  (hWC : ∀ j, (m ((c.tc : Thread nD τ).loc main_arg4) : FVec F S8x256x2048 .f32) j = ((WC j : ℝ) : EReal))
  (hl : lam (m ((c.tc : Thread nD τ).loc main_arg5)) = ((lr : ℝ) : EReal))

/-- The reference's result on the kernel's arguments. -/
def target : FVec F S32768x2048 .bf16 :=
  Cert.AttnRefIdeal.Read.val_main_v68 (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

include hQ in
/-- A query lane of a block. -/
theorem b1' (t : Fin cfg0.N) (r : Fin 1024) (d : Fin 256) : (iblk m c 1 t : FVec F S1024x256 .bf16) (ix2 r d)
    = ((Q (ix3 (bt t) (row t r) (col (hd t) d)) / (Real.sqrt 128 * Real.log 2) : ℝ) : EReal) := by
  rw [b1, hQ, scaled]

include hQ hK hW hKC hWC hl in
/-- A grid point's block at a query row and a feature. -/
theorem block (t : Fin cfg0.N) (r : Fin 1024) (f : Fin 256) :
    outV (iblk m c 0 t) (iblk m c 1 t) (iblk m c 2 t) (iblk m c 3 t) (iblk m c 4 t) (iblk m c 5 t) (iblk m c 6 t) (ix2 r f)
      = normed (fun g => ((zS (sK Q K (bt t) (hd t) (row t r) 0) (Cert.AttnFinal.vK W (bt t) (hd t) g) (sC Q KC (bt t) (hd t) (row t r) 0) (vC WC (bt t) (hd t) g) / wS (sK Q K (bt t) (hd t) (row t r) 0) (sC Q KC (bt t) (hd t) (row t r) 0)
        - lr * (zS (sK Q K (bt t) (hd t) (row t r) 1) (Cert.AttnFinal.vK W (bt t) (hd t) g) (sC Q KC (bt t) (hd t) (row t r) 1) (vC WC (bt t) (hd t) g) / wS (sK Q K (bt t) (hd t) (row t r) 1) (sC Q KC (bt t) (hd t) (row t r) 1)) : ℝ) : EReal))
        ((m ((c.tc : Thread nD τ).loc main_arg6) : FVec F S256 .f32) (ix1 f)) f := by
  rw [← b6 m c t f]
  exact outV_apply (iblk m c 0 t) (iblk m c 1 t) (iblk m c 2 t) (iblk m c 3 t) (iblk m c 4 t) (iblk m c 5 t) (iblk m c 6 t) r
    (sK Q K (bt t) (hd t) (row t r) 0) (sK Q K (bt t) (hd t) (row t r) 1) (sC Q KC (bt t) (hd t) (row t r) 0) (sC Q KC (bt t) (hd t) (row t r) 1)
    (Cert.AttnFinal.vK W (bt t) (hd t)) (vC WC (bt t) (hd t)) lr
    (fun j => products (iblk m c 2 t) (iblk m c 1 t) j r 0 _ _ (fun d => (b2 m c t j d).trans (hK _)) (b1' m c Q hQ t r) _ lane0)
    (fun j => products (iblk m c 2 t) (iblk m c 1 t) j r 1 _ _ (fun d => (b2 m c t j d).trans (hK _)) (b1' m c Q hQ t r) _ lane1)
    (fun j => products (iblk m c 4 t) (iblk m c 1 t) j r 0 _ _ (fun d => (b4 m c t j d).trans (hKC _)) (b1' m c Q hQ t r) _ lane0)
    (fun j => products (iblk m c 4 t) (iblk m c 1 t) j r 1 _ _ (fun d => (b4 m c t j d).trans (hKC _)) (b1' m c Q hQ t r) _ lane1)
    (fun f j => (b3 m c t f j).trans (hW _)) (fun f j => (b5 m c t f j).trans (hWC _)) (by rw [b0]; exact hl) f

include hQ hK hW hKC hWC hl in
/-- … is the reference's result there. -/
theorem point (t : Fin cfg0.N) (r : Fin 1024) (f : Fin 256) :
    outV (iblk m c 0 t) (iblk m c 1 t) (iblk m c 2 t) (iblk m c 3 t) (iblk m c 4 t) (iblk m c 5 t) (iblk m c 6 t) (ix2 r f)
      = target m c (ix2 ⟨(bt t).val * 4096 + (row t r).val, by omega⟩ (Cert.AttnRefValue.col (hd t) f)) := by
  rw [block m c Q K W KC WC lr hQ hK hW hKC hWC hl, target, Cert.AttnRefValue.place, Cert.AttnRefValue.result]
  congr 1
  funext g
  exact (mean_same _ _ _ _ _ _ Q K W KC WC lr hQ hK hW hKC hWC hl (bt t) (hd t) (row t r) g).symm

/-- The output's blocks cover it. -/
theorem covers7 : (cfg0.win 7).Covers :=
  (cfg0.win 7).covers_of_index_surj rfl (by decide) fun β => by
    have h0 : (β 0).val < 32 := (β 0).isLt
    have h1 : (β 1).val < 8 := (β 1).isLt
    refine ⟨⟨((β 0).val / 4 * 8 + (β 1).val) * 4 + (β 0).val % 4, by show _ < 256; omega⟩, ?_⟩
    intro a
    match a with
    | ⟨0, _⟩ =>
      refine (congrFun (idx _).2.2.2.2.2.2.2 (0 : Fin 2)).trans ?_
      show (((β 0).val / 4 * 8 + (β 1).val) * 4 + (β 0).val % 4) / 32 * 4 + (((β 0).val / 4 * 8 + (β 1).val) * 4 + (β 0).val % 4) % 4 = (β 0).val
      omega
    | ⟨1, _⟩ =>
      refine (congrFun (idx _).2.2.2.2.2.2.2 (1 : Fin 2)).trans ?_
      show (((β 0).val / 4 * 8 + (β 1).val) * 4 + (β 0).val % 4) / 4 % 8 = (β 1).val
      omega

/-- A block index of the output, in the array. -/
theorem emb7 (t : Fin cfg0.N) (y : ((cfg0.win 7).xblock (cfg0.grid.coords t)).Idx) :
   (((cfg0.win 7).blk t).view.emb y : S32768x2048.Idx) = ix2 ⟨(bt t).val * 4096 + (row t ⟨(y 0).val, (y 0).isLt⟩).val, by omega⟩ (Cert.AttnRefValue.col (hd t) ⟨(y 1).val, (y 1).isLt⟩) := by
  blk_ext [idx t, bt, row, Cert.AttnRefValue.col, hd]

/-- A block index of the output, in the staging buffer. -/
theorem xinj7 (t : Fin cfg0.N) (y : ((cfg0.win 7).xblock (cfg0.grid.coords t)).Idx) :
   ((cfg0.win 7).xinj (cfg0.grid.coords t) y : S1024x256.Idx) = ix2 ⟨(y 0).val, (y 0).isLt⟩  ⟨(y 1).val, (y 1).isLt⟩ := by
  funext a
  match a with
  | ⟨0, _⟩ => exact Fin.ext rfl
  | ⟨1, _⟩ => exact Fin.ext rfl

include hQ hK hW hKC hWC hl in
/-- The output array after the run is the reference's result. -/
theorem final : (dats m 0 c).arrAt 7 cfg0.N = target m c := by
  refine (dats m 0 c).arrAt_eq_of_covers 7 (target m c) covers7 fun t hf y => ?_
  refine Eq.trans ?_ (congrArg (target m c) (emb7 t y)).symm
  rw [← point m c Q K W KC WC lr hQ hK hW hKC hWC hl t]
  generalize hA : (dats m 0 c).after 7 t = A
  refine (cast_eq rfl _).trans ?_
  refine (congrArg A (xinj7 t y)).trans ?_
  refine (congrFun (hA.symm.trans (after0_7 m c t)) _).trans ?_
  exact congrFun (f := outsAt0 m c t) rfl _

end Cert.AttnArray

end
-- ==== Proof.AttnClaim.lean ====
/- The attention's claims: its kernel and its reference end with the same result on finite arguments. -/
module

public import proofs.«01_k».proof.Defs
public import proofs.«01_k».proof.Proof.AttnArray
public import proofs.«01_k».proof.Proof.Gen.AttnRefIdeal.Run
public import proofs.«01_k».proof.Proof.Gen.Pre_finite
public import Idealize.ShloMosaic.Lib.ReduceAll
public import Idealize.ShloMosaic.Lib.Claim

@[expose] public section

set_option maxRecDepth 16384

noncomputable section

namespace Cert.AttnClaim

open Idealize.ShloMosaic Idealize.ShloMosaic.TcCoe Idealize.ShloMosaic.Pointwise Idealize.SL.Sem Cert.AttnPay

/-- An extended real whose magnitude is less than infinity is a real. -/
theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

/-- Arrays whose finiteness test says 1 hold reals. -/
theorem real_of_all {s : Shape} {axes : List (Fin s.rank)} (x : FVec F s .f32) (hb : Cert.Pre_finite.S_.BroadcastsInDim s (![] : Fin 0 → Fin s.rank))
    (hr : s.ReducesTo axes Cert.Pre_finite.S_) (hn : 0 < Cert.Pre_finite.S_.numel)
    (h : Host.reduce IntOp.andi (cmpf .olt (Host.absf x) (broadcastInDim s ![] hb (constant (F := F) Cert.Pre_finite.S_ .f32 0x7F800000#32))) (constantI Cert.Pre_finite.S_ 1 1#1) hr hn = fun _ => 1#1)
    (i : s.Idx) : ∃ r : ℝ, x i = (r : EReal) := by
  haveI : Subsingleton Cert.Pre_finite.S_.Idx := ⟨fun a b => funext fun k => k.elim0⟩
  exact real_of_abs _ (Host.reduce_andi_all _ _ hr hn (fun k => k.elim0) (congrFun h _) i)

/-- A real weight of the second map from a real parameter array. -/
theorem real_lam (x : FVec F Cert.AttnIdeal.S4x128 .f32) (h : ∀ i, ∃ r : ℝ, x i = (r : EReal)) : ∃ r : ℝ, lam x = (r : EReal) := by
  choose y hy using h
  obtain ⟨w, hw⟩ := Cert.AttnRefValue.wordLam
  refine ⟨Real.exp (∑ d : Fin 128, y (ix2 0 d) * y (ix2 1 d)) - Real.exp (∑ d : Fin 128, y (ix2 2 d) * y (ix2 3 d)) + w, ?_⟩
  rw [lam, Cert.AttnFinal.dot_coe (fun d => x (ix2 0 d)) (fun d => x (ix2 1 d)) (fun d => y (ix2 0 d)) (fun d => y (ix2 1 d)) (fun d => hy _) (fun d => hy _),
    Cert.AttnFinal.dot_coe (fun d => x (ix2 2 d)) (fun d => x (ix2 3 d)) (fun d => y (ix2 2 d)) (fun d => y (ix2 3 d)) (fun d => hy _) (fun d => hy _), hw]
  show ((Real.exp _ : ℝ) : EReal) - ((Real.exp _ : ℝ) : EReal) + _ = _
  push_cast
  rfl

/-- The precondition, read: the six arrays hold reals. -/
theorem reals (q k v : FVec F Cert.Pre_finite.S8x4096x2048 .f32) (kc vc : FVec F Cert.Pre_finite.S8x256x2048 .f32) (lp : FVec F Cert.Pre_finite.S4x128 .f32) (g : FVec F Cert.Pre_finite.S256 .f32)
    (h : (Cert.Pre_finite.fn (F := F) q k v kc vc lp g).1 = (fun _ => 1#1) ∧ (Cert.Pre_finite.fn (F := F) q k v kc vc lp g).2.1 = (fun _ => 1#1)
      ∧ (Cert.Pre_finite.fn (F := F) q k v kc vc lp g).2.2.1 = (fun _ => 1#1) ∧ (Cert.Pre_finite.fn (F := F) q k v kc vc lp g).2.2.2.1 = (fun _ => 1#1)
      ∧ (Cert.Pre_finite.fn (F := F) q k v kc vc lp g).2.2.2.2.1 = (fun _ => 1#1) ∧ (Cert.Pre_finite.fn (F := F) q k v kc vc lp g).2.2.2.2.2 = (fun _ => 1#1)) :
    (∀ i, ∃ r : ℝ, q i = (r : EReal)) ∧ (∀ i, ∃ r : ℝ, k i = (r : EReal)) ∧ (∀ i, ∃ r : ℝ, v i = (r : EReal)) ∧ (∀ i, ∃ r : ℝ, kc i = (r : EReal))
      ∧ (∀ i, ∃ r : ℝ, vc i = (r : EReal)) ∧ (∀ i, ∃ r : ℝ, lp i = (r : EReal)) := by
  simp only [Cert.Pre_finite.fn, Cert.Pre_finite.fn_part1] at h
  obtain ⟨h0, h1, h2, h3, h4, h5⟩ := h
  exact ⟨real_of_all _ _ _ _ h0, real_of_all _ _ _ _ h1, real_of_all _ _ _ _ h2, real_of_all _ _ _ _ h3, real_of_all _ _ _ _ h4, real_of_all _ _ _ _ h5⟩

/-- The kernel's output array is the reference's result whenever the arguments are finite. -/
theorem final (m : (ℓ : Loc Cert.AttnIdeal.nD Cert.AttnIdeal.τ Cert.AttnIdeal.sig) → Buf (Elt F) ℓ) (h : Cert.Pre_AttnIdeal_finite m) (c : Dev Cert.AttnIdeal.nD) :
    (Cert.AttnRun.dats m 0 c).arrAt 7 Cert.AttnIdeal.cfg0.N = Cert.AttnArray.target m c := by
  obtain ⟨h0, h1, h2, h3, h4, h5⟩ := reals _ _ _ _ _ _ _ (h c)
  choose Q hQ using h0
  choose K hK using h1
  choose W hW using h2
  choose KC hKC using h3
  choose WC hWC using h4
  obtain ⟨lr, hl⟩ := real_lam _ h5
  exact Cert.AttnArray.final m c Q K W KC WC lr hQ hK hW hKC hWC hl

/-- The kernel and the reference end with the same result. -/
theorem algebraic : Cert.algebraic_AttnIdeal_AttnRefIdeal_pre_finite := by
  intro m g m' g' hpre hagree
  refine ⟨fun c => (Cert.AttnRun.dats m 0 c).arrAt 7 Cert.AttnIdeal.cfg0.N, Cert.AttnRun.run_blocks m g, ?_⟩
  refine (θ_run Cert.AttnRefIdeal.defs _ _).mono (fun r h c => ⟨(h c).1.trans ?_, (h c).2⟩) (Cert.AttnRefIdeal.Value.run m' g')
  obtain ⟨e0, e1, e2, e3, e4, e5, e6⟩ := hagree c
  rw [Cert.AttnRefIdeal.Read.val_main_v68_eq, e0, e1, e2, e3, e4, e5, e6]
  exact (final m hpre c).symm

end Cert.AttnClaim

end
-- ==== Proof.FfnPay.lean ====
/- The feed-forward kernel's expressions, read at an index: the modulation, the gated hidden row, the products and the norm. -/
module

public import proofs.«01_k».proof.Proof.Gen.FfnIdeal.Skeleton
public import Idealize.ShloMosaic.Lib.Pointwise
public import Idealize.ShloMosaic.Lib.ValueIdx
public import Idealize.ShloMosaic.PureOps.Ideal.Laws

@[expose] public section

set_option maxRecDepth 16384

noncomputable section

namespace Cert.FfnPay

open Cert.FfnIdeal Cert.FfnIdeal.Gen Idealize.ShloMosaic Idealize.ShloMosaic.Pointwise

/-- Extended reals in the place of floats. -/
abbrev F := Idealize.ShloMosaic.Ideal

/-- One entry of the hidden row: `silu` of the gate's product, times the other product. -/
def hid (a g u : Fin 2048 → EReal) : EReal :=
  Ideal.div (∑ k, a k * g k) (1 + Ideal.exp (0 - ∑ k, a k * g k)) * ∑ k, a k * u k

/-- The mean of a row. -/
def mean (x : Fin 2048 → EReal) : EReal := Ideal.div (∑ k, x k) (Ideal.ofBits .f32 0x45000000#32)

/-- The normalised row, over `e` under the root. -/
def norm (x : Fin 2048 → EReal) (e : EReal) (n : Fin 2048) : EReal :=
  (x n - mean x) * Ideal.rsqrt (Ideal.div (∑ k, (x k - mean x) * (x k - mean x)) (Ideal.ofBits .f32 0x45000000#32) + e)

/-- `1 / alpha`. -/
def ia : EReal := Named.named (F := F) κ "inv_alpha" (φ := .f32) 0x3F1837F0#32

/-- `eps / alpha ^ 2`. -/
def ea : EReal := Named.named (F := F) κ "eps_alpha" (φ := .f32) 0x366D4403#32

/-- The row the kernel normalises. -/
def pre (h g d : Fin 2048 → EReal) (n : Fin 2048) : EReal := h n + Ideal.ofBits .f32 0x3F000000#32 * g n * ia * d n

/-- The modulation. -/
theorem pay7 (v23 : Vec F S1024x2048 .f32) (v24 v26 : Vec F S1x1x2048 .f32) (r : Fin 1024) (n : Fin 2048) :
    k0_pay7 v23 v24 v26 (ix2 r n) = v23 (ix2 r n) * (1 + v26 (ix3 0 0 n)) + v24 (ix3 0 0 n) := by
  pointwise [k0_pay7]

theorem pay8 (v23 : Vec F S1024x2048 .f32) (v24 v26 : Vec F S1x1x2048 .f32) (r : Fin 1024) (n : Fin 2048) :
    k0_pay8 v23 v24 v26 (ix2 r n) = v23 (ix2 r n) * (1 + v26 (ix3 0 0 n)) + v24 (ix3 0 0 n) := by
  pointwise [k0_pay8, k0_pay7]

/-- The first part of the down projection. -/
theorem pay1 (v34 : FVec F S1024x2048 .bf16) (v38 v41 : Vec F S2048x512 .bf16) (v52 : Vec F S512x2048 .bf16) (r : Fin 1024) (n : Fin 2048) :
    k0_pay1 v34 v38 v41 v52 (ix2 r n)
      = ∑ l : Fin 512, hid (fun k => v34 (ix2 r k)) (fun k => v38 (ix2 k l)) (fun k => v41 (ix2 k l)) * v52 (ix2 l n) := by
  pointwise [k0_pay1, hid]

/-- The hidden block. -/
theorem pay12 (v23 : Vec F S1024x2048 .bf16) (v24 v27 : Vec F S2048x512 .bf16) (r : Fin 1024) (l : Fin 512) :
    k0_pay12 v23 v24 v27 (ix2 r l) = hid (fun k => v23 (ix2 r k)) (fun k => v24 (ix2 k l)) (fun k => v27 (ix2 k l)) := by
  pointwise [k0_pay12, hid]

theorem pay16 (v23 : Vec F S256x2048 .bf16) (v24 v27 : Vec F S2048x512 .bf16) (r : Fin 256) (l : Fin 512) :
    k0_pay16 v23 v24 v27 (ix2 r l) = hid (fun k => v23 (ix2 r k)) (fun k => v24 (ix2 k l)) (fun k => v27 (ix2 k l)) := by
  pointwise [k0_pay16, hid]

theorem pay24 (v23 : Vec F S256x2048 .bf16) (v24 v27 : Vec F S2048x512 .bf16) (r : Fin 256) (l : Fin 512) :
    k0_pay24 v23 v24 v27 (ix2 r l) = hid (fun k => v23 (ix2 r k)) (fun k => v24 (ix2 k l)) (fun k => v27 (ix2 k l)) := by
  pointwise [k0_pay24, hid]

/-- A later part of the down projection, added to what is there. -/
theorem pay2 (v37 : FVec F S1024x512 .bf16) (v38 : Vec F S512x2048 .bf16) (v41 : Vec F S1024x2048 .f32) (r : Fin 1024) (n : Fin 2048) :
    k0_pay2 v37 v38 v41 (ix2 r n) = v41 (ix2 r n) + ∑ l : Fin 512, v37 (ix2 r l) * v38 (ix2 l n) := by
  pointwise [k0_pay2]

theorem pay18 (v79 : Vec F S256x2048 .bf16) (v80 v83 : Vec F S2048x512 .bf16) (v94 : Vec F S512x2048 .bf16) (v97 : Vec F S256x2048 .f32)
    (r : Fin 256) (n : Fin 2048) : k0_pay18 v79 v80 v83 v94 v97 (ix2 r n)
      = v97 (ix2 r n) + ∑ l : Fin 512, hid (fun k => v79 (ix2 r k)) (fun k => v80 (ix2 k l)) (fun k => v83 (ix2 k l)) * v94 (ix2 l n) := by
  pointwise [k0_pay18, hid]

theorem pay26 (v79 : Vec F S256x2048 .bf16) (v80 v83 : Vec F S2048x512 .bf16) (v94 : Vec F S512x2048 .bf16) (v97 : Vec F S256x2048 .f32)
    (r : Fin 256) (n : Fin 2048) : k0_pay26 v79 v80 v83 v94 v97 (ix2 r n)
      = v97 (ix2 r n) + ∑ l : Fin 512, hid (fun k => v79 (ix2 r k)) (fun k => v80 (ix2 k l)) (fun k => v83 (ix2 k l)) * v94 (ix2 l n) := by
  pointwise [k0_pay26, hid]

theorem pay23 (v99 : FVec F S256x2048 .f32) (v100 : Vec F S256x2048 .f32) (v104 v106 v108 : FVec F S1x2048 .f32) (r : Fin 256) (n : Fin 2048) :
    k0_pay23 v99 v100 v104 v106 v108 k0_pay22 (ix2 r n)
      = norm (fun n => v100 (ix2 r n) + v104 (ix2 0 n) * ia * v99 (ix2 r n)) ea n * v106 (ix2 0 n) + v108 (ix2 0 n) := by
  pointwise [k0_pay23, k0_pay22, norm, mean, ia, ea]

theorem pay3 (v99 : FVec F S256x2048 .f32) (v100 : Vec F S256x2048 .f32) (v104 v106 v108 : FVec F S1x2048 .f32) (r : Fin 256) (n : Fin 2048) :
    k0_pay3 v99 v100 v104 v106 v108 k0_pay30 (ix2 r n)
      = norm (fun n => v100 (ix2 r n) + v104 (ix2 0 n) * ia * v99 (ix2 r n)) ea n * v106 (ix2 0 n) + v108 (ix2 0 n) := by
  pointwise [k0_pay3, k0_pay30, norm, mean, ia, ea]

theorem pay17 (v37 : FVec F S256x512 .bf16) (v38 : Vec F S512x2048 .bf16) (v41 v44 : Vec F S256x2048 .f32) (v45 : Vec F S1x1x2048 .f32)
    (v49 v51 : Vec F S1x2048 .f32) (r : Fin 256) (n : Fin 2048) :
    k0_pay17 v37 v38 v41 v44 v45 v49 v51 (ix2 r n)
      = norm (pre (fun n => v44 (ix2 r n)) (fun n => v45 (ix3 0 0 n)) fun n => v41 (ix2 r n) + ∑ l : Fin 512, v37 (ix2 r l) * v38 (ix2 l n)) ea n
        * v49 (ix2 0 n) + v51 (ix2 0 n) := by
  pointwise [k0_pay17, norm, mean, pre, ia, ea]

theorem pay25 (v37 : FVec F S256x512 .bf16) (v38 : Vec F S512x2048 .bf16) (v41 v44 : Vec F S256x2048 .f32) (v45 : Vec F S1x1x2048 .f32)
    (v49 v51 : Vec F S1x2048 .f32) (r : Fin 256) (n : Fin 2048) :
    k0_pay25 v37 v38 v41 v44 v45 v49 v51 (ix2 r n)
      = norm (pre (fun n => v44 (ix2 r n)) (fun n => v45 (ix3 0 0 n)) fun n => v41 (ix2 r n) + ∑ l : Fin 512, v37 (ix2 r l) * v38 (ix2 l n)) ea n
        * v49 (ix2 0 n) + v51 (ix2 0 n) := by
  pointwise [k0_pay25, norm, mean, pre, ia, ea]

theorem pay19 (v101 : Vec F S1x1x2048 .f32) (n : Fin 2048) : k0_pay19 v101 (ix2 0 n) = Ideal.ofBits .f32 0x3F000000#32 * v101 (ix3 0 0 n) := by
  pointwise [k0_pay19]

theorem pay27 (v101 : Vec F S1x1x2048 .f32) (n : Fin 2048) : k0_pay27 v101 (ix2 0 n) = Ideal.ofBits .f32 0x3F000000#32 * v101 (ix3 0 0 n) := by
  pointwise [k0_pay27]

theorem pay20 (v : Vec F S1x2048 .f32) (n : Fin 2048) : k0_pay20 v (ix2 0 n) = v (ix2 0 n) := by pointwise [k0_pay20]
theorem pay21 (v : Vec F S1x2048 .f32) (n : Fin 2048) : k0_pay21 v (ix2 0 n) = v (ix2 0 n) := by pointwise [k0_pay21]
theorem pay28 (v : Vec F S1x2048 .f32) (n : Fin 2048) : k0_pay28 v (ix2 0 n) = v (ix2 0 n) := by pointwise [k0_pay28]
theorem pay29 (v : Vec F S1x2048 .f32) (n : Fin 2048) : k0_pay29 v (ix2 0 n) = v (ix2 0 n) := by pointwise [k0_pay29]

/-- The weights in the other format. -/
theorem pay4 (v : Vec F S1x1x64x512 .f32) (r : Fin 64) (n : Fin 512) : k0_pay4 v (ix2 r n) = v (ix4 0 0 r n) := by pointwise [k0_pay4]
theorem pay5 (v : Vec F S1x1x64x512 .f32) (r : Fin 64) (n : Fin 512) : k0_pay5 v (ix2 r n) = v (ix4 0 0 r n) := by pointwise [k0_pay5]
theorem pay9 (v : Vec F S1x1x64x512 .f32) (r : Fin 64) (n : Fin 512) : k0_pay9 v (ix2 r n) = v (ix4 0 0 r n) := by pointwise [k0_pay9]
theorem pay10 (v : Vec F S1x1x64x512 .f32) (r : Fin 64) (n : Fin 512) : k0_pay10 v (ix2 r n) = v (ix4 0 0 r n) := by pointwise [k0_pay10]
theorem pay13 (v : Vec F S1x1x64x512 .f32) (r : Fin 64) (n : Fin 512) : k0_pay13 v (ix2 r n) = v (ix4 0 0 r n) := by pointwise [k0_pay13]
theorem pay14 (v : Vec F S1x1x64x512 .f32) (r : Fin 64) (n : Fin 512) : k0_pay14 v (ix2 r n) = v (ix4 0 0 r n) := by pointwise [k0_pay14]
theorem pay6 (v : Vec F S1x1x16x2048 .f32) (r : Fin 16) (n : Fin 2048) : k0_pay6 v (ix2 r n) = v (ix4 0 0 r n) := by pointwise [k0_pay6]
theorem pay11 (v : Vec F S1x1x16x2048 .f32) (r : Fin 16) (n : Fin 2048) : k0_pay11 v (ix2 r n) = v (ix4 0 0 r n) := by pointwise [k0_pay11]
theorem pay15 (v : Vec F S1x1x16x2048 .f32) (r : Fin 16) (n : Fin 2048) : k0_pay15 v (ix2 r n) = v (ix4 0 0 r n) := by pointwise [k0_pay15]

end Cert.FfnPay

end
-- ==== Proof.FfnBlocks.lean ====
/- The feed-forward kernel's input blocks, read from the call's arguments. -/
module

public import proofs.«01_k».proof.Proof.Gen.FfnIdeal.Value
public import proofs.«01_k».proof.Proof.FfnPay
public import Idealize.ShloMosaic.Lib.Pipeline.ValueKit
public import Idealize.ShloMosaic.Lib.Pointwise

@[expose] public section

noncomputable section

namespace Cert.FfnBlocks

open Cert.FfnIdeal Cert.FfnIdeal.Gen Cert.FfnPay
open Idealize.ShloMosaic Idealize.ShloMosaic.TcCoe Idealize.ShloMosaic.Pipeline
open scoped Idealize.ShloMosaic

variable (m : (ℓ : Loc nD τ sig) → Buf (Elt F) ℓ) (c : Dev nD)

/-- The block that every window reads or writes at grid point `t`, which stands for row tile `t / 11` and chunk `t % 11`. -/
theorem idx : ∀ t : Fin cfg0.N, win0_0.index t = ![t.val / 11, 0]
    ∧ win0_1.index t = ![t.val / 44, 0, 0]
    ∧ win0_2.index t = ![0, t.val % 11]
    ∧ win0_3.index t = ![0, t.val % 11]
    ∧ win0_4.index t = ![t.val % 11, 0]
    ∧ win0_5.index t = ![0, 0]
    ∧ win0_6.index t = ![0, 0]
    ∧ win0_7.index t = ![0, 1, t.val / 11, t.val % 11]
    ∧ win0_8.index t = ![0, 1, t.val / 11, t.val % 11]
    ∧ win0_9.index t = ![0, 1, t.val, 0]
    ∧ win0_10.index t = ![t.val / 11, 0]
    ∧ win0_11.index t = ![t.val / 11, t.val % 11]
    ∧ win0_12.index t = ![t.val / 11, t.val % 11]
    ∧ win0_13.index t = ![t.val, 0] :=
  (by decide +kernel : ∀ t : Fin grid0.N, _)

theorem lt (t : Fin cfg0.N) : t.val < 352 := t.isLt

/-- A row of the tile, in the array. -/
def row (t : Fin cfg0.N) (r : Fin 1024) : Fin 32768 := ⟨t.val / 11 * 1024 + r.val, by have := lt t; omega⟩

/-- A lane of the chunk, in the hidden row. -/
def lane (t : Fin cfg0.N) (l : Fin 512) : Fin 5632 := ⟨t.val % 11 * 512 + l.val, by omega⟩

/-- The batch of a row. -/
def bat (R : Fin 32768) : Fin 8 := ⟨R.val / 4096, by omega⟩

/-- The ten arguments. -/
def aX : FVec F S32768x2048 .f32 := m ((c.tc : Thread nD τ).loc main_arg0)
def aM : FVec F S8x9x2048 .f32 := m ((c.tc : Thread nD τ).loc main_arg1)
def aG : FVec F S2048x5632 .f32 := m ((c.tc : Thread nD τ).loc main_arg2)
def aU : FVec F S2048x5632 .f32 := m ((c.tc : Thread nD τ).loc main_arg3)
def aD : FVec F S5632x2048 .f32 := m ((c.tc : Thread nD τ).loc main_arg4)
def aW : FVec F S2048 .f32 := m ((c.tc : Thread nD τ).loc main_arg5)
def aB : FVec F S2048 .f32 := m ((c.tc : Thread nD τ).loc main_arg6)
def aNG : FVec F S4x2x2048x5632 .f32 := m ((c.tc : Thread nD τ).loc main_arg7)
def aNU : FVec F S4x2x2048x5632 .f32 := m ((c.tc : Thread nD τ).loc main_arg8)
def aND : FVec F S4x2x5632x2048 .f32 := m ((c.tc : Thread nD τ).loc main_arg9)

theorem b0 (t : Fin cfg0.N) (r : Fin 1024) (n : Fin 2048) :
    (iblk m c 0 t : FVec F S1024x2048 .f32) (ix2 r n) = aX m c (ix2 (row t r) n) := by
  blk_ext [iblk, V, idx t, aX, row]

theorem b1 (t : Fin cfg0.N) (r : Fin 1024) (j : Fin 9) (n : Fin 2048) :
    (iblk m c 1 t : FVec F S1x9x2048 .f32) (ix3 0 j n) = aM m c (ix3 (bat (row t r)) j n) := by
  blk_ext [iblk, V, idx t, aM, row, bat]

theorem b2 (t : Fin cfg0.N) (k : Fin 2048) (l : Fin 512) :
    (iblk m c 2 t : FVec F S2048x512 .bf16) (ix2 k l) = aG m c (ix2 k (lane t l)) := by
  blk_simp [iblk, idx t]
  entry_read
  pointwise []
  blk_ext [idx t, aG, lane]

theorem b3 (t : Fin cfg0.N) (k : Fin 2048) (l : Fin 512) :
    (iblk m c 3 t : FVec F S2048x512 .bf16) (ix2 k l) = aU m c (ix2 k (lane t l)) := by
  blk_simp [iblk, idx t]
  entry_read
  pointwise []
  blk_ext [idx t, aU, lane]

theorem b4 (t : Fin cfg0.N) (l : Fin 512) (n : Fin 2048) :
    (iblk m c 4 t : FVec F S512x2048 .bf16) (ix2 l n) = aD m c (ix2 (lane t l) n) := by
  blk_simp [iblk, idx t]
  entry_read
  pointwise []
  blk_ext [idx t, aD, lane]

theorem b5 (t : Fin cfg0.N) (n : Fin 2048) :
    (iblk m c 5 t : FVec F S1x2048 .f32) (ix2 0 n) = aW m c (ix1 n) := by
  blk_simp [iblk, idx t]
  entry_read
  pointwise []
  blk_ext [idx t, aW]

theorem b6 (t : Fin cfg0.N) (n : Fin 2048) :
    (iblk m c 6 t : FVec F S1x2048 .f32) (ix2 0 n) = aB m c (ix1 n) := by
  blk_simp [iblk, idx t]
  entry_read
  pointwise []
  blk_ext [idx t, aB]

/-- The next weights' rows and columns at a grid point. -/
def nrow (t : Fin cfg0.N) (r : Fin 64) : Fin 2048 := ⟨t.val / 11 * 64 + r.val, by have := lt t; omega⟩
def drow (t : Fin cfg0.N) (r : Fin 16) : Fin 5632 := ⟨t.val * 16 + r.val, by have := lt t; omega⟩

theorem b7 (t : Fin cfg0.N) (r : Fin 64) (l : Fin 512) :
    (iblk m c 7 t : FVec F S1x1x64x512 .f32) (ix4 0 0 r l) = aNG m c (ix4 0 1 (nrow t r) (lane t l)) := by
  blk_ext [iblk, V, idx t, aNG, nrow, lane]

theorem b8 (t : Fin cfg0.N) (r : Fin 64) (l : Fin 512) :
    (iblk m c 8 t : FVec F S1x1x64x512 .f32) (ix4 0 0 r l) = aNU m c (ix4 0 1 (nrow t r) (lane t l)) := by
  blk_ext [iblk, V, idx t, aNU, nrow, lane]

theorem b9 (t : Fin cfg0.N) (r : Fin 16) (n : Fin 2048) :
    (iblk m c 9 t : FVec F S1x1x16x2048 .f32) (ix4 0 0 r n) = aND m c (ix4 0 1 (drow t r) n) := by
  blk_ext [iblk, V, idx t, aND, drow]

end Cert.FfnBlocks

end
-- ==== Proof.FfnMath.lean ====
/- A row of the feed-forward block, and why scaling a row by a positive real does not change its layer norm. -/
module

public import proofs.«01_k».proof.Proof.FfnPay

@[expose] public section

noncomputable section

namespace Cert.FfnMath

open Cert.FfnIdeal Cert.FfnIdeal.Gen Cert.FfnPay
open Idealize.ShloMosaic Idealize.ShloMosaic.TcCoe

/-- A modulated row. -/
def aRow (x sh sc : Fin 2048 → EReal) (k : Fin 2048) : EReal := x k * (1 + sc k) + sh k

/-- One lane of the hidden row. -/
def hidR (a : Fin 2048 → EReal) (wg wu : Fin 2048 → Fin 5632 → EReal) (l : Fin 5632) : EReal :=
  hid a (fun k => wg k l) fun k => wu k l

/-- The hidden row times the down weights. -/
def dRow (a : Fin 2048 → EReal) (wg wu : Fin 2048 → Fin 5632 → EReal) (wd : Fin 5632 → Fin 2048 → EReal) (n : Fin 2048) : EReal :=
  ∑ l, hidR a wg wu l * wd l n

/-- The kernel's output row. -/
def outK (x sh sc g w b : Fin 2048 → EReal) (wg wu : Fin 2048 → Fin 5632 → EReal) (wd : Fin 5632 → Fin 2048 → EReal) (n : Fin 2048) : EReal :=
  norm (pre x g (dRow (aRow x sh sc) wg wu wd)) ea n * w n + b n

/-- `alpha`. -/
def al : EReal := Ideal.sqrt (Ideal.sqrt (Ideal.ofBits .f32 0x41000000#32))

/-- `1 + exp z` is never zero. -/
theorem one_add_exp_ne (z : EReal) : 1 + Ideal.exp z ≠ 0 := by
  have h : 0 ≤ Ideal.exp z := by
    induction z with
    | bot => exact le_rfl
    | top => exact le_top
    | coe r => exact EReal.coe_nonneg.mpr (Real.exp_pos r).le
  have h1 : (1 : EReal) ≤ 1 + Ideal.exp z := le_add_of_nonneg_right h
  exact (lt_of_lt_of_le zero_lt_one h1).ne'

/-- The kernel's swish is the reference's. -/
theorem silu (z : EReal) : Ideal.div z (1 + Ideal.exp (0 - z)) = z * Ideal.div 1 (1 + Ideal.exp (-z)) := by
  rw [zero_sub, Ideal.div, Ideal.div, if_neg (one_add_exp_ne _), if_neg (one_add_exp_ne _), one_mul]

/-- The real `alpha`. -/
def ar : ℝ := Real.sqrt (Real.sqrt 8)

theorem ar_pos : 0 < ar := Real.sqrt_pos.mpr (Real.sqrt_pos.mpr (by norm_num))

theorem word8 : Ideal.ofBits .f32 0x41000000#32 = ((8 : ℝ) : EReal) := by
  simp [Ideal.ofBits, Ideal.ieee]
  rw [← EReal.coe_mul]
  norm_num

theorem word2048 : Ideal.ofBits .f32 0x45000000#32 = ((2048 : ℝ) : EReal) := by
  simp [Ideal.ofBits, Ideal.ieee]
  rw [← EReal.coe_mul]
  norm_num

theorem word100000 : Ideal.ofBits .f32 0x47C35000#32 = ((100000 : ℝ) : EReal) := by
  simp [Ideal.ofBits, Ideal.ieee]
  rw [← EReal.coe_mul]
  norm_num

theorem sqrt_coe {x : ℝ} (h : 0 ≤ x) : Ideal.sqrt (x : EReal) = ((Real.sqrt x : ℝ) : EReal) := by
  show (if x < 0 then (⊥ : EReal) else _) = _
  rw [if_neg (not_lt.mpr h)]

theorem al_eq : al = ((ar : ℝ) : EReal) := by
  rw [al, word8, sqrt_coe (by norm_num), sqrt_coe (Real.sqrt_nonneg _)]
  rfl

theorem ia_eq : ia = ((ar⁻¹ : ℝ) : EReal) := rfl

theorem ea_eq : ea = ((1 / 100000 * (ar * ar)⁻¹ : ℝ) : EReal) := rfl

/-- A division by a nonzero real. -/
theorem div_real (x : EReal) {y : ℝ} (h : y ≠ 0) : Ideal.div x (y : EReal) = x * ((y⁻¹ : ℝ) : EReal) := by
  have e : ((y : ℝ) : EReal) ≠ 0 := by rw [← EReal.coe_zero, Ne, EReal.coe_eq_coe_iff]; exact h
  rw [Ideal.div, if_neg e, ← EReal.coe_inv]

/-- A positive real distributes over a sum. -/
theorem scale_add (r : ℝ) (h : 0 < r) (x y : EReal) : (r : EReal) * (x + y) = r * x + r * y :=
  EReal.left_distrib_of_nonneg_of_ne_top (EReal.coe_nonneg.mpr h.le) (EReal.coe_ne_top r) x y

theorem scale_sum (r : ℝ) (h : 0 < r) (f : Fin 2048 → EReal) : ∑ k, (r : EReal) * f k = r * ∑ k, f k := by
  have key : ∀ s : Finset (Fin 2048), ∑ k ∈ s, (r : EReal) * f k = r * ∑ k ∈ s, f k := fun s => by
    induction s using Finset.induction_on with
    | empty => simp
    | insert a s ha ih => rw [Finset.sum_insert ha, Finset.sum_insert ha, ih, scale_add r h]
  exact key _

theorem scale_sub (r : ℝ) (h : 0 < r) (x y : EReal) : (r : EReal) * x - r * y = r * (x - y) := by
  rw [sub_eq_add_neg, sub_eq_add_neg, scale_add r h, mul_neg]

/-- The mean of a scaled row. -/
theorem scale_mean (r : ℝ) (h : 0 < r) (x : Fin 2048 → EReal) : mean (fun k => (r : EReal) * x k) = r * mean x := by
  rw [mean, mean, scale_sum r h, word2048, div_real _ (by norm_num), div_real _ (by norm_num), mul_assoc]

/-- The reciprocal root of a scaled number. -/
theorem scale_rsqrt (r : ℝ) (h : 0 < r) (v : EReal) : Ideal.rsqrt (((r * r : ℝ) : EReal) * v) = ((r⁻¹ : ℝ) : EReal) * Ideal.rsqrt v := by
  have hr : 0 < r * r := mul_pos h h
  have hi : 0 < r⁻¹ := inv_pos.mpr h
  induction v with
  | bot =>
    rw [EReal.coe_mul_bot_of_pos hr]
    exact (EReal.coe_mul_bot_of_pos hi).symm
  | top =>
    rw [EReal.coe_mul_top_of_pos hr]
    exact (mul_zero _).symm
  | coe v =>
    rw [← EReal.coe_mul]
    show (if r * r * v < 0 then (⊥ : EReal) else if r * r * v = 0 then ⊤ else (((Real.sqrt (r * r * v))⁻¹ : ℝ) : EReal))
      = ((r⁻¹ : ℝ) : EReal) * (if v < 0 then (⊥ : EReal) else if v = 0 then ⊤ else (((Real.sqrt v)⁻¹ : ℝ) : EReal))
    rcases lt_trichotomy v 0 with hv | hv | hv
    · rw [if_pos (mul_neg_of_pos_of_neg hr hv), if_pos hv, EReal.coe_mul_bot_of_pos hi]
    · rw [hv, mul_zero, if_neg (lt_irrefl _), if_pos rfl, EReal.coe_mul_top_of_pos hi]
    · have hp : 0 < r * r * v := mul_pos hr hv
      rw [if_neg (not_lt.mpr hp.le), if_neg hp.ne', if_neg (not_lt.mpr hv.le), if_neg hv.ne', ← EReal.coe_mul,
        Real.sqrt_mul hr.le, Real.sqrt_mul_self h.le, mul_inv]

/-- A positive real over a row leaves its layer norm, when the number under the root scales with the square. -/
theorem scale_norm (r : ℝ) (h : 0 < r) (x : Fin 2048 → EReal) (e : EReal) (n : Fin 2048) :
    norm (fun k => (r : EReal) * x k) (((r * r : ℝ) : EReal) * e) n = norm x e n := by
  have hr : 0 < r * r := mul_pos h h
  have sq : ∀ y : EReal, (r : EReal) * y * (r * y) = ((r * r : ℝ) : EReal) * (y * y) := fun y => by
    rw [mul_mul_mul_comm, EReal.coe_mul]
  have un : ∀ y z : EReal, (r : EReal) * y * (((r⁻¹ : ℝ) : EReal) * z) = y * z := fun y z => by
    rw [mul_mul_mul_comm, ← EReal.coe_mul, mul_inv_cancel₀ h.ne', EReal.coe_one, one_mul]
  rw [Cert.FfnPay.norm, Cert.FfnPay.norm, scale_mean r h]
  simp only [scale_sub r h, sq]
  rw [scale_sum _ hr, word2048, div_real _ (by norm_num), div_real _ (by norm_num), mul_assoc ((r * r : ℝ) : EReal), ← scale_add _ hr, scale_rsqrt r h, un]

/-- The reference's row is the kernel's, scaled by `alpha`. -/
theorem scale_pre (h g d : Fin 2048 → EReal) (n : Fin 2048) :
    al * h n + Ideal.ofBits .f32 0x3F000000#32 * g n * d n = (ar : EReal) * pre h g d n := by
  have e : (ar : EReal) * ia = 1 := by rw [ia_eq, ← EReal.coe_mul, mul_inv_cancel₀ ar_pos.ne', EReal.coe_one]
  rw [pre, scale_add _ ar_pos, al_eq, mul_comm (Ideal.ofBits .f32 0x3F000000#32 * g n) ia, mul_assoc ia, ← mul_assoc (ar : EReal) ia, e, one_mul]

/-- The reference's layer norm is the kernel's. -/
theorem norm_ref (h g d : Fin 2048 → EReal) (n : Fin 2048) :
    norm (fun n => al * h n + Ideal.ofBits .f32 0x3F000000#32 * g n * d n) (Ideal.div 1 (Ideal.ofBits .f32 0x47C35000#32)) n
      = norm (pre h g d) ea n := by
  rw [funext (scale_pre h g d), ← scale_norm ar ar_pos (pre h g d) ea n]
  congr 1
  rw [ea_eq, word100000, div_real _ (by norm_num), one_mul, ← EReal.coe_mul, EReal.coe_eq_coe_iff]
  have := ar_pos.ne'
  field_simp

end Cert.FfnMath

end
-- ==== Proof.FfnAccum.lean ====
/- What the feed-forward kernel's running sum and carried row hold at each grid point before the last of a tile. -/
module

public import proofs.«01_k».proof.Proof.FfnBlocks
public import proofs.«01_k».proof.Proof.FfnMath
public import Idealize.ShloMosaic.Lib.Pipeline.ReadBack

@[expose] public section

set_option maxRecDepth 16384

noncomputable section

namespace Cert.FfnAccum

open Cert.FfnIdeal Cert.FfnIdeal.Gen Cert.FfnPay Cert.FfnBlocks Cert.FfnMath
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The modulated row of row `R`. -/
def arow (R : Fin 32768) : Fin 2048 → EReal :=
  aRow (fun k => aX m c (ix2 R k)) (fun k => aM m c (ix3 (bat R) 0 k)) fun k => aM m c (ix3 (bat R) 1 k)

/-- Lane `l` of the sum that the down product of row `R` at `q` is. -/
def term (R : Fin 32768) (q : Fin 2048) (l : ℕ) : EReal :=
  if h : l < 5632 then
    hidR (arow m c R) (fun k l => aG m c (ix2 k l)) (fun k l => aU m c (ix2 k l)) ⟨l, h⟩ * aD m c (ix2 ⟨l, h⟩ q)
  else 0

/-- A row of the modulation block, as the kernel loads it. -/
theorem ld0 (B : FVec F S1x9x2048 .f32) (n : Fin 2048) :
    View.ld (Val := Elt F) (S := S1x9x2048) (e' := .f32) B (Rect.unit ![0, 0, 0] ![1, 1, 2048] inb_S1x9x2048_S1x1x2048_0_0_0) (ix3 0 0 n) = B (ix3 0 0 n) := by
  refine congrArg B (funext fun a => Fin.ext ?_)
  match a with
  | ⟨0, _⟩ => rfl
  | ⟨1, _⟩ => rfl
  | ⟨2, _⟩ => exact (Nat.zero_add _).trans (Nat.one_mul _)

theorem ld1 (B : FVec F S1x9x2048 .f32) (n : Fin 2048) :
    View.ld (Val := Elt F) (S := S1x9x2048) (e' := .f32) B (Rect.unit ![0, 1, 0] ![1, 1, 2048] inb_S1x9x2048_S1x1x2048_0_1_0) (ix3 0 0 n) = B (ix3 0 1 n) := by
  refine congrArg B (funext fun a => Fin.ext ?_)
  match a with
  | ⟨0, _⟩ => rfl
  | ⟨1, _⟩ => rfl
  | ⟨2, _⟩ => exact (Nat.zero_add _).trans (Nat.one_mul _)

theorem ld2 (B : FVec F S1x9x2048 .f32) (n : Fin 2048) :
    View.ld (Val := Elt F) (S := S1x9x2048) (e' := .f32) B (Rect.unit ![0, 2, 0] ![1, 1, 2048] inb_S1x9x2048_S1x1x2048_0_2_0) (ix3 0 0 n) = B (ix3 0 2 n) := by
  refine congrArg B (funext fun a => Fin.ext ?_)
  match a with
  | ⟨0, _⟩ => rfl
  | ⟨1, _⟩ => rfl
  | ⟨2, _⟩ => exact (Nat.zero_add _).trans (Nat.one_mul _)

/-- The chunk's part of the down product. -/
theorem chunk (t : Fin cfg0.N) (r : Fin 1024) (q : Fin 2048) (a : Fin 2048 → EReal) (ha : ∀ k, a k = arow m c (row t r) k) :
    ∑ l : Fin 512, hid a (fun k => (iblk m c 2 t : FVec F S2048x512 .bf16) (ix2 k l)) (fun k => (iblk m c 3 t : FVec F S2048x512 .bf16) (ix2 k l))
        * (iblk m c 4 t : FVec F S512x2048 .bf16) (ix2 l q)
      = ∑ l : Fin 512, term m c (row t r) q (t.val % 11 * 512 + l.val) := by
  refine Finset.sum_congr rfl fun l _ => ?_
  have hl : t.val % 11 * 512 + l.val < 5632 := by omega
  rw [term, dif_pos hl, funext ha, b4, funext fun k => b2 m c t k l, funext fun k => b3 m c t k l]
  rfl

/-- The modulated block of a tile. -/
theorem modB (X : FVec F S1024x2048 .f32) (B : FVec F S1x9x2048 .f32) (R : Fin 32768) (r : Fin 1024) (k : Fin 2048)
    (hX : X (ix2 r k) = aX m c (ix2 R k)) (hB : ∀ j, B (ix3 0 j k) = aM m c (ix3 (bat R) j k)) :
    X (ix2 r k) * (1 + View.ld (Val := Elt F) (S := S1x9x2048) (e' := .f32) B (Rect.unit ![0, 1, 0] ![1, 1, 2048] inb_S1x9x2048_S1x1x2048_0_1_0) (ix3 0 0 k))
        + View.ld (Val := Elt F) (S := S1x9x2048) (e' := .f32) B (Rect.unit ![0, 0, 0] ![1, 1, 2048] inb_S1x9x2048_S1x1x2048_0_0_0) (ix3 0 0 k)
      = arow m c R k := by
  rw [ld0, ld1, hX, hB, hB]
  rfl

/-- The first point of a tile leaves the first chunk's sum. -/
theorem outA (t : Fin cfg0.N) (h0 : t.val % 11 = 0) (r : Fin 1024) (q : Fin 2048) :
    ((outsAt0 m c t.val t.isLt).1 : FVec F S1024x2048 .f32) (ix2 r q) = ∑ l : Fin 512, term m c (row t r) q (t.val % 11 * 512 + l.val) := by
  rw [outsAt0_A m c t h0 (by omega) (by omega)]
  frame_out
  refine (pay1 _ _ _ _ r q).trans ?_
  exact chunk m c t r q _ fun k => (pay7 _ _ _ r k).trans (modB m c (iblk m c 0 t) (iblk m c 1 t) (row t r) r k (b0 m c t r k) fun j => b1 m c t r j k)

/-- … and the modulated tile. -/
theorem outAs (t : Fin cfg0.N) (h0 : t.val % 11 = 0) (r : Fin 1024) (k : Fin 2048) :
    ((outsAt0 m c t.val t.isLt).2.2.2.2 : FVec F S1024x2048 .bf16) (ix2 r k) = arow m c (row t r) k := by
  rw [outsAt0_A m c t h0 (by omega) (by omega)]
  frame_out
  exact (pay8 _ _ _ r k).trans (modB m c (iblk m c 0 t) (iblk m c 1 t) (row t r) r k (b0 m c t r k) fun j => b1 m c t r j k)

/-- The point before. -/
theorem prev_lt (t : Fin cfg0.N) : t.val - 1 < cfg0.N := lt_of_le_of_lt (Nat.sub_le _ _) t.isLt

/-- A middle point adds its chunk to what the point before left. -/
theorem outB (t : Fin cfg0.N) (h1 : 1 ≤ t.val % 11 ∧ t.val % 11 ≤ 9) (r : Fin 1024) (q : Fin 2048)
    (hs : ∀ k, ((outsAt0 m c (t.val - 1) (prev_lt t)).2.2.2.2 : FVec F S1024x2048 .bf16) (ix2 r k) = arow m c (row t r) k) :
    ((outsAt0 m c t.val t.isLt).1 : FVec F S1024x2048 .f32) (ix2 r q)
      = ((outsAt0 m c (t.val - 1) (prev_lt t)).1 : FVec F S1024x2048 .f32) (ix2 r q) + ∑ l : Fin 512, term m c (row t r) q (t.val % 11 * 512 + l.val) := by
  rw [outsAt0_B m c t (by omega) h1 (by omega)]
  frame_out
  refine (pay2 _ _ _ r q).trans ?_
  refine congrArg (_ + ·) ((Finset.sum_congr rfl fun l _ => congrArg (· * _) (pay12 _ _ _ r l)).trans ?_)
  refine chunk m c t r q _ fun k => ?_
  rw [read_unread_whole]
  exact hs k

/-- … and keeps the modulated tile. -/
theorem outBs (t : Fin cfg0.N) (h1 : 1 ≤ t.val % 11 ∧ t.val % 11 ≤ 9) :
    ((outsAt0 m c t.val t.isLt).2.2.2.2 : FVec F S1024x2048 .bf16) = (outsAt0 m c (t.val - 1) (prev_lt t)).2.2.2.2 := by
  rw [outsAt0_B m c t (by omega) h1 (by omega)]
  rfl

/-- A sum over the lanes so far, and one chunk more. -/
theorem sum_chunk (f : ℕ → EReal) (a : ℕ) :
    ∑ i ∈ Finset.range ((a + 1) * 512), f i = ∑ i ∈ Finset.range (a * 512), f i + ∑ l : Fin 512, f (a * 512 + l.val) := by
  rw [Nat.add_mul, Nat.one_mul, Finset.sum_range_add]
  exact congrArg (_ + ·) (Fin.sum_univ_eq_sum_range (fun x => f (a * 512 + x)) 512).symm

/-- Before the last point of a tile: the carried tile is the modulated one, and the running sum is over the lanes so far. -/
theorem accum (n : ℕ) : ∀ hn : n < cfg0.N, n % 11 ≠ 10 →
    (∀ r k, ((outsAt0 m c n hn).2.2.2.2 : FVec F S1024x2048 .bf16) (ix2 r k) = arow m c (row ⟨n, hn⟩ r) k)
      ∧ ∀ r q, ((outsAt0 m c n hn).1 : FVec F S1024x2048 .f32) (ix2 r q) = ∑ i ∈ Finset.range ((n % 11 + 1) * 512), term m c (row ⟨n, hn⟩ r) q i := by
  have caseA : ∀ n (hn : n < cfg0.N), n % 11 = 0 →
      (∀ r k, ((outsAt0 m c n hn).2.2.2.2 : FVec F S1024x2048 .bf16) (ix2 r k) = arow m c (row ⟨n, hn⟩ r) k)
        ∧ ∀ r q, ((outsAt0 m c n hn).1 : FVec F S1024x2048 .f32) (ix2 r q) = ∑ i ∈ Finset.range ((n % 11 + 1) * 512), term m c (row ⟨n, hn⟩ r) q i := by
    intro n hn h0
    refine ⟨fun r k => outAs m c ⟨n, hn⟩ h0 r k, fun r q => (outA m c ⟨n, hn⟩ h0 r q).trans ?_⟩
    rw [sum_chunk, h0, Nat.zero_mul, Finset.range_zero, Finset.sum_empty, zero_add]
  induction n with
  | zero => exact fun hn _ => caseA 0 hn (Nat.zero_mod _)
  | succ n ih =>
    intro hn h10
    by_cases h0 : (n + 1) % 11 = 0
    · exact caseA (n + 1) hn h0
    · have hp : n < cfg0.N := Nat.lt_of_succ_lt hn
      have h1 : 1 ≤ (n + 1) % 11 ∧ (n + 1) % 11 ≤ 9 := by omega
      obtain ⟨is, ia⟩ := ih hp (by omega)
      have er : ∀ r, row ⟨n + 1, hn⟩ r = row ⟨n, hp⟩ r := fun r => Fin.ext (by
        show (n + 1) / 11 * 1024 + r.val = n / 11 * 1024 + r.val
        rw [show (n + 1) / 11 = n / 11 by omega])
      have em : n % 11 + 1 = (n + 1) % 11 := by omega
      refine ⟨fun r k => ?_, fun r q => ?_⟩
      · rw [er]
        exact (congrFun (outBs m c ⟨n + 1, hn⟩ h1) (ix2 r k)).trans (is r k)
      · refine (outB m c ⟨n + 1, hn⟩ h1 r q fun k => ?_).trans ?_
        · rw [er]
          exact is r k
        · rw [sum_chunk, er, ← em]
          exact congrArg₂ (· + ·) (ia r q) (by simp only [em])

end Cert.FfnAccum

end
-- ==== Proof.FfnTile.lean ====
/- What the feed-forward kernel writes at the last grid point of a tile. -/
module

public import proofs.«01_k».proof.Proof.FfnAccum

@[expose] public section

set_option maxRecDepth 16384

noncomputable section

namespace Cert.FfnTile

open Cert.FfnIdeal Cert.FfnIdeal.Gen Cert.FfnPay Cert.FfnBlocks Cert.FfnMath Cert.FfnAccum
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The first result's row, from the arguments. -/
def orow (R : Fin 32768) (q : Fin 2048) : EReal :=
  outK (fun k => aX m c (ix2 R k)) (fun k => aM m c (ix3 (bat R) 0 k)) (fun k => aM m c (ix3 (bat R) 1 k)) (fun k => aM m c (ix3 (bat R) 2 k))
    (fun k => aW m c (ix1 k)) (fun k => aB m c (ix1 k)) (fun k l => aG m c (ix2 k l)) (fun k l => aU m c (ix2 k l)) (fun l n => aD m c (ix2 l n)) q

/-- The down product of a row, over all its lanes. -/
theorem total (R : Fin 32768) (q : Fin 2048) : ∑ i ∈ Finset.range 5632, term m c R q i
    = dRow (arow m c R) (fun k l => aG m c (ix2 k l)) (fun k l => aU m c (ix2 k l)) (fun l n => aD m c (ix2 l n)) q := by
  rw [← Fin.sum_univ_eq_sum_range, dRow]
  exact Finset.sum_congr rfl fun l _ => dif_pos l.isLt

/-- The running sum and the last chunk make the down product. -/
theorem lastSum (t : Fin cfg0.N) (h : t.val % 11 = 10) (r : Fin 1024) (q : Fin 2048) :
    ((outsAt0 m c (t.val - 1) (prev_lt t)).1 : FVec F S1024x2048 .f32) (ix2 r q)
        + ∑ l : Fin 512, hid (fun k => ((outsAt0 m c (t.val - 1) (prev_lt t)).2.2.2.2 : FVec F S1024x2048 .bf16) (ix2 r k))
            (fun k => (iblk m c 2 t : FVec F S2048x512 .bf16) (ix2 k l)) (fun k => (iblk m c 3 t : FVec F S2048x512 .bf16) (ix2 k l))
          * (iblk m c 4 t : FVec F S512x2048 .bf16) (ix2 l q)
      = dRow (arow m c (row t r)) (fun k l => aG m c (ix2 k l)) (fun k l => aU m c (ix2 k l)) (fun l n => aD m c (ix2 l n)) q := by
  obtain ⟨is, ia⟩ := accum m c (t.val - 1) (prev_lt t) (by omega)
  have er : row ⟨t.val - 1, prev_lt t⟩ r = row t r := Fin.ext (by
    show (t.val - 1) / 11 * 1024 + r.val = t.val / 11 * 1024 + r.val
    rw [show (t.val - 1) / 11 = t.val / 11 by omega])
  rw [chunk m c t r q _ fun k => (is r k).trans (by rw [er]), ia, er, show (t.val - 1) % 11 + 1 = 10 by omega, h, ← sum_chunk (term m c (row t r) q) 10]
  exact total m c _ q

/-- A quarter of a tile, as the kernel loads it. -/
theorem ldq {e : EltTy} (X : Vec F S1024x2048 e) (o : ℕ) (inb) (ρ : Fin 256) (n : Fin 2048) (r : Fin 1024) (hr : r.val = o + ρ.val) :
    View.ld (Val := Elt F) (S := S1024x2048) (e' := e) X (Rect.unit (s := S1024x2048) ![o, 0] ![256, 2048] inb) (ix2 ρ n) = X (ix2 r n) := by
  refine congrArg X (funext fun a => Fin.ext ?_)
  match a with
  | ⟨0, _⟩ => exact (congrArg (o + ·) (Nat.one_mul _)).trans hr.symm
  | ⟨1, _⟩ => exact (Nat.zero_add _).trans (Nat.one_mul _)

/-- An index is its two coordinates. -/
theorem ixEq (x : S256x2048.Idx) : x = ix2 ⟨(x 0).val, (x 0).isLt⟩ ⟨(x 1).val, (x 1).isLt⟩ := by
  funext a
  match a with
  | ⟨0, _⟩ => rfl
  | ⟨1, _⟩ => rfl

section Pieces

variable (X acc : FVec F S1024x2048 .f32) (scr : FVec F S1024x2048 .bf16) (B : FVec F S1x9x2048 .f32) (G U : FVec F S2048x512 .bf16)
  (D : FVec F S512x2048 .bf16) (w b : FVec F S1x2048 .f32) (ρ : Fin 256) (κ : Fin 2048) (r : Fin 1024)

/-- The entry that the last point computes of a tile's arrays. -/
def entry : EReal :=
  Cert.FfnPay.norm (pre (fun n => X (ix2 r n)) (fun n => B (ix3 0 2 n)) fun n => acc (ix2 r n)
    + ∑ l : Fin 512, hid (fun k => scr (ix2 r k)) (fun k => G (ix2 k l)) (fun k => U (ix2 k l)) * D (ix2 l n)) ea κ * w (ix2 0 κ) + b (ix2 0 κ)

/-- Quarter 3 of a tile. -/
theorem quarter3 (hr : r.val = 768 + ρ.val) :
    k0_pay3 (k0_pay26 (View.ld (Val := Elt F) (S := S1024x2048) (e' := .bf16) scr (Rect.unit (s := S1024x2048) ![768, 0] ![256, 2048] inb_S1024x2048_S256x2048_768_0))
        G U D (View.ld (Val := Elt F) (S := S1024x2048) (e' := .f32) acc (Rect.unit (s := S1024x2048) ![768, 0] ![256, 2048] inb_S1024x2048_S256x2048_768_0)))
      (View.ld (Val := Elt F) (S := S1024x2048) (e' := .f32) X (Rect.unit (s := S1024x2048) ![768, 0] ![256, 2048] inb_S1024x2048_S256x2048_768_0))
      (k0_pay27 (View.ld (Val := Elt F) (S := S1x9x2048) (e' := .f32) B (Rect.unit (s := S1x9x2048) ![0, 2, 0] ![1, 1, 2048] inb_S1x9x2048_S1x1x2048_0_2_0)))
      (k0_pay28 w) (k0_pay29 b) k0_pay30 (ix2 ρ κ) = entry X acc scr B G U D w b κ r := by
  rw [pay3, pay28, pay29, entry]
  refine congrArg (fun f => Cert.FfnPay.norm f ea κ * _ + _) (funext fun n => ?_)
  rw [pay27, pay26]
  exact congrArg₂ (· + ·) (ldq (e := .f32) X 768 _ ρ n r hr) (congrArg₂ (fun z v => Ideal.ofBits .f32 0x3F000000#32 * z * ia * v) (ld2 B n)
    (congrArg₂ (· + ·) (ldq (e := .f32) acc 768 _ ρ n r hr) (Finset.sum_congr rfl fun l _ => congrArg (fun a => hid a _ _ * _)
      (funext fun k => ldq (e := .bf16) scr 768 _ ρ k r hr))))

/-- Quarter 1 of a tile. -/
theorem quarter1 (hr : r.val = 256 + ρ.val) :
    k0_pay23 (k0_pay18 (View.ld (Val := Elt F) (S := S1024x2048) (e' := .bf16) scr (Rect.unit (s := S1024x2048) ![256, 0] ![256, 2048] inb_S1024x2048_S256x2048_256_0))
        G U D (View.ld (Val := Elt F) (S := S1024x2048) (e' := .f32) acc (Rect.unit (s := S1024x2048) ![256, 0] ![256, 2048] inb_S1024x2048_S256x2048_256_0)))
      (View.ld (Val := Elt F) (S := S1024x2048) (e' := .f32) X (Rect.unit (s := S1024x2048) ![256, 0] ![256, 2048] inb_S1024x2048_S256x2048_256_0))
      (k0_pay19 (View.ld (Val := Elt F) (S := S1x9x2048) (e' := .f32) B (Rect.unit (s := S1x9x2048) ![0, 2, 0] ![1, 1, 2048] inb_S1x9x2048_S1x1x2048_0_2_0)))
      (k0_pay20 w) (k0_pay21 b) k0_pay22 (ix2 ρ κ) = entry X acc scr B G U D w b κ r := by
  rw [pay23, pay20, pay21, entry]
  refine congrArg (fun f => Cert.FfnPay.norm f ea κ * _ + _) (funext fun n => ?_)
  rw [pay19, pay18]
  exact congrArg₂ (· + ·) (ldq (e := .f32) X 256 _ ρ n r hr) (congrArg₂ (fun z v => Ideal.ofBits .f32 0x3F000000#32 * z * ia * v) (ld2 B n)
    (congrArg₂ (· + ·) (ldq (e := .f32) acc 256 _ ρ n r hr) (Finset.sum_congr rfl fun l _ => congrArg (fun a => hid a _ _ * _)
      (funext fun k => ldq (e := .bf16) scr 256 _ ρ k r hr))))

/-- Quarter 2 of a tile. -/
theorem quarter2 (hr : r.val = 512 + ρ.val) :
    k0_pay25 (k0_pay24 (View.ld (Val := Elt F) (S := S1024x2048) (e' := .bf16) scr (Rect.unit (s := S1024x2048) ![512, 0] ![256, 2048] inb_S1024x2048_S256x2048_512_0)) G U)
      D (View.ld (Val := Elt F) (S := S1024x2048) (e' := .f32) acc (Rect.unit (s := S1024x2048) ![512, 0] ![256, 2048] inb_S1024x2048_S256x2048_512_0))
      (View.ld (Val := Elt F) (S := S1024x2048) (e' := .f32) X (Rect.unit (s := S1024x2048) ![512, 0] ![256, 2048] inb_S1024x2048_S256x2048_512_0))
      (View.ld (Val := Elt F) (S := S1x9x2048) (e' := .f32) B (Rect.unit (s := S1x9x2048) ![0, 2, 0] ![1, 1, 2048] inb_S1x9x2048_S1x1x2048_0_2_0))
      w b (ix2 ρ κ) = entry X acc scr B G U D w b κ r := by
  rw [pay25, entry]
  refine congrArg (fun f => Cert.FfnPay.norm f ea κ * _ + _) (funext fun n => ?_)
  exact congrArg₂ (· + ·) (ldq (e := .f32) X 512 _ ρ n r hr) (congrArg₂ (fun z v => Ideal.ofBits .f32 0x3F000000#32 * z * ia * v) (ld2 B n)
    (congrArg₂ (· + ·) (ldq (e := .f32) acc 512 _ ρ n r hr) (Finset.sum_congr rfl fun l _ => congrArg (· * _) ((pay24 _ _ _ ρ l).trans
      (congrArg (fun a => hid a _ _) (funext fun k => ldq (e := .bf16) scr 512 _ ρ k r hr))))))

/-- Quarter 0 of a tile. -/
theorem quarter0 (hr : r.val = 0 + ρ.val) :
    k0_pay17 (k0_pay16 (View.ld (Val := Elt F) (S := S1024x2048) (e' := .bf16) scr (Rect.unit (s := S1024x2048) ![0, 0] ![256, 2048] inb_S1024x2048_S256x2048_0_0)) G U)
      D (View.ld (Val := Elt F) (S := S1024x2048) (e' := .f32) acc (Rect.unit (s := S1024x2048) ![0, 0] ![256, 2048] inb_S1024x2048_S256x2048_0_0))
      (View.ld (Val := Elt F) (S := S1024x2048) (e' := .f32) X (Rect.unit (s := S1024x2048) ![0, 0] ![256, 2048] inb_S1024x2048_S256x2048_0_0))
      (View.ld (Val := Elt F) (S := S1x9x2048) (e' := .f32) B (Rect.unit (s := S1x9x2048) ![0, 2, 0] ![1, 1, 2048] inb_S1x9x2048_S1x1x2048_0_2_0))
      w b (ix2 ρ κ) = entry X acc scr B G U D w b κ r := by
  rw [pay17, entry]
  refine congrArg (fun f => Cert.FfnPay.norm f ea κ * _ + _) (funext fun n => ?_)
  exact congrArg₂ (· + ·) (ldq (e := .f32) X 0 _ ρ n r hr) (congrArg₂ (fun z v => Ideal.ofBits .f32 0x3F000000#32 * z * ia * v) (ld2 B n)
    (congrArg₂ (· + ·) (ldq (e := .f32) acc 0 _ ρ n r hr) (Finset.sum_congr rfl fun l _ => congrArg (· * _) ((pay16 _ _ _ ρ l).trans
      (congrArg (fun a => hid a _ _) (funext fun k => ldq (e := .bf16) scr 0 _ ρ k r hr))))))

end Pieces

/-- That entry, of a grid point's blocks and of what the point before left, is the result's. -/
theorem entry_eq (t : Fin cfg0.N) (h : t.val % 11 = 10) (r : Fin 1024) (q : Fin 2048) :
    entry (iblk m c 0 t) (outsAt0 m c (t.val - 1) (prev_lt t)).1 (outsAt0 m c (t.val - 1) (prev_lt t)).2.2.2.2 (iblk m c 1 t)
      (iblk m c 2 t) (iblk m c 3 t) (iblk m c 4 t) (iblk m c 5 t) (iblk m c 6 t) q r = orow m c (row t r) q := by
  rw [entry, orow, outK, funext (lastSum m c t h r), funext (b0 m c t r), funext (b1 m c t r 2), b5, b6]
  rfl

/-- The last point of a tile leaves the result's tile. -/
theorem outC (t : Fin cfg0.N) (h : t.val % 11 = 10) (y : S1024x2048.Idx) :
    ((outsAt0 m c t.val t.isLt).1 : FVec F S1024x2048 .f32) y = orow m c (row t ⟨(y 0).val, (y 0).isLt⟩) ⟨(y 1).val, (y 1).isLt⟩ := by
  rw [← entry_eq m c t h, outsAt0_C m c t (by omega) (by omega) h]
  frame_out
  canon_tiles x h
  case piece0 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter3 _ _ _ _ _ _ _ _ _ _ _ _ h0
  case piece1 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter2 _ _ _ _ _ _ _ _ _ _ _ _ h0
  case piece2 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter1 _ _ _ _ _ _ _ _ _ _ _ _ h0
  case piece3 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter0 _ _ _ _ _ _ _ _ _ _ _ _ (h0.trans (Nat.zero_add _).symm)

end Cert.FfnTile

end
-- ==== Proof.FfnRef.lean ====
/- The feed-forward reference at a batch, a row and a column. -/
module

public import proofs.«01_k».proof.Proof.Gen.FfnRefIdeal.Read
public import proofs.«01_k».proof.Proof.FfnMath
public import Idealize.ShloMosaic.Lib.Pointwise
public import Idealize.ShloMosaic.Lib.Pipeline.ValueKit

@[expose] public section

noncomputable section

namespace Cert.FfnRef

open Cert.FfnRefIdeal Cert.FfnRefIdeal.Gen Cert.FfnRefIdeal.Read Cert.FfnMath
open Idealize.ShloMosaic Idealize.ShloMosaic.TcCoe Idealize.ShloMosaic.Pointwise

/-- A batch's row, in the flat array. -/
def flat (b : Fin 8) (s : Fin 4096) : Fin 32768 := ⟨b.val * 4096 + s.val, by omega⟩

variable (x0 : FVec Ideal S32768x2048 .f32) (x1 : FVec Ideal S8x9x2048 .f32) (x2 x3 : FVec Ideal S2048x5632 .f32) (x4 : FVec Ideal S5632x2048 .f32)
  (x5 x6 : FVec Ideal S2048 .f32) (b : Fin 8) (s : Fin 4096)

/-- The residual. -/
theorem resid (n : Fin 2048) : val_main_v0 (F := Ideal) x0 (ix3 b s n) = x0 (ix2 (flat b s) n) := by
  pointwise [val_main_v0]
  rfl

/-- The modulated row. -/
def mrow : Fin 2048 → EReal := aRow (fun k => x0 (ix2 (flat b s) k)) (fun k => x1 (ix3 b 0 k)) fun k => x1 (ix3 b 1 k)

theorem modulated (k : Fin 2048) : val_main_v15 (F := Ideal) x0 x1 (ix3 b s k) = mrow x0 x1 b s k := by
  rw [val_main_v15_apply, val_main_v13_apply, resid]
  pointwise [val_main_v12, val_main_v11, val_main_v10, val_main_cst, val_main_v6, val_main_v5, val_main_v4, val_main_v14, val_main_v3, val_main_v2, val_main_v1]
  rfl

/-- The gate and up products. -/
theorem gate (l : Fin 5632) : val_main_v18 (F := Ideal) x0 x1 x2 (ix3 b s l) = ∑ k, mrow x0 x1 b s k * x2 (ix2 k l) := by
  rw [val_main_v18_apply]
  refine Finset.sum_congr rfl fun k _ => congrArg₂ (· * ·) ((congrArg _ ?_).trans (modulated x0 x1 b s k)) (congrArg x2 ?_)
  · funext a; match a with | ⟨0, _⟩ => rfl | ⟨1, _⟩ => rfl | ⟨2, _⟩ => rfl
  · funext a; match a with | ⟨0, _⟩ => rfl | ⟨1, _⟩ => rfl

theorem up (l : Fin 5632) : val_main_v20 (F := Ideal) x0 x1 x3 (ix3 b s l) = ∑ k, mrow x0 x1 b s k * x3 (ix2 k l) := by
  rw [val_main_v20_apply]
  refine Finset.sum_congr rfl fun k _ => congrArg₂ (· * ·) ((congrArg _ ?_).trans (modulated x0 x1 b s k)) (congrArg x3 ?_)
  · funext a; match a with | ⟨0, _⟩ => rfl | ⟨1, _⟩ => rfl | ⟨2, _⟩ => rfl
  · funext a; match a with | ⟨0, _⟩ => rfl | ⟨1, _⟩ => rfl

/-- The hidden row. -/
theorem hidden (l : Fin 5632) : val_main_v21 (F := Ideal) x0 x1 x2 x3 (ix3 b s l)
    = hidR (mrow x0 x1 b s) (fun k l => x2 (ix2 k l)) (fun k l => x3 (ix2 k l)) l := by
  rw [val_main_v21_apply, up, hidR, Cert.FfnPay.hid, silu, val_main_v19_apply, val_main_call0_v5_apply, val_main_call0_v4_apply,
    val_main_call0_cst_0_apply, val_main_call0_v3_apply, val_main_call0_v2_apply, val_main_call0_cst_apply, val_main_call0_v1_apply,
    val_main_call0_v0_apply, gate]
  rw [← Ideal.ofBits_one_f32]
  rfl

/-- The down product. -/
theorem down (n : Fin 2048) : val_main_v22 (F := Ideal) x0 x1 x2 x3 x4 (ix3 b s n)
    = dRow (mrow x0 x1 b s) (fun k l => x2 (ix2 k l)) (fun k l => x3 (ix2 k l)) (fun l n => x4 (ix2 l n)) n := by
  rw [val_main_v22_apply]
  refine Finset.sum_congr rfl fun l _ => congrArg₂ (· * ·) ((congrArg _ ?_).trans (hidden x0 x1 x2 x3 b s l)) (congrArg x4 ?_)
  · funext a; match a with | ⟨0, _⟩ => rfl | ⟨1, _⟩ => rfl | ⟨2, _⟩ => rfl
  · funext a; match a with | ⟨0, _⟩ => rfl | ⟨1, _⟩ => rfl

/-- The row that the reference normalises. -/
def rrow : Fin 2048 → EReal := fun n => al * x0 (ix2 (flat b s) n) + Ideal.ofBits .f32 0x3F000000#32 * x1 (ix3 b 2 n)
  * dRow (mrow x0 x1 b s) (fun k l => x2 (ix2 k l)) (fun k l => x3 (ix2 k l)) (fun l n => x4 (ix2 l n)) n

theorem toNorm (n : Fin 2048) : val_main_v29 (F := Ideal) x0 x1 x2 x3 x4 (ix3 b s n) = rrow x0 x1 x2 x3 x4 b s n := by
  rw [val_main_v29_apply, val_main_v28_apply, val_main_v24_apply, resid, down]
  pointwise [val_main_v27, val_main_v26, val_main_v25, val_main_cst_1, val_main_v23, val_main_v17, val_main_v16, val_main_cst_0, val_main_v9, val_main_v8, val_main_v7]
  rfl

/-- A row's place, from the place of its mean. -/
theorem pl30 (k : Fin 2048) : idx_main_v30 (idx_main_v31 (ix3 b s 0)) k = ix3 b s k := by
  funext a; match a with | ⟨0, _⟩ => rfl | ⟨1, _⟩ => rfl | ⟨2, _⟩ => rfl

theorem pl37 (k : Fin 2048) : idx_main_v37 (idx_main_v38 (ix3 b s 0)) k = ix3 b s k := by
  funext a; match a with | ⟨0, _⟩ => rfl | ⟨1, _⟩ => rfl | ⟨2, _⟩ => rfl

theorem pl34 (k : Fin 2048) : idx_main_v34 (ix3 b s k) = ix3 b s 0 := by
  funext a; match a with | ⟨0, _⟩ => rfl | ⟨1, _⟩ => rfl | ⟨2, _⟩ => rfl

theorem pl41 (k : Fin 2048) : idx_main_v41 (ix3 b s k) = ix3 b s 0 := by
  funext a; match a with | ⟨0, _⟩ => rfl | ⟨1, _⟩ => rfl | ⟨2, _⟩ => rfl

theorem pl47 (k : Fin 2048) : idx_main_v47 (ix3 b s k) = ix3 b s 0 := by
  funext a; match a with | ⟨0, _⟩ => rfl | ⟨1, _⟩ => rfl | ⟨2, _⟩ => rfl

/-- The mean of the row. -/
theorem rmean : val_main_v33 (F := Ideal) x0 x1 x2 x3 x4 (ix3 b s 0) = Cert.FfnPay.mean (rrow x0 x1 x2 x3 x4 b s) := by
  rw [val_main_v33_apply, val_main_v31_apply, val_main_v30_apply, val_main_v32_apply, val_main_cst_3_apply, val_main_cst_2_apply]
  show Ideal.div (Ideal.ofBits .f32 0x00000000#32 + _) (Ideal.ofBits .f32 0x45000000#32) = _
  rw [Ideal.ofBits_zero_f32, zero_add, Cert.FfnPay.mean]
  refine congrArg (Ideal.div · _) (Finset.sum_congr rfl fun k _ => ?_)
  rw [pl30, toNorm]

/-- The row without its mean. -/
theorem centred (k : Fin 2048) : val_main_v35 (F := Ideal) x0 x1 x2 x3 x4 (ix3 b s k)
    = rrow x0 x1 x2 x3 x4 b s k - Cert.FfnPay.mean (rrow x0 x1 x2 x3 x4 b s) := by
  rw [val_main_v35_apply, val_main_v34_apply, pl34, rmean, toNorm]
  rfl

/-- The variance of the row. -/
theorem rvar : val_main_v40 (F := Ideal) x0 x1 x2 x3 x4 (ix3 b s 0)
    = Ideal.div (∑ k, (rrow x0 x1 x2 x3 x4 b s k - Cert.FfnPay.mean (rrow x0 x1 x2 x3 x4 b s))
        * (rrow x0 x1 x2 x3 x4 b s k - Cert.FfnPay.mean (rrow x0 x1 x2 x3 x4 b s))) (Ideal.ofBits .f32 0x45000000#32) := by
  rw [val_main_v40_apply, val_main_v38_apply, val_main_v37_apply, val_main_v39_apply, val_main_cst_5_apply, val_main_cst_4_apply]
  show Ideal.div (Ideal.ofBits .f32 0x00000000#32 + _) (Ideal.ofBits .f32 0x45000000#32) = _
  rw [Ideal.ofBits_zero_f32, zero_add]
  refine congrArg (Ideal.div · _) (Finset.sum_congr rfl fun k _ => ?_)
  rw [pl37, val_main_v36_apply, centred]
  rfl

/-- The normalised row. -/
theorem normed (n : Fin 2048) : val_main_v48 (F := Ideal) x0 x1 x2 x3 x4 (ix3 b s n)
    = Cert.FfnPay.norm (rrow x0 x1 x2 x3 x4 b s) (Ideal.div 1 (Ideal.ofBits .f32 0x47C35000#32)) n := by
  rw [val_main_v48_apply, val_main_v42_apply, val_main_v41_apply, pl41, rmean, toNorm, val_main_v47_apply, pl47, val_main_v46_apply,
    val_main_v45_apply, rvar, val_main_v44_apply, val_main_v43_apply, val_main_cst_6_apply, val_main_cst_7_apply, ← Ideal.ofBits_one_f32]
  rfl

/-- The reference's first result, at a row and a column. -/
theorem result (n : Fin 2048) : val_main_v55 (F := Ideal) x0 x1 x2 x3 x4 x5 x6 (ix2 (flat b s) n)
    = outK (fun k => x0 (ix2 (flat b s) k)) (fun k => x1 (ix3 b 0 k)) (fun k => x1 (ix3 b 1 k)) (fun k => x1 (ix3 b 2 k))
        (fun k => x5 (ix1 k)) (fun k => x6 (ix1 k)) (fun k l => x2 (ix2 k l)) (fun k l => x3 (ix2 k l)) (fun l n => x4 (ix2 l n)) n := by
  have e : idx_main_v55 (ix2 (flat b s) n) = ix3 b s n := by
    blk_ext [flat]
  rw [val_main_v55_apply, e, val_main_v54_apply, val_main_v51_apply, normed, outK]
  rw [show rrow x0 x1 x2 x3 x4 b s = _ from rfl, ← norm_ref]
  pointwise [val_main_v50, val_main_v49, val_main_v53, val_main_v52]
  rfl

/-- The next weights, cast. -/
theorem nextG (x7 : FVec Ideal S4x2x2048x5632 .f32) (k : Fin 2048) (l : Fin 5632) :
    val_main_v58 (F := Ideal) x7 (ix2 k l) = x7 (ix4 0 1 k l) := by
  pointwise [val_main_v58, val_main_v57, val_main_v56]

theorem nextU (x8 : FVec Ideal S4x2x2048x5632 .f32) (k : Fin 2048) (l : Fin 5632) :
    val_main_v61 (F := Ideal) x8 (ix2 k l) = x8 (ix4 0 1 k l) := by
  pointwise [val_main_v61, val_main_v60, val_main_v59]

theorem nextD (x9 : FVec Ideal S4x2x5632x2048 .f32) (l : Fin 5632) (n : Fin 2048) :
    val_main_v64 (F := Ideal) x9 (ix2 l n) = x9 (ix4 0 1 l n) := by
  pointwise [val_main_v64, val_main_v63, val_main_v62]

end Cert.FfnRef

end
-- ==== Proof.FfnArray.lean ====
/- The feed-forward kernel's four result arrays after the run. -/
module

public import proofs.«01_k».proof.Proof.FfnTile
public import proofs.«01_k».proof.Proof.FfnRef
public import Idealize.ShloMosaic.Lib.Pipeline.Covers

@[expose] public section

set_option maxRecDepth 16384

noncomputable section

namespace Cert.FfnArray

open Cert.FfnIdeal Cert.FfnIdeal.Gen Cert.FfnPay Cert.FfnBlocks Cert.FfnMath Cert.FfnAccum Cert.FfnTile
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The reference's four results on the kernel's arguments. -/
def target0 : FVec F S32768x2048 .f32 :=
  Cert.FfnRefIdeal.Read.val_main_v55 (F := F) (aX m c) (aM m c) (aG m c) (aU m c) (aD m c) (aW m c) (aB m c)
def target1 : FVec F S2048x5632 .bf16 := Cert.FfnRefIdeal.Read.val_main_v58 (F := F) (aNG m c)
def target2 : FVec F S2048x5632 .bf16 := Cert.FfnRefIdeal.Read.val_main_v61 (F := F) (aNU m c)
def target3 : FVec F S5632x2048 .bf16 := Cert.FfnRefIdeal.Read.val_main_v64 (F := F) (aND m c)

/-- The first result's row is the reference's. -/
theorem orow_eq (R : Fin 32768) (q : Fin 2048) : orow m c R q = target0 m c (ix2 R q) := by
  have e : R = Cert.FfnRef.flat (bat R) ⟨R.val % 4096, by omega⟩ := Fin.ext (by
    show R.val = R.val / 4096 * 4096 + R.val % 4096
    omega)
  conv_rhs => rw [e]
  rw [target0, Cert.FfnRef.result, ← e]
  rfl

/-- The blocks of each result cover it. -/
theorem covers10 : (cfg0.win 10).Covers :=
  (cfg0.win 10).covers_of_index_surj rfl (by decide) fun β => by
    have h0 : (β 0).val < 32 := (β 0).isLt
    have h1 : (β 1).val < 1 := (β 1).isLt
    refine ⟨⟨(β 0).val * 11, by show _ < 352; omega⟩, ?_⟩
    intro a
    match a with
    | ⟨0, _⟩ =>
      refine (congrFun (idx _).2.2.2.2.2.2.2.2.2.2.1 (0 : Fin 2)).trans ?_
      show (β 0).val * 11 / 11 = (β 0).val
      omega
    | ⟨1, _⟩ =>
      refine (congrFun (idx _).2.2.2.2.2.2.2.2.2.2.1 (1 : Fin 2)).trans ?_
      show 0 = (β 1).val
      omega

theorem covers11 : (cfg0.win 11).Covers :=
  (cfg0.win 11).covers_of_index_surj rfl (by decide) fun β => by
    have h0 : (β 0).val < 32 := (β 0).isLt
    have h1 : (β 1).val < 11 := (β 1).isLt
    refine ⟨⟨(β 0).val * 11 + (β 1).val, by show _ < 352; omega⟩, ?_⟩
    intro a
    match a with
    | ⟨0, _⟩ =>
      refine (congrFun (idx _).2.2.2.2.2.2.2.2.2.2.2.1 (0 : Fin 2)).trans ?_
      show ((β 0).val * 11 + (β 1).val) / 11 = (β 0).val
      omega
    | ⟨1, _⟩ =>
      refine (congrFun (idx _).2.2.2.2.2.2.2.2.2.2.2.1 (1 : Fin 2)).trans ?_
      show ((β 0).val * 11 + (β 1).val) % 11 = (β 1).val
      omega

theorem covers12 : (cfg0.win 12).Covers :=
  (cfg0.win 12).covers_of_index_surj rfl (by decide) fun β => by
    have h0 : (β 0).val < 32 := (β 0).isLt
    have h1 : (β 1).val < 11 := (β 1).isLt
    refine ⟨⟨(β 0).val * 11 + (β 1).val, by show _ < 352; omega⟩, ?_⟩
    intro a
    match a with
    | ⟨0, _⟩ =>
      refine (congrFun (idx _).2.2.2.2.2.2.2.2.2.2.2.2.1 (0 : Fin 2)).trans ?_
      show ((β 0).val * 11 + (β 1).val) / 11 = (β 0).val
      omega
    | ⟨1, _⟩ =>
      refine (congrFun (idx _).2.2.2.2.2.2.2.2.2.2.2.2.1 (1 : Fin 2)).trans ?_
      show ((β 0).val * 11 + (β 1).val) % 11 = (β 1).val
      omega

theorem covers13 : (cfg0.win 13).Covers :=
  (cfg0.win 13).covers_of_index_surj rfl (by decide) fun β => by
    have h0 : (β 0).val < 352 := (β 0).isLt
    have h1 : (β 1).val < 1 := (β 1).isLt
    refine ⟨⟨(β 0).val, by show _ < 352; omega⟩, ?_⟩
    intro a
    match a with
    | ⟨0, _⟩ => exact congrFun (idx _).2.2.2.2.2.2.2.2.2.2.2.2.2 (0 : Fin 2)
    | ⟨1, _⟩ =>
      refine (congrFun (idx _).2.2.2.2.2.2.2.2.2.2.2.2.2 (1 : Fin 2)).trans ?_
      show 0 = (β 1).val
      omega

/-- A block index of each result, in its array. -/
theorem emb10 (t : Fin cfg0.N) (y : ((cfg0.win 10).xblock (cfg0.grid.coords t)).Idx) :
    (((cfg0.win 10).blk t).view.emb y : S32768x2048.Idx) = ix2 (row t ⟨(y 0).val, (y 0).isLt⟩) ⟨(y 1).val, (y 1).isLt⟩ := by
  blk_ext [idx t, row]

theorem emb11 (t : Fin cfg0.N) (y : ((cfg0.win 11).xblock (cfg0.grid.coords t)).Idx) :
    (((cfg0.win 11).blk t).view.emb y : S2048x5632.Idx) = ix2 (nrow t ⟨(y 0).val, (y 0).isLt⟩) (lane t ⟨(y 1).val, (y 1).isLt⟩) := by
  blk_ext [idx t, nrow, lane]

theorem emb12 (t : Fin cfg0.N) (y : ((cfg0.win 12).xblock (cfg0.grid.coords t)).Idx) :
    (((cfg0.win 12).blk t).view.emb y : S2048x5632.Idx) = ix2 (nrow t ⟨(y 0).val, (y 0).isLt⟩) (lane t ⟨(y 1).val, (y 1).isLt⟩) := by
  blk_ext [idx t, nrow, lane]

theorem emb13 (t : Fin cfg0.N) (y : ((cfg0.win 13).xblock (cfg0.grid.coords t)).Idx) :
    (((cfg0.win 13).blk t).view.emb y : S5632x2048.Idx) = ix2 (drow t ⟨(y 0).val, (y 0).isLt⟩) ⟨(y 1).val, (y 1).isLt⟩ := by
  blk_ext [idx t, drow]

/-- A block index of each result, in its staging buffer. -/
theorem xinj10 (t : Fin cfg0.N) (y : ((cfg0.win 10).xblock (cfg0.grid.coords t)).Idx) :
    ((cfg0.win 10).xinj (cfg0.grid.coords t) y : S1024x2048.Idx) = ix2 ⟨(y 0).val, (y 0).isLt⟩ ⟨(y 1).val, (y 1).isLt⟩ := by
  funext a
  match a with
  | ⟨0, _⟩ => exact Fin.ext rfl
  | ⟨1, _⟩ => exact Fin.ext rfl

theorem xinj11 (t : Fin cfg0.N) (y : ((cfg0.win 11).xblock (cfg0.grid.coords t)).Idx) :
    ((cfg0.win 11).xinj (cfg0.grid.coords t) y : S64x512.Idx) = ix2 ⟨(y 0).val, (y 0).isLt⟩ ⟨(y 1).val, (y 1).isLt⟩ := by
  funext a
  match a with
  | ⟨0, _⟩ => exact Fin.ext rfl
  | ⟨1, _⟩ => exact Fin.ext rfl

theorem xinj12 (t : Fin cfg0.N) (y : ((cfg0.win 12).xblock (cfg0.grid.coords t)).Idx) :
    ((cfg0.win 12).xinj (cfg0.grid.coords t) y : S64x512.Idx) = ix2 ⟨(y 0).val, (y 0).isLt⟩ ⟨(y 1).val, (y 1).isLt⟩ := by
  funext a
  match a with
  | ⟨0, _⟩ => exact Fin.ext rfl
  | ⟨1, _⟩ => exact Fin.ext rfl

theorem xinj13 (t : Fin cfg0.N) (y : ((cfg0.win 13).xblock (cfg0.grid.coords t)).Idx) :
    ((cfg0.win 13).xinj (cfg0.grid.coords t) y : S16x2048.Idx) = ix2 ⟨(y 0).val, (y 0).isLt⟩ ⟨(y 1).val, (y 1).isLt⟩ := by
  funext a
  match a with
  | ⟨0, _⟩ => exact Fin.ext rfl
  | ⟨1, _⟩ => exact Fin.ext rfl

/-- What every grid point leaves of the next weights. -/
theorem next11 (t : Fin cfg0.N) (r : Fin 64) (l : Fin 512) :
    ((outsAt0 m c t.val t.isLt).2.1 : FVec F S64x512 .bf16) (ix2 r l) = target1 m c (ix2 (nrow t r) (lane t l)) := by
  rw [target1, Cert.FfnRef.nextG, ← b7 m c t r l]
  by_cases h0 : t.val % 11 = 0
  · rw [outsAt0_A m c t h0 (by omega) (by omega)]
    frame_out
    first | exact pay4 _ r l | exact pay9 _ r l | exact pay13 _ r l
  · by_cases h2 : t.val % 11 = 10
    · rw [outsAt0_C m c t h0 (by omega) h2]
      frame_out
      first | exact pay4 _ r l | exact pay9 _ r l | exact pay13 _ r l
    · rw [outsAt0_B m c t h0 (by omega) h2]
      frame_out
      first | exact pay4 _ r l | exact pay9 _ r l | exact pay13 _ r l

theorem next12 (t : Fin cfg0.N) (r : Fin 64) (l : Fin 512) :
    ((outsAt0 m c t.val t.isLt).2.2.1 : FVec F S64x512 .bf16) (ix2 r l) = target2 m c (ix2 (nrow t r) (lane t l)) := by
  rw [target2, Cert.FfnRef.nextU, ← b8 m c t r l]
  by_cases h0 : t.val % 11 = 0
  · rw [outsAt0_A m c t h0 (by omega) (by omega)]
    frame_out
    first | exact pay5 _ r l | exact pay10 _ r l | exact pay14 _ r l
  · by_cases h2 : t.val % 11 = 10
    · rw [outsAt0_C m c t h0 (by omega) h2]
      frame_out
      first | exact pay5 _ r l | exact pay10 _ r l | exact pay14 _ r l
    · rw [outsAt0_B m c t h0 (by omega) h2]
      frame_out
      first | exact pay5 _ r l | exact pay10 _ r l | exact pay14 _ r l

theorem next13 (t : Fin cfg0.N) (r : Fin 16) (n : Fin 2048) :
    ((outsAt0 m c t.val t.isLt).2.2.2.1 : FVec F S16x2048 .bf16) (ix2 r n) = target3 m c (ix2 (drow t r) n) := by
  rw [target3, Cert.FfnRef.nextD, ← b9 m c t r n]
  by_cases h0 : t.val % 11 = 0
  · rw [outsAt0_A m c t h0 (by omega) (by omega)]
    frame_out
    first | exact pay6 _ r n | exact pay11 _ r n | exact pay15 _ r n
  · by_cases h2 : t.val % 11 = 10
    · rw [outsAt0_C m c t h0 (by omega) h2]
      frame_out
      first | exact pay6 _ r n | exact pay11 _ r n | exact pay15 _ r n
    · rw [outsAt0_B m c t h0 (by omega) h2]
      frame_out
      first | exact pay6 _ r n | exact pay11 _ r n | exact pay15 _ r n

/-- The first result after the run. -/
theorem final0 : (dats m 0 c).arrAt 10 cfg0.N = target0 m c := by
  refine (dats m 0 c).arrAt_eq_of_covers 10 (target0 m c) covers10 fun t hf y => ?_
  refine Eq.trans ?_ (congrArg (target0 m c) (emb10 t y)).symm
  have h : t.val % 11 = 10 := (flush0_10 t).mp hf
  refine Eq.trans ?_ (orow_eq m c (row t ⟨(y 0).val, (y 0).isLt⟩) ⟨(y 1).val, (y 1).isLt⟩)
  generalize hA : (dats m 0 c).after 10 t = A
  refine (cast_eq rfl _).trans ?_
  refine (congrArg A (xinj10 t y)).trans ?_
  refine (congrFun (hA.symm.trans (after0_10 m c t)) _).trans ?_
  exact outC m c t h (ix2 ⟨(y 0).val, (y 0).isLt⟩ ⟨(y 1).val, (y 1).isLt⟩)

/-- The next gate weights after the run. -/
theorem final1 : (dats m 0 c).arrAt 11 cfg0.N = target1 m c := by
  refine (dats m 0 c).arrAt_eq_of_covers 11 (target1 m c) covers11 fun t hf y => ?_
  refine Eq.trans ?_ (congrArg (target1 m c) (emb11 t y)).symm
  rw [← next11]
  generalize hA : (dats m 0 c).after 11 t = A
  refine (cast_eq rfl _).trans ?_
  refine (congrArg A (xinj11 t y)).trans ?_
  exact congrFun (hA.symm.trans (after0_11 m c t)) _

/-- The next up weights after the run. -/
theorem final2 : (dats m 0 c).arrAt 12 cfg0.N = target2 m c := by
  refine (dats m 0 c).arrAt_eq_of_covers 12 (target2 m c) covers12 fun t hf y => ?_
  refine Eq.trans ?_ (congrArg (target2 m c) (emb12 t y)).symm
  rw [← next12]
  generalize hA : (dats m 0 c).after 12 t = A
  refine (cast_eq rfl _).trans ?_
  refine (congrArg A (xinj12 t y)).trans ?_
  exact congrFun (hA.symm.trans (after0_12 m c t)) _

/-- The next down weights after the run. -/
theorem final3 : (dats m 0 c).arrAt 13 cfg0.N = target3 m c := by
  refine (dats m 0 c).arrAt_eq_of_covers 13 (target3 m c) covers13 fun t hf y => ?_
  refine Eq.trans ?_ (congrArg (target3 m c) (emb13 t y)).symm
  refine Eq.trans ?_ (next13 m c t ⟨(y 0).val, (y 0).isLt⟩ ⟨(y 1).val, (y 1).isLt⟩)
  generalize hA : (dats m 0 c).after 13 t = A
  refine (cast_eq rfl _).trans ?_
  refine (congrArg A (xinj13 t y)).trans ?_
  exact congrFun (hA.symm.trans (after0_13 m c t)) _

end Cert.FfnArray

end
-- ==== Proof.FfnClaim.lean ====
/- The feed-forward's claim: its kernel and its reference end with the same four results. -/
module

public import proofs.«01_k».proof.Defs
public import proofs.«01_k».proof.Proof.FfnArray
public import proofs.«01_k».proof.Proof.Gen.FfnRefIdeal.Run
public import Idealize.ShloMosaic.Lib.Claim

@[expose] public section

set_option maxRecDepth 16384

noncomputable section

namespace Cert.FfnClaim

open Idealize.ShloMosaic Idealize.ShloMosaic.TcCoe Idealize.SL.Sem Cert.FfnPay

/-- The kernel and the reference end with the same results. -/
theorem algebraic : Cert.algebraic_FfnIdeal_FfnRefIdeal := by
  intro m g m' g' _ hagree
  refine ⟨fun c => (Cert.FfnIdeal.Gen.dats m 0 c).arrAt 10 Cert.FfnIdeal.cfg0.N, fun c => (Cert.FfnIdeal.Gen.dats m 0 c).arrAt 11 Cert.FfnIdeal.cfg0.N,
    fun c => (Cert.FfnIdeal.Gen.dats m 0 c).arrAt 12 Cert.FfnIdeal.cfg0.N, fun c => (Cert.FfnIdeal.Gen.dats m 0 c).arrAt 13 Cert.FfnIdeal.cfg0.N,
    Cert.FfnIdeal.Value.run_blocks m g, ?_⟩
  refine (θ_run Cert.FfnRefIdeal.defs _ _).mono
    (fun r h c => ⟨(h c).1.trans ?_, (h c).2.1.trans ?_, (h c).2.2.1.trans ?_, (h c).2.2.2.1.trans ?_, (h c).2.2.2.2⟩) (Cert.FfnRefIdeal.Value.run m' g')
  all_goals obtain ⟨e0, e1, e2, e3, e4, e5, e6, e7, e8, e9⟩ := hagree c
  · rw [Cert.FfnRefIdeal.Read.val_main_v55_eq, e0, e1, e2, e3, e4, e5, e6]
    exact (Cert.FfnArray.final0 m c).symm
  · rw [Cert.FfnRefIdeal.Read.val_main_v58_eq, e7]
    exact (Cert.FfnArray.final1 m c).symm
  · rw [Cert.FfnRefIdeal.Read.val_main_v61_eq, e8]
    exact (Cert.FfnArray.final2 m c).symm
  · rw [Cert.FfnRefIdeal.Read.val_main_v64_eq, e9]
    exact (Cert.FfnArray.final3 m c).symm

end Cert.FfnClaim

end
-- ==== Proof.LastBlocks.lean ====
/- The last feed-forward kernel's input blocks, read from the call's arguments. -/
module

public import proofs.«01_k».proof.Proof.Gen.LastIdeal.Value
public import proofs.«01_k».proof.Proof.FfnPay
public import Idealize.ShloMosaic.Lib.Pipeline.ValueKit
public import Idealize.ShloMosaic.Lib.Pointwise

@[expose] public section

noncomputable section

namespace Cert.LastBlocks

open Cert.LastIdeal Cert.LastIdeal.Gen
open Cert.FfnPay (F)
open Idealize.ShloMosaic Idealize.ShloMosaic.TcCoe Idealize.ShloMosaic.Pipeline
open scoped Idealize.ShloMosaic

variable (m : (ℓ : Loc nD τ sig) → Buf (Elt F) ℓ) (c : Dev nD)

/-- The block that every window reads or writes at grid point `t`, which stands for row tile `t / 11` and chunk `t % 11`. -/
theorem idx : ∀ t : Fin cfg0.N, win0_0.index t = ![t.val / 11, 0]
    ∧ win0_1.index t = ![t.val / 44, 0, 0]
    ∧ win0_2.index t = ![0, t.val % 11]
    ∧ win0_3.index t = ![0, t.val % 11]
    ∧ win0_4.index t = ![t.val % 11, 0]
    ∧ win0_5.index t = ![0, 0]
    ∧ win0_6.index t = ![0, 0]
    ∧ win0_7.index t = ![t.val / 11, 0] :=
  (by decide +kernel : ∀ t : Fin grid0.N, _)

theorem lt (t : Fin cfg0.N) : t.val < 352 := t.isLt

/-- A row of the tile, in the array. -/
def row (t : Fin cfg0.N) (r : Fin 1024) : Fin 32768 := ⟨t.val / 11 * 1024 + r.val, by have := lt t; omega⟩

/-- A lane of the chunk, in the hidden row. -/
def lane (t : Fin cfg0.N) (l : Fin 512) : Fin 5632 := ⟨t.val % 11 * 512 + l.val, by omega⟩

/-- The batch of a row. -/
def bat (R : Fin 32768) : Fin 8 := ⟨R.val / 4096, by omega⟩

/-- The seven arguments. -/
def aX : FVec F S32768x2048 .f32 := m ((c.tc : Thread nD τ).loc main_arg0)
def aM : FVec F S8x9x2048 .f32 := m ((c.tc : Thread nD τ).loc main_arg1)
def aG : FVec F S2048x5632 .f32 := m ((c.tc : Thread nD τ).loc main_arg2)
def aU : FVec F S2048x5632 .f32 := m ((c.tc : Thread nD τ).loc main_arg3)
def aD : FVec F S5632x2048 .f32 := m ((c.tc : Thread nD τ).loc main_arg4)
def aW : FVec F S2048 .f32 := m ((c.tc : Thread nD τ).loc main_arg5)
def aB : FVec F S2048 .f32 := m ((c.tc : Thread nD τ).loc main_arg6)

theorem b0 (t : Fin cfg0.N) (r : Fin 1024) (n : Fin 2048) :
    (iblk m c 0 t : FVec F S1024x2048 .f32) (ix2 r n) = aX m c (ix2 (row t r) n) := by
  blk_ext [iblk, V, idx t, aX, row]

theorem b1 (t : Fin cfg0.N) (r : Fin 1024) (j : Fin 9) (n : Fin 2048) :
    (iblk m c 1 t : FVec F S1x9x2048 .f32) (ix3 0 j n) = aM m c (ix3 (bat (row t r)) j n) := by
  blk_ext [iblk, V, idx t, aM, row, bat]

theorem b2 (t : Fin cfg0.N) (k : Fin 2048) (l : Fin 512) :
    (iblk m c 2 t : FVec F S2048x512 .bf16) (ix2 k l) = aG m c (ix2 k (lane t l)) := by
  blk_simp [iblk, idx t]
  entry_read
  pointwise []
  blk_ext [idx t, aG, lane]

theorem b3 (t : Fin cfg0.N) (k : Fin 2048) (l : Fin 512) :
    (iblk m c 3 t : FVec F S2048x512 .bf16) (ix2 k l) = aU m c (ix2 k (lane t l)) := by
  blk_simp [iblk, idx t]
  entry_read
  pointwise []
  blk_ext [idx t, aU, lane]

theorem b4 (t : Fin cfg0.N) (l : Fin 512) (n : Fin 2048) :
    (iblk m c 4 t : FVec F S512x2048 .bf16) (ix2 l n) = aD m c (ix2 (lane t l) n) := by
  blk_simp [iblk, idx t]
  entry_read
  pointwise []
  blk_ext [idx t, aD, lane]

theorem b5 (t : Fin cfg0.N) (n : Fin 2048) :
    (iblk m c 5 t : FVec F S1x2048 .f32) (ix2 0 n) = aW m c (ix1 n) := by
  blk_simp [iblk, idx t]
  entry_read
  pointwise []
  blk_ext [idx t, aW]

theorem b6 (t : Fin cfg0.N) (n : Fin 2048) :
    (iblk m c 6 t : FVec F S1x2048 .f32) (ix2 0 n) = aB m c (ix1 n) := by
  blk_simp [iblk, idx t]
  entry_read
  pointwise []
  blk_ext [idx t, aB]

end Cert.LastBlocks

end
-- ==== Proof.LastPay.lean ====
/- The last feed-forward kernel's expressions, read at an index. -/
module

public import proofs.«01_k».proof.Proof.Gen.LastIdeal.Skeleton
public import proofs.«01_k».proof.Proof.FfnPay

@[expose] public section

set_option maxRecDepth 16384

noncomputable section

namespace Cert.LastPay

open Cert.LastIdeal Cert.LastIdeal.Gen Idealize.ShloMosaic Idealize.ShloMosaic.Pointwise
open Cert.FfnPay (F hid mean norm pre ia ea)

/-- The two named constants are those of the other half steps. -/
theorem ia_same : Named.named (F := F) κ "inv_alpha" (φ := .f32) 0x3F1837F0#32 = ia := rfl
theorem ea_same : Named.named (F := F) κ "eps_alpha" (φ := .f32) 0x366D4403#32 = ea := rfl

/-- The modulation. -/
theorem pay2 (x : Vec F S1024x2048 .f32) (sh sc : Vec F S1x1x2048 .f32) (r : Fin 1024) (n : Fin 2048) :
    k0_pay2 x sh sc (ix2 r n) = x (ix2 r n) * (1 + sc (ix3 0 0 n)) + sh (ix3 0 0 n) := by
  pointwise [k0_pay2, k0_pay1]

/-- The first part of the down projection. -/
theorem pay3 (x : Vec F S1024x2048 .f32) (sh sc : Vec F S1x1x2048 .f32) (G U : Vec F S2048x512 .bf16) (D : Vec F S512x2048 .bf16) (r : Fin 1024) (n : Fin 2048) :
    k0_pay3 x sh sc G U D (ix2 r n)
      = ∑ l : Fin 512, hid (fun k => x (ix2 r k) * (1 + sc (ix3 0 0 k)) + sh (ix3 0 0 k)) (fun k => G (ix2 k l)) (fun k => U (ix2 k l)) * D (ix2 l n) := by
  pointwise [k0_pay3, k0_pay1, hid]

/-- A later part, added to what is there. -/
theorem pay4 (a : Vec F S1024x2048 .bf16) (G U : Vec F S2048x512 .bf16) (D : Vec F S512x2048 .bf16) (v : Vec F S1024x2048 .f32) (r : Fin 1024) (n : Fin 2048) :
    k0_pay4 a G U D v (ix2 r n) = v (ix2 r n) + ∑ l : Fin 512, hid (fun k => a (ix2 r k)) (fun k => G (ix2 k l)) (fun k => U (ix2 k l)) * D (ix2 l n) := by
  pointwise [k0_pay4, hid]

/-- The sub-layer's row of a quarter, gated and divided by `alpha`. -/
theorem pay7 (a : Vec F S256x2048 .bf16) (G U : Vec F S2048x512 .bf16) (D : Vec F S512x2048 .bf16) (v : Vec F S256x2048 .f32) (g : Vec F S1x1x2048 .f32)
    (r : Fin 256) (n : Fin 2048) : k0_pay7 a G U D v g (ix2 r n) = Ideal.ofBits .f32 0x3F000000#32 * g (ix3 0 0 n) * ia
      * (v (ix2 r n) + ∑ l : Fin 512, hid (fun k => a (ix2 r k)) (fun k => G (ix2 k l)) (fun k => U (ix2 k l)) * D (ix2 l n)) := by
  pointwise [k0_pay7, hid, ← ia_same]

/-- The sub-layer's row of a quarter, gated and divided by `alpha`. -/
theorem pay14 (a : Vec F S256x2048 .bf16) (G U : Vec F S2048x512 .bf16) (D : Vec F S512x2048 .bf16) (v : Vec F S256x2048 .f32) (g : Vec F S1x1x2048 .f32)
    (r : Fin 256) (n : Fin 2048) : k0_pay14 a G U D v g (ix2 r n) = Ideal.ofBits .f32 0x3F000000#32 * g (ix3 0 0 n) * ia
      * (v (ix2 r n) + ∑ l : Fin 512, hid (fun k => a (ix2 r k)) (fun k => G (ix2 k l)) (fun k => U (ix2 k l)) * D (ix2 l n)) := by
  pointwise [k0_pay14, hid, ← ia_same]

/-- The norm of a quarter. -/
theorem pay8 (x : Vec F S256x2048 .f32) (w b : FVec F S1x2048 .f32) (d : FVec F S256x2048 .f32) (r : Fin 256) (n : Fin 2048) :
    k0_pay8 x w b d (ix2 r n) = norm (fun n => x (ix2 r n) + d (ix2 r n)) ea n * w (ix2 0 n) + b (ix2 0 n) := by
  pointwise [k0_pay8, Cert.FfnPay.norm, mean, ← ea_same]

/-- The norm of a quarter. -/
theorem pay15 (x : Vec F S256x2048 .f32) (w b : FVec F S1x2048 .f32) (d : FVec F S256x2048 .f32) (r : Fin 256) (n : Fin 2048) :
    k0_pay15 x w b d (ix2 r n) = norm (fun n => x (ix2 r n) + d (ix2 r n)) ea n * w (ix2 0 n) + b (ix2 0 n) := by
  pointwise [k0_pay15, Cert.FfnPay.norm, mean, ← ea_same]

/-- The hidden row of a quarter. -/
theorem pay9 (a : Vec F S256x2048 .bf16) (G U : Vec F S2048x512 .bf16) (r : Fin 256) (l : Fin 512) :
    k0_pay9 a G U (ix2 r l) = hid (fun k => a (ix2 r k)) (fun k => G (ix2 k l)) (fun k => U (ix2 k l)) := by
  pointwise [k0_pay9, hid]

theorem pay10 (D : Vec F S512x2048 .bf16) (l : Fin 512) (n : Fin 2048) : k0_pay10 D (ix2 l n) = D (ix2 l n) := by pointwise [k0_pay10]

/-- The rest of a quarter. -/
theorem pay11 (h : FVec F S256x512 .bf16) (D : FVec F S512x2048 .bf16) (v x : Vec F S256x2048 .f32) (g : Vec F S1x1x2048 .f32)
    (w b : Vec F S1x2048 .f32) (r : Fin 256) (n : Fin 2048) :
    k0_pay11 h D (constant S256x2048 .f32 0x00000000#32) v x g w b (ix2 r n)
      = norm (pre (fun n => x (ix2 r n)) (fun n => g (ix3 0 0 n)) fun n => v (ix2 r n) + ∑ l : Fin 512, h (ix2 r l) * D (ix2 l n)) ea n
        * w (ix2 0 n) + b (ix2 0 n) := by
  pointwise [k0_pay11, Cert.FfnPay.norm, mean, pre, ← ia_same, ← ea_same]

/-- The hidden row of a quarter. -/
theorem pay16 (a : Vec F S256x2048 .bf16) (G U : Vec F S2048x512 .bf16) (r : Fin 256) (l : Fin 512) :
    k0_pay16 a G U (ix2 r l) = hid (fun k => a (ix2 r k)) (fun k => G (ix2 k l)) (fun k => U (ix2 k l)) := by
  pointwise [k0_pay16, hid]

theorem pay17 (D : Vec F S512x2048 .bf16) (l : Fin 512) (n : Fin 2048) : k0_pay17 D (ix2 l n) = D (ix2 l n) := by pointwise [k0_pay17]

/-- The rest of a quarter. -/
theorem pay18 (h : FVec F S256x512 .bf16) (D : FVec F S512x2048 .bf16) (v x : Vec F S256x2048 .f32) (g : Vec F S1x1x2048 .f32)
    (w b : Vec F S1x2048 .f32) (r : Fin 256) (n : Fin 2048) :
    k0_pay18 h D (constant S256x2048 .f32 0x00000000#32) v x g w b (ix2 r n)
      = norm (pre (fun n => x (ix2 r n)) (fun n => g (ix3 0 0 n)) fun n => v (ix2 r n) + ∑ l : Fin 512, h (ix2 r l) * D (ix2 l n)) ea n
        * w (ix2 0 n) + b (ix2 0 n) := by
  pointwise [k0_pay18, Cert.FfnPay.norm, mean, pre, ← ia_same, ← ea_same]

theorem pay5 (v : Vec F S1x2048 .f32) (n : Fin 2048) : k0_pay5 v (ix2 0 n) = v (ix2 0 n) := by pointwise [k0_pay5]
theorem pay6 (v : Vec F S1x2048 .f32) (n : Fin 2048) : k0_pay6 v (ix2 0 n) = v (ix2 0 n) := by pointwise [k0_pay6]
theorem pay12 (v : Vec F S1x2048 .f32) (n : Fin 2048) : k0_pay12 v (ix2 0 n) = v (ix2 0 n) := by pointwise [k0_pay12]
theorem pay13 (v : Vec F S1x2048 .f32) (n : Fin 2048) : k0_pay13 v (ix2 0 n) = v (ix2 0 n) := by pointwise [k0_pay13]

end Cert.LastPay

end
-- ==== Proof.LastAccum.lean ====
/- What the last feed-forward kernel's running sum and carried row hold at each grid point before the last of a tile. -/
module

public import proofs.«01_k».proof.Proof.LastBlocks
public import proofs.«01_k».proof.Proof.LastPay
public import proofs.«01_k».proof.Proof.FfnAccum
public import proofs.«01_k».proof.Proof.FfnMath
public import Idealize.ShloMosaic.Lib.Pipeline.ReadBack

@[expose] public section

set_option maxRecDepth 16384

noncomputable section

namespace Cert.LastAccum

open Cert.LastIdeal Cert.LastIdeal.Gen Cert.LastPay Cert.LastBlocks Cert.FfnMath
open Cert.FfnPay (F hid norm pre ia ea)
open Cert.FfnAccum (sum_chunk)
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The modulated row of row `R`. -/
def arow (R : Fin 32768) : Fin 2048 → EReal :=
  aRow (fun k => aX m c (ix2 R k)) (fun k => aM m c (ix3 (bat R) 6 k)) fun k => aM m c (ix3 (bat R) 7 k)

/-- Lane `l` of the sum that the down product of row `R` at `q` is. -/
def term (R : Fin 32768) (q : Fin 2048) (l : ℕ) : EReal :=
  if h : l < 5632 then
    hidR (arow m c R) (fun k l => aG m c (ix2 k l)) (fun k l => aU m c (ix2 k l)) ⟨l, h⟩ * aD m c (ix2 ⟨l, h⟩ q)
  else 0

/-- A row of the modulation block, as the kernel loads it. -/
theorem ld6 (B : FVec F S1x9x2048 .f32) (n : Fin 2048) :
    View.ld (Val := Elt F) (S := S1x9x2048) (e' := .f32) B (Rect.unit ![0, 6, 0] ![1, 1, 2048] inb_S1x9x2048_S1x1x2048_0_6_0) (ix3 0 0 n) = B (ix3 0 6 n) := by
  refine congrArg B (funext fun a => Fin.ext ?_)
  match a with
  | ⟨0, _⟩ => rfl
  | ⟨1, _⟩ => rfl
  | ⟨2, _⟩ => exact (Nat.zero_add _).trans (Nat.one_mul _)

theorem ld7 (B : FVec F S1x9x2048 .f32) (n : Fin 2048) :
    View.ld (Val := Elt F) (S := S1x9x2048) (e' := .f32) B (Rect.unit ![0, 7, 0] ![1, 1, 2048] inb_S1x9x2048_S1x1x2048_0_7_0) (ix3 0 0 n) = B (ix3 0 7 n) := by
  refine congrArg B (funext fun a => Fin.ext ?_)
  match a with
  | ⟨0, _⟩ => rfl
  | ⟨1, _⟩ => rfl
  | ⟨2, _⟩ => exact (Nat.zero_add _).trans (Nat.one_mul _)

theorem ld8 (B : FVec F S1x9x2048 .f32) (n : Fin 2048) :
    View.ld (Val := Elt F) (S := S1x9x2048) (e' := .f32) B (Rect.unit ![0, 8, 0] ![1, 1, 2048] inb_S1x9x2048_S1x1x2048_0_8_0) (ix3 0 0 n) = B (ix3 0 8 n) := by
  refine congrArg B (funext fun a => Fin.ext ?_)
  match a with
  | ⟨0, _⟩ => rfl
  | ⟨1, _⟩ => rfl
  | ⟨2, _⟩ => exact (Nat.zero_add _).trans (Nat.one_mul _)

/-- The chunk's part of the down product. -/
theorem chunk (t : Fin cfg0.N) (r : Fin 1024) (q : Fin 2048) (a : Fin 2048 → EReal) (ha : ∀ k, a k = arow m c (row t r) k) :
    ∑ l : Fin 512, hid a (fun k => (iblk m c 2 t : FVec F S2048x512 .bf16) (ix2 k l)) (fun k => (iblk m c 3 t : FVec F S2048x512 .bf16) (ix2 k l))
        * (iblk m c 4 t : FVec F S512x2048 .bf16) (ix2 l q)
      = ∑ l : Fin 512, term m c (row t r) q (t.val % 11 * 512 + l.val) := by
  refine Finset.sum_congr rfl fun l _ => ?_
  have hl : t.val % 11 * 512 + l.val < 5632 := by omega
  rw [term, dif_pos hl, funext ha, b4, funext fun k => b2 m c t k l, funext fun k => b3 m c t k l]
  rfl

/-- The modulated block of a tile. -/
theorem modB (X : FVec F S1024x2048 .f32) (B : FVec F S1x9x2048 .f32) (R : Fin 32768) (r : Fin 1024) (k : Fin 2048)
    (hX : X (ix2 r k) = aX m c (ix2 R k)) (hB : ∀ j, B (ix3 0 j k) = aM m c (ix3 (bat R) j k)) :
    X (ix2 r k) * (1 + View.ld (Val := Elt F) (S := S1x9x2048) (e' := .f32) B (Rect.unit ![0, 7, 0] ![1, 1, 2048] inb_S1x9x2048_S1x1x2048_0_7_0) (ix3 0 0 k))
        + View.ld (Val := Elt F) (S := S1x9x2048) (e' := .f32) B (Rect.unit ![0, 6, 0] ![1, 1, 2048] inb_S1x9x2048_S1x1x2048_0_6_0) (ix3 0 0 k)
      = arow m c R k := by
  rw [ld6, ld7, hX, hB, hB]
  rfl

/-- The first point of a tile leaves the first chunk's sum. -/
theorem outA (t : Fin cfg0.N) (h0 : t.val % 11 = 0) (r : Fin 1024) (q : Fin 2048) :
    ((outsAt0 m c t.val t.isLt).1 : FVec F S1024x2048 .f32) (ix2 r q) = ∑ l : Fin 512, term m c (row t r) q (t.val % 11 * 512 + l.val) := by
  rw [outsAt0_A m c t h0 (by omega) (by omega)]
  frame_out
  refine (pay3 _ _ _ _ _ _ r q).trans ?_
  exact chunk m c t r q _ fun k => (modB m c (iblk m c 0 t) (iblk m c 1 t) (row t r) r k (b0 m c t r k) fun j => b1 m c t r j k)

/-- … and the modulated tile. -/
theorem outAs (t : Fin cfg0.N) (h0 : t.val % 11 = 0) (r : Fin 1024) (k : Fin 2048) :
    ((outsAt0 m c t.val t.isLt).2 : FVec F S1024x2048 .bf16) (ix2 r k) = arow m c (row t r) k := by
  rw [outsAt0_A m c t h0 (by omega) (by omega)]
  frame_out
  exact (pay2 _ _ _ r k).trans (modB m c (iblk m c 0 t) (iblk m c 1 t) (row t r) r k (b0 m c t r k) fun j => b1 m c t r j k)

/-- The point before. -/
theorem prev_lt (t : Fin cfg0.N) : t.val - 1 < cfg0.N := lt_of_le_of_lt (Nat.sub_le _ _) t.isLt

/-- A middle point adds its chunk to what the point before left. -/
theorem outB (t : Fin cfg0.N) (h1 : 1 ≤ t.val % 11 ∧ t.val % 11 ≤ 9) (r : Fin 1024) (q : Fin 2048)
    (hs : ∀ k, ((outsAt0 m c (t.val - 1) (prev_lt t)).2 : FVec F S1024x2048 .bf16) (ix2 r k) = arow m c (row t r) k) :
    ((outsAt0 m c t.val t.isLt).1 : FVec F S1024x2048 .f32) (ix2 r q)
      = ((outsAt0 m c (t.val - 1) (prev_lt t)).1 : FVec F S1024x2048 .f32) (ix2 r q) + ∑ l : Fin 512, term m c (row t r) q (t.val % 11 * 512 + l.val) := by
  rw [outsAt0_B m c t (by omega) h1 (by omega)]
  frame_out
  refine (pay4 _ _ _ _ _ r q).trans ?_
  refine congrArg (_ + ·) ?_
  refine chunk m c t r q _ fun k => ?_
  rw [read_unread_whole]
  exact hs k

/-- … and keeps the modulated tile. -/
theorem outBs (t : Fin cfg0.N) (h1 : 1 ≤ t.val % 11 ∧ t.val % 11 ≤ 9) :
    ((outsAt0 m c t.val t.isLt).2 : FVec F S1024x2048 .bf16) = (outsAt0 m c (t.val - 1) (prev_lt t)).2 := by
  rw [outsAt0_B m c t (by omega) h1 (by omega)]
  rfl

/-- Before the last point of a tile: the carried tile is the modulated one, and the running sum is over the lanes so far. -/
theorem accum (n : ℕ) : ∀ hn : n < cfg0.N, n % 11 ≠ 10 →
    (∀ r k, ((outsAt0 m c n hn).2 : FVec F S1024x2048 .bf16) (ix2 r k) = arow m c (row ⟨n, hn⟩ r) k)
      ∧ ∀ r q, ((outsAt0 m c n hn).1 : FVec F S1024x2048 .f32) (ix2 r q) = ∑ i ∈ Finset.range ((n % 11 + 1) * 512), term m c (row ⟨n, hn⟩ r) q i := by
  have caseA : ∀ n (hn : n < cfg0.N), n % 11 = 0 →
      (∀ r k, ((outsAt0 m c n hn).2 : FVec F S1024x2048 .bf16) (ix2 r k) = arow m c (row ⟨n, hn⟩ r) k)
        ∧ ∀ r q, ((outsAt0 m c n hn).1 : FVec F S1024x2048 .f32) (ix2 r q) = ∑ i ∈ Finset.range ((n % 11 + 1) * 512), term m c (row ⟨n, hn⟩ r) q i := by
    intro n hn h0
    refine ⟨fun r k => outAs m c ⟨n, hn⟩ h0 r k, fun r q => (outA m c ⟨n, hn⟩ h0 r q).trans ?_⟩
    rw [sum_chunk, h0, Nat.zero_mul, Finset.range_zero, Finset.sum_empty, zero_add]
  induction n with
  | zero => exact fun hn _ => caseA 0 hn (Nat.zero_mod _)
  | succ n ih =>
    intro hn h10
    by_cases h0 : (n + 1) % 11 = 0
    · exact caseA (n + 1) hn h0
    · have hp : n < cfg0.N := Nat.lt_of_succ_lt hn
      have h1 : 1 ≤ (n + 1) % 11 ∧ (n + 1) % 11 ≤ 9 := by omega
      obtain ⟨is, ia⟩ := ih hp (by omega)
      have er : ∀ r, row ⟨n + 1, hn⟩ r = row ⟨n, hp⟩ r := fun r => Fin.ext (by
        show (n + 1) / 11 * 1024 + r.val = n / 11 * 1024 + r.val
        rw [show (n + 1) / 11 = n / 11 by omega])
      have em : n % 11 + 1 = (n + 1) % 11 := by omega
      refine ⟨fun r k => ?_, fun r q => ?_⟩
      · rw [er]
        exact (congrFun (outBs m c ⟨n + 1, hn⟩ h1) (ix2 r k)).trans (is r k)
      · refine (outB m c ⟨n + 1, hn⟩ h1 r q fun k => ?_).trans ?_
        · rw [er]
          exact is r k
        · rw [sum_chunk, er, ← em]
          exact congrArg₂ (· + ·) (ia r q) (by simp only [em])

end Cert.LastAccum

end
-- ==== Proof.LastTile.lean ====
/- What the last feed-forward kernel writes at the last grid point of a tile. -/
module

public import proofs.«01_k».proof.Proof.LastAccum

@[expose] public section

set_option maxRecDepth 16384

noncomputable section

namespace Cert.LastTile

open Cert.LastIdeal Cert.LastIdeal.Gen Cert.LastPay Cert.LastBlocks Cert.FfnMath Cert.LastAccum
open Cert.FfnPay (F hid norm pre ia ea)
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The first result's row, from the arguments. -/
def orow (R : Fin 32768) (q : Fin 2048) : EReal :=
  outK (fun k => aX m c (ix2 R k)) (fun k => aM m c (ix3 (bat R) 6 k)) (fun k => aM m c (ix3 (bat R) 7 k)) (fun k => aM m c (ix3 (bat R) 8 k))
    (fun k => aW m c (ix1 k)) (fun k => aB m c (ix1 k)) (fun k l => aG m c (ix2 k l)) (fun k l => aU m c (ix2 k l)) (fun l n => aD m c (ix2 l n)) q

/-- The down product of a row, over all its lanes. -/
theorem total (R : Fin 32768) (q : Fin 2048) : ∑ i ∈ Finset.range 5632, term m c R q i
    = dRow (arow m c R) (fun k l => aG m c (ix2 k l)) (fun k l => aU m c (ix2 k l)) (fun l n => aD m c (ix2 l n)) q := by
  rw [← Fin.sum_univ_eq_sum_range, dRow]
  exact Finset.sum_congr rfl fun l _ => dif_pos l.isLt

/-- The running sum and the last chunk make the down product. -/
theorem lastSum (t : Fin cfg0.N) (h : t.val % 11 = 10) (r : Fin 1024) (q : Fin 2048) :
    ((outsAt0 m c (t.val - 1) (prev_lt t)).1 : FVec F S1024x2048 .f32) (ix2 r q)
        + ∑ l : Fin 512, hid (fun k => ((outsAt0 m c (t.val - 1) (prev_lt t)).2 : FVec F S1024x2048 .bf16) (ix2 r k))
            (fun k => (iblk m c 2 t : FVec F S2048x512 .bf16) (ix2 k l)) (fun k => (iblk m c 3 t : FVec F S2048x512 .bf16) (ix2 k l))
          * (iblk m c 4 t : FVec F S512x2048 .bf16) (ix2 l q)
      = dRow (arow m c (row t r)) (fun k l => aG m c (ix2 k l)) (fun k l => aU m c (ix2 k l)) (fun l n => aD m c (ix2 l n)) q := by
  obtain ⟨is, ia⟩ := accum m c (t.val - 1) (prev_lt t) (by omega)
  have er : row ⟨t.val - 1, prev_lt t⟩ r = row t r := Fin.ext (by
    show (t.val - 1) / 11 * 1024 + r.val = t.val / 11 * 1024 + r.val
    rw [show (t.val - 1) / 11 = t.val / 11 by omega])
  rw [chunk m c t r q _ fun k => (is r k).trans (by rw [er]), ia, er, show (t.val - 1) % 11 + 1 = 10 by omega, h, ← Cert.FfnAccum.sum_chunk (term m c (row t r) q) 10]
  exact total m c _ q

/-- A quarter of a tile, as the kernel loads it. -/
theorem ldq {e : EltTy} (X : Vec F S1024x2048 e) (o : ℕ) (inb) (ρ : Fin 256) (n : Fin 2048) (r : Fin 1024) (hr : r.val = o + ρ.val) :
    View.ld (Val := Elt F) (S := S1024x2048) (e' := e) X (Rect.unit (s := S1024x2048) ![o, 0] ![256, 2048] inb) (ix2 ρ n) = X (ix2 r n) := by
  refine congrArg X (funext fun a => Fin.ext ?_)
  match a with
  | ⟨0, _⟩ => exact (congrArg (o + ·) (Nat.one_mul _)).trans hr.symm
  | ⟨1, _⟩ => exact (Nat.zero_add _).trans (Nat.one_mul _)

/-- An index is its two coordinates. -/
theorem ixEq (x : S256x2048.Idx) : x = ix2 ⟨(x 0).val, (x 0).isLt⟩ ⟨(x 1).val, (x 1).isLt⟩ := by
  funext a
  match a with
  | ⟨0, _⟩ => rfl
  | ⟨1, _⟩ => rfl

section Pieces

variable (X acc : FVec F S1024x2048 .f32) (scr : FVec F S1024x2048 .bf16) (B : FVec F S1x9x2048 .f32) (G U : FVec F S2048x512 .bf16)
  (D : FVec F S512x2048 .bf16) (w b : FVec F S1x2048 .f32) (ρ : Fin 256) (κ : Fin 2048) (r : Fin 1024)

/-- The entry that the last point computes of a tile's arrays. -/
def entry : EReal :=
  Cert.FfnPay.norm (pre (fun n => X (ix2 r n)) (fun n => B (ix3 0 8 n)) fun n => acc (ix2 r n)
    + ∑ l : Fin 512, hid (fun k => scr (ix2 r k)) (fun k => G (ix2 k l)) (fun k => U (ix2 k l)) * D (ix2 l n)) ea κ * w (ix2 0 κ) + b (ix2 0 κ)

/-- Quarter 0 of a tile. -/
theorem quarter0 (hr : r.val = 0 + ρ.val) :
    k0_pay8 (View.ld (Val := Elt F) (S := S1024x2048) (e' := .f32) X (Rect.unit (s := S1024x2048) ![0, 0] ![256, 2048] inb_S1024x2048_S256x2048_0_0))
      (k0_pay5 w) (k0_pay6 b) (k0_pay7 (View.ld (Val := Elt F) (S := S1024x2048) (e' := .bf16) scr (Rect.unit (s := S1024x2048) ![0, 0] ![256, 2048] inb_S1024x2048_S256x2048_0_0))
        G U D (View.ld (Val := Elt F) (S := S1024x2048) (e' := .f32) acc (Rect.unit (s := S1024x2048) ![0, 0] ![256, 2048] inb_S1024x2048_S256x2048_0_0))
        (View.ld (Val := Elt F) (S := S1x9x2048) (e' := .f32) B (Rect.unit (s := S1x9x2048) ![0, 8, 0] ![1, 1, 2048] inb_S1x9x2048_S1x1x2048_0_8_0))) (ix2 ρ κ)
      = entry X acc scr B G U D w b κ r := by
  rw [pay8, pay5, pay6, entry]
  refine congrArg (fun f => Cert.FfnPay.norm f ea κ * _ + _) (funext fun n => ?_)
  rw [pay7]
  exact congrArg₂ (· + ·) (ldq (e := .f32) X 0 _ ρ n r hr) (congrArg₂ (fun z v => Ideal.ofBits .f32 0x3F000000#32 * z * ia * v) (ld8 B n)
    (congrArg₂ (· + ·) (ldq (e := .f32) acc 0 _ ρ n r hr) (Finset.sum_congr rfl fun l _ => congrArg (fun a => hid a _ _ * _)
      (funext fun k => ldq (e := .bf16) scr 0 _ ρ k r hr))))

/-- Quarter 1 of a tile. -/
theorem quarter1 (hr : r.val = 256 + ρ.val) :
    k0_pay11 (k0_pay9 (View.ld (Val := Elt F) (S := S1024x2048) (e' := .bf16) scr (Rect.unit (s := S1024x2048) ![256, 0] ![256, 2048] inb_S1024x2048_S256x2048_256_0)) G U)
      (k0_pay10 D) (constant S256x2048 .f32 0x00000000#32) (View.ld (Val := Elt F) (S := S1024x2048) (e' := .f32) acc (Rect.unit (s := S1024x2048) ![256, 0] ![256, 2048] inb_S1024x2048_S256x2048_256_0))
      (View.ld (Val := Elt F) (S := S1024x2048) (e' := .f32) X (Rect.unit (s := S1024x2048) ![256, 0] ![256, 2048] inb_S1024x2048_S256x2048_256_0))
      (View.ld (Val := Elt F) (S := S1x9x2048) (e' := .f32) B (Rect.unit (s := S1x9x2048) ![0, 8, 0] ![1, 1, 2048] inb_S1x9x2048_S1x1x2048_0_8_0))
      w b (ix2 ρ κ) = entry X acc scr B G U D w b κ r := by
  rw [pay11, entry]
  refine congrArg (fun f => Cert.FfnPay.norm f ea κ * _ + _) (funext fun n => ?_)
  exact congrArg₂ (· + ·) (ldq (e := .f32) X 256 _ ρ n r hr) (congrArg₂ (fun z v => Ideal.ofBits .f32 0x3F000000#32 * z * ia * v) (ld8 B n)
    (congrArg₂ (· + ·) (ldq (e := .f32) acc 256 _ ρ n r hr) (Finset.sum_congr rfl fun l _ => congrArg₂ (· * ·) ((pay9 _ _ _ ρ l).trans
      (congrArg (fun a => hid a _ _) (funext fun k => ldq (e := .bf16) scr 256 _ ρ k r hr))) (pay10 D l n))))

/-- Quarter 2 of a tile. -/
theorem quarter2 (hr : r.val = 512 + ρ.val) :
    k0_pay15 (View.ld (Val := Elt F) (S := S1024x2048) (e' := .f32) X (Rect.unit (s := S1024x2048) ![512, 0] ![256, 2048] inb_S1024x2048_S256x2048_512_0))
      (k0_pay12 w) (k0_pay13 b) (k0_pay14 (View.ld (Val := Elt F) (S := S1024x2048) (e' := .bf16) scr (Rect.unit (s := S1024x2048) ![512, 0] ![256, 2048] inb_S1024x2048_S256x2048_512_0))
        G U D (View.ld (Val := Elt F) (S := S1024x2048) (e' := .f32) acc (Rect.unit (s := S1024x2048) ![512, 0] ![256, 2048] inb_S1024x2048_S256x2048_512_0))
        (View.ld (Val := Elt F) (S := S1x9x2048) (e' := .f32) B (Rect.unit (s := S1x9x2048) ![0, 8, 0] ![1, 1, 2048] inb_S1x9x2048_S1x1x2048_0_8_0))) (ix2 ρ κ)
      = entry X acc scr B G U D w b κ r := by
  rw [pay15, pay12, pay13, entry]
  refine congrArg (fun f => Cert.FfnPay.norm f ea κ * _ + _) (funext fun n => ?_)
  rw [pay14]
  exact congrArg₂ (· + ·) (ldq (e := .f32) X 512 _ ρ n r hr) (congrArg₂ (fun z v => Ideal.ofBits .f32 0x3F000000#32 * z * ia * v) (ld8 B n)
    (congrArg₂ (· + ·) (ldq (e := .f32) acc 512 _ ρ n r hr) (Finset.sum_congr rfl fun l _ => congrArg (fun a => hid a _ _ * _)
      (funext fun k => ldq (e := .bf16) scr 512 _ ρ k r hr))))

/-- Quarter 3 of a tile. -/
theorem quarter3 (hr : r.val = 768 + ρ.val) :
    k0_pay18 (k0_pay16 (View.ld (Val := Elt F) (S := S1024x2048) (e' := .bf16) scr (Rect.unit (s := S1024x2048) ![768, 0] ![256, 2048] inb_S1024x2048_S256x2048_768_0)) G U)
      (k0_pay17 D) (constant S256x2048 .f32 0x00000000#32) (View.ld (Val := Elt F) (S := S1024x2048) (e' := .f32) acc (Rect.unit (s := S1024x2048) ![768, 0] ![256, 2048] inb_S1024x2048_S256x2048_768_0))
      (View.ld (Val := Elt F) (S := S1024x2048) (e' := .f32) X (Rect.unit (s := S1024x2048) ![768, 0] ![256, 2048] inb_S1024x2048_S256x2048_768_0))
      (View.ld (Val := Elt F) (S := S1x9x2048) (e' := .f32) B (Rect.unit (s := S1x9x2048) ![0, 8, 0] ![1, 1, 2048] inb_S1x9x2048_S1x1x2048_0_8_0))
      w b (ix2 ρ κ) = entry X acc scr B G U D w b κ r := by
  rw [pay18, entry]
  refine congrArg (fun f => Cert.FfnPay.norm f ea κ * _ + _) (funext fun n => ?_)
  exact congrArg₂ (· + ·) (ldq (e := .f32) X 768 _ ρ n r hr) (congrArg₂ (fun z v => Ideal.ofBits .f32 0x3F000000#32 * z * ia * v) (ld8 B n)
    (congrArg₂ (· + ·) (ldq (e := .f32) acc 768 _ ρ n r hr) (Finset.sum_congr rfl fun l _ => congrArg₂ (· * ·) ((pay16 _ _ _ ρ l).trans
      (congrArg (fun a => hid a _ _) (funext fun k => ldq (e := .bf16) scr 768 _ ρ k r hr))) (pay17 D l n))))

end Pieces

/-- That entry, of a grid point's blocks and of what the point before left, is the result's. -/
theorem entry_eq (t : Fin cfg0.N) (h : t.val % 11 = 10) (r : Fin 1024) (q : Fin 2048) :
    entry (iblk m c 0 t) (outsAt0 m c (t.val - 1) (prev_lt t)).1 (outsAt0 m c (t.val - 1) (prev_lt t)).2 (iblk m c 1 t)
      (iblk m c 2 t) (iblk m c 3 t) (iblk m c 4 t) (iblk m c 5 t) (iblk m c 6 t) q r = orow m c (row t r) q := by
  rw [entry, orow, outK, funext (lastSum m c t h r), funext (b0 m c t r), funext (b1 m c t r 8), b5, b6]
  rfl

/-- The last point of a tile leaves the result's tile. -/
theorem outC (t : Fin cfg0.N) (h : t.val % 11 = 10) (y : S1024x2048.Idx) :
    ((outsAt0 m c t.val t.isLt).1 : FVec F S1024x2048 .f32) y = orow m c (row t ⟨(y 0).val, (y 0).isLt⟩) ⟨(y 1).val, (y 1).isLt⟩ := by
  rw [← entry_eq m c t h, outsAt0_C m c t (by omega) (by omega) h]
  frame_out
  canon_tiles x h
  case piece0 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter3 _ _ _ _ _ _ _ _ _ _ _ _ h0
  case piece1 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter2 _ _ _ _ _ _ _ _ _ _ _ _ h0
  case piece2 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter1 _ _ _ _ _ _ _ _ _ _ _ _ h0
  case piece3 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter0 _ _ _ _ _ _ _ _ _ _ _ _ (h0.trans (Nat.zero_add _).symm)

end Cert.LastTile

end
-- ==== Proof.LastRef.lean ====
/- The last feed-forward reference at a batch, a row and a column. -/
module

public import proofs.«01_k».proof.Proof.Gen.LastRefIdeal.Read
public import proofs.«01_k».proof.Proof.FfnMath
public import Idealize.ShloMosaic.Lib.Pointwise
public import Idealize.ShloMosaic.Lib.Pipeline.ValueKit

@[expose] public section

noncomputable section

namespace Cert.LastRef

open Cert.LastRefIdeal Cert.LastRefIdeal.Gen Cert.LastRefIdeal.Read Cert.FfnMath
open Idealize.ShloMosaic Idealize.ShloMosaic.TcCoe Idealize.ShloMosaic.Pointwise

/-- A batch's row, in the flat array. -/
def flat (b : Fin 8) (s : Fin 4096) : Fin 32768 := ⟨b.val * 4096 + s.val, by omega⟩

variable (x0 : FVec Ideal S32768x2048 .f32) (x1 : FVec Ideal S8x9x2048 .f32) (x2 x3 : FVec Ideal S2048x5632 .f32) (x4 : FVec Ideal S5632x2048 .f32)
  (x5 x6 : FVec Ideal S2048 .f32) (b : Fin 8) (s : Fin 4096)

/-- The residual. -/
theorem resid (n : Fin 2048) : val_main_v0 (F := Ideal) x0 (ix3 b s n) = x0 (ix2 (flat b s) n) := by
  pointwise [val_main_v0]
  rfl

/-- The modulated row. -/
def mrow : Fin 2048 → EReal := aRow (fun k => x0 (ix2 (flat b s) k)) (fun k => x1 (ix3 b 6 k)) fun k => x1 (ix3 b 7 k)

theorem modulated (k : Fin 2048) : val_main_v15 (F := Ideal) x0 x1 (ix3 b s k) = mrow x0 x1 b s k := by
  rw [val_main_v15_apply, val_main_v13_apply, resid]
  pointwise [val_main_v12, val_main_v11, val_main_v10, val_main_cst, val_main_v6, val_main_v5, val_main_v4, val_main_v14, val_main_v3, val_main_v2, val_main_v1]
  rfl

/-- The gate and up products. -/
theorem gate (l : Fin 5632) : val_main_v18 (F := Ideal) x0 x1 x2 (ix3 b s l) = ∑ k, mrow x0 x1 b s k * x2 (ix2 k l) := by
  rw [val_main_v18_apply]
  refine Finset.sum_congr rfl fun k _ => congrArg₂ (· * ·) ((congrArg _ ?_).trans (modulated x0 x1 b s k)) (congrArg x2 ?_)
  · funext a; match a with | ⟨0, _⟩ => rfl | ⟨1, _⟩ => rfl | ⟨2, _⟩ => rfl
  · funext a; match a with | ⟨0, _⟩ => rfl | ⟨1, _⟩ => rfl

theorem up (l : Fin 5632) : val_main_v20 (F := Ideal) x0 x1 x3 (ix3 b s l) = ∑ k, mrow x0 x1 b s k * x3 (ix2 k l) := by
  rw [val_main_v20_apply]
  refine Finset.sum_congr rfl fun k _ => congrArg₂ (· * ·) ((congrArg _ ?_).trans (modulated x0 x1 b s k)) (congrArg x3 ?_)
  · funext a; match a with | ⟨0, _⟩ => rfl | ⟨1, _⟩ => rfl | ⟨2, _⟩ => rfl
  · funext a; match a with | ⟨0, _⟩ => rfl | ⟨1, _⟩ => rfl

/-- The hidden row. -/
theorem hidden (l : Fin 5632) : val_main_v21 (F := Ideal) x0 x1 x2 x3 (ix3 b s l)
    = hidR (mrow x0 x1 b s) (fun k l => x2 (ix2 k l)) (fun k l => x3 (ix2 k l)) l := by
  rw [val_main_v21_apply, up, hidR, Cert.FfnPay.hid, silu, val_main_v19_apply, val_main_call0_v5_apply, val_main_call0_v4_apply,
    val_main_call0_cst_0_apply, val_main_call0_v3_apply, val_main_call0_v2_apply, val_main_call0_cst_apply, val_main_call0_v1_apply,
    val_main_call0_v0_apply, gate]
  rw [← Ideal.ofBits_one_f32]
  rfl

/-- The down product. -/
theorem down (n : Fin 2048) : val_main_v22 (F := Ideal) x0 x1 x2 x3 x4 (ix3 b s n)
    = dRow (mrow x0 x1 b s) (fun k l => x2 (ix2 k l)) (fun k l => x3 (ix2 k l)) (fun l n => x4 (ix2 l n)) n := by
  rw [val_main_v22_apply]
  refine Finset.sum_congr rfl fun l _ => congrArg₂ (· * ·) ((congrArg _ ?_).trans (hidden x0 x1 x2 x3 b s l)) (congrArg x4 ?_)
  · funext a; match a with | ⟨0, _⟩ => rfl | ⟨1, _⟩ => rfl | ⟨2, _⟩ => rfl
  · funext a; match a with | ⟨0, _⟩ => rfl | ⟨1, _⟩ => rfl

/-- The row that the reference normalises. -/
def rrow : Fin 2048 → EReal := fun n => al * x0 (ix2 (flat b s) n) + Ideal.ofBits .f32 0x3F000000#32 * x1 (ix3 b 8 n)
  * dRow (mrow x0 x1 b s) (fun k l => x2 (ix2 k l)) (fun k l => x3 (ix2 k l)) (fun l n => x4 (ix2 l n)) n

theorem toNorm (n : Fin 2048) : val_main_v29 (F := Ideal) x0 x1 x2 x3 x4 (ix3 b s n) = rrow x0 x1 x2 x3 x4 b s n := by
  rw [val_main_v29_apply, val_main_v28_apply, val_main_v24_apply, resid, down]
  pointwise [val_main_v27, val_main_v26, val_main_v25, val_main_cst_1, val_main_v23, val_main_v17, val_main_v16, val_main_cst_0, val_main_v9, val_main_v8, val_main_v7]
  rfl

/-- A row's place, from the place of its mean. -/
theorem pl30 (k : Fin 2048) : idx_main_v30 (idx_main_v31 (ix3 b s 0)) k = ix3 b s k := by
  funext a; match a with | ⟨0, _⟩ => rfl | ⟨1, _⟩ => rfl | ⟨2, _⟩ => rfl

theorem pl37 (k : Fin 2048) : idx_main_v37 (idx_main_v38 (ix3 b s 0)) k = ix3 b s k := by
  funext a; match a with | ⟨0, _⟩ => rfl | ⟨1, _⟩ => rfl | ⟨2, _⟩ => rfl

theorem pl34 (k : Fin 2048) : idx_main_v34 (ix3 b s k) = ix3 b s 0 := by
  funext a; match a with | ⟨0, _⟩ => rfl | ⟨1, _⟩ => rfl | ⟨2, _⟩ => rfl

theorem pl41 (k : Fin 2048) : idx_main_v41 (ix3 b s k) = ix3 b s 0 := by
  funext a; match a with | ⟨0, _⟩ => rfl | ⟨1, _⟩ => rfl | ⟨2, _⟩ => rfl

theorem pl47 (k : Fin 2048) : idx_main_v47 (ix3 b s k) = ix3 b s 0 := by
  funext a; match a with | ⟨0, _⟩ => rfl | ⟨1, _⟩ => rfl | ⟨2, _⟩ => rfl

/-- The mean of the row. -/
theorem rmean : val_main_v33 (F := Ideal) x0 x1 x2 x3 x4 (ix3 b s 0) = Cert.FfnPay.mean (rrow x0 x1 x2 x3 x4 b s) := by
  rw [val_main_v33_apply, val_main_v31_apply, val_main_v30_apply, val_main_v32_apply, val_main_cst_3_apply, val_main_cst_2_apply]
  show Ideal.div (Ideal.ofBits .f32 0x00000000#32 + _) (Ideal.ofBits .f32 0x45000000#32) = _
  rw [Ideal.ofBits_zero_f32, zero_add, Cert.FfnPay.mean]
  refine congrArg (Ideal.div · _) (Finset.sum_congr rfl fun k _ => ?_)
  rw [pl30, toNorm]

/-- The row without its mean. -/
theorem centred (k : Fin 2048) : val_main_v35 (F := Ideal) x0 x1 x2 x3 x4 (ix3 b s k)
    = rrow x0 x1 x2 x3 x4 b s k - Cert.FfnPay.mean (rrow x0 x1 x2 x3 x4 b s) := by
  rw [val_main_v35_apply, val_main_v34_apply, pl34, rmean, toNorm]
  rfl

/-- The variance of the row. -/
theorem rvar : val_main_v40 (F := Ideal) x0 x1 x2 x3 x4 (ix3 b s 0)
    = Ideal.div (∑ k, (rrow x0 x1 x2 x3 x4 b s k - Cert.FfnPay.mean (rrow x0 x1 x2 x3 x4 b s))
        * (rrow x0 x1 x2 x3 x4 b s k - Cert.FfnPay.mean (rrow x0 x1 x2 x3 x4 b s))) (Ideal.ofBits .f32 0x45000000#32) := by
  rw [val_main_v40_apply, val_main_v38_apply, val_main_v37_apply, val_main_v39_apply, val_main_cst_5_apply, val_main_cst_4_apply]
  show Ideal.div (Ideal.ofBits .f32 0x00000000#32 + _) (Ideal.ofBits .f32 0x45000000#32) = _
  rw [Ideal.ofBits_zero_f32, zero_add]
  refine congrArg (Ideal.div · _) (Finset.sum_congr rfl fun k _ => ?_)
  rw [pl37, val_main_v36_apply, centred]
  rfl

/-- The normalised row. -/
theorem normed (n : Fin 2048) : val_main_v48 (F := Ideal) x0 x1 x2 x3 x4 (ix3 b s n)
    = Cert.FfnPay.norm (rrow x0 x1 x2 x3 x4 b s) (Ideal.div 1 (Ideal.ofBits .f32 0x47C35000#32)) n := by
  rw [val_main_v48_apply, val_main_v42_apply, val_main_v41_apply, pl41, rmean, toNorm, val_main_v47_apply, pl47, val_main_v46_apply,
    val_main_v45_apply, rvar, val_main_v44_apply, val_main_v43_apply, val_main_cst_6_apply, val_main_cst_7_apply, ← Ideal.ofBits_one_f32]
  rfl

/-- The reference's first result, at a row and a column. -/
theorem result (n : Fin 2048) : val_main_v55 (F := Ideal) x0 x1 x2 x3 x4 x5 x6 (ix2 (flat b s) n)
    = outK (fun k => x0 (ix2 (flat b s) k)) (fun k => x1 (ix3 b 6 k)) (fun k => x1 (ix3 b 7 k)) (fun k => x1 (ix3 b 8 k))
        (fun k => x5 (ix1 k)) (fun k => x6 (ix1 k)) (fun k l => x2 (ix2 k l)) (fun k l => x3 (ix2 k l)) (fun l n => x4 (ix2 l n)) n := by
  have e : idx_main_v55 (ix2 (flat b s) n) = ix3 b s n := by
    blk_ext [flat]
  rw [val_main_v55_apply, e, val_main_v54_apply, val_main_v51_apply, normed, outK]
  rw [show rrow x0 x1 x2 x3 x4 b s = _ from rfl, ← norm_ref]
  pointwise [val_main_v50, val_main_v49, val_main_v53, val_main_v52]
  rfl

end Cert.LastRef

end
-- ==== Proof.LastArray.lean ====
/- The last feed-forward kernel's result array after the run. -/
module

public import proofs.«01_k».proof.Proof.LastTile
public import proofs.«01_k».proof.Proof.LastRef
public import Idealize.ShloMosaic.Lib.Pipeline.Covers

@[expose] public section

set_option maxRecDepth 16384

noncomputable section

namespace Cert.LastArray

open Cert.LastIdeal Cert.LastIdeal.Gen Cert.LastBlocks Cert.LastTile
open Cert.FfnPay (F)
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The reference's result on the kernel's arguments. -/
def target : FVec F S32768x2048 .f32 :=
  Cert.LastRefIdeal.Read.val_main_v55 (F := F) (aX m c) (aM m c) (aG m c) (aU m c) (aD m c) (aW m c) (aB m c)

/-- The result's row is the reference's. -/
theorem orow_eq (R : Fin 32768) (q : Fin 2048) : orow m c R q = target m c (ix2 R q) := by
  have e : R = Cert.LastRef.flat (bat R) ⟨R.val % 4096, by omega⟩ := Fin.ext (by
    show R.val = R.val / 4096 * 4096 + R.val % 4096
    omega)
  conv_rhs => rw [e]
  rw [target, Cert.LastRef.result, ← e]
  rfl

/-- The blocks of the result cover it. -/
theorem covers : (cfg0.win 7).Covers :=
  (cfg0.win 7).covers_of_index_surj rfl (by decide) fun β => by
    have h0 : (β 0).val < 32 := (β 0).isLt
    have h1 : (β 1).val < 1 := (β 1).isLt
    refine ⟨⟨(β 0).val * 11, by show _ < 352; omega⟩, ?_⟩
    intro a
    match a with
    | ⟨0, _⟩ =>
      refine (congrFun (idx _).2.2.2.2.2.2.2 (0 : Fin 2)).trans ?_
      show (β 0).val * 11 / 11 = (β 0).val
      omega
    | ⟨1, _⟩ =>
      refine (congrFun (idx _).2.2.2.2.2.2.2 (1 : Fin 2)).trans ?_
      show 0 = (β 1).val
      omega

/-- A block index of the result, in its array. -/
theorem emb_ix (t : Fin cfg0.N) (y : ((cfg0.win 7).xblock (cfg0.grid.coords t)).Idx) :
    (((cfg0.win 7).blk t).view.emb y : S32768x2048.Idx) = ix2 (row t ⟨(y 0).val, (y 0).isLt⟩) ⟨(y 1).val, (y 1).isLt⟩ := by
  blk_ext [idx t, row]

/-- A block index of the result, in its staging buffer. -/
theorem xinj_ix (t : Fin cfg0.N) (y : ((cfg0.win 7).xblock (cfg0.grid.coords t)).Idx) :
    ((cfg0.win 7).xinj (cfg0.grid.coords t) y : S1024x2048.Idx) = ix2 ⟨(y 0).val, (y 0).isLt⟩ ⟨(y 1).val, (y 1).isLt⟩ := by
  funext a
  match a with
  | ⟨0, _⟩ => exact Fin.ext rfl
  | ⟨1, _⟩ => exact Fin.ext rfl

/-- The result after the run. -/
theorem final : (dats m 0 c).arrAt 7 cfg0.N = target m c := by
  refine (dats m 0 c).arrAt_eq_of_covers 7 (target m c) covers fun t hf y => ?_
  refine Eq.trans ?_ (congrArg (target m c) (emb_ix t y)).symm
  have h : t.val % 11 = 10 := (flush0_7 t).mp hf
  refine Eq.trans ?_ (orow_eq m c (row t ⟨(y 0).val, (y 0).isLt⟩) ⟨(y 1).val, (y 1).isLt⟩)
  generalize hA : (dats m 0 c).after 7 t = A
  refine (cast_eq rfl _).trans ?_
  refine (congrArg A (xinj_ix t y)).trans ?_
  refine (congrFun (hA.symm.trans (after0_7 m c t)) _).trans ?_
  exact outC m c t h (ix2 ⟨(y 0).val, (y 0).isLt⟩ ⟨(y 1).val, (y 1).isLt⟩)

end Cert.LastArray

end
-- ==== Proof.LastClaim.lean ====
/- The last feed-forward's claim: its kernel and its reference end with the same result. -/
module

public import proofs.«01_k».proof.Defs
public import proofs.«01_k».proof.Proof.LastArray
public import proofs.«01_k».proof.Proof.Gen.LastRefIdeal.Run
public import Idealize.ShloMosaic.Lib.Claim

@[expose] public section

set_option maxRecDepth 16384

noncomputable section

namespace Cert.LastClaim

open Idealize.ShloMosaic Idealize.ShloMosaic.TcCoe Idealize.SL.Sem

/-- The kernel and the reference end with the same result. -/
theorem algebraic : Cert.algebraic_LastIdeal_LastRefIdeal := by
  intro m g m' g' _ hagree
  refine ⟨fun c => (Cert.LastIdeal.Gen.dats m 0 c).arrAt 7 Cert.LastIdeal.cfg0.N, Cert.LastIdeal.Value.run_blocks m g, ?_⟩
  refine (θ_run Cert.LastRefIdeal.defs _ _).mono (fun r h c => ⟨(h c).1.trans ?_, (h c).2⟩) (Cert.LastRefIdeal.Value.run m' g')
  obtain ⟨e0, e1, e2, e3, e4, e5, e6⟩ := hagree c
  rw [Cert.LastRefIdeal.Read.val_main_v55_eq, e0, e1, e2, e3, e4, e5, e6]
  exact (Cert.LastArray.final m c).symm

end Cert.LastClaim

end
-- ==== Proof.MidPay.lean ====
/- The feed-forward kernel's expressions of a second half step, read at an index: they are those of a first half step. -/
module

public import proofs.«01_k».proof.Proof.Gen.MidIdeal.Skeleton
public import proofs.«01_k».proof.Proof.FfnPay

@[expose] public section

set_option maxRecDepth 16384

noncomputable section

namespace Cert.MidPay

open Cert.MidIdeal Cert.MidIdeal.Gen Idealize.ShloMosaic Idealize.ShloMosaic.Pointwise
open Cert.FfnPay (F hid mean norm pre ia ea)

/-- The modulation. -/
theorem pay7 (v23 : Vec F S1024x2048 .f32) (v24 v26 : Vec F S1x1x2048 .f32) (r : Fin 1024) (n : Fin 2048) :
    k0_pay7 v23 v24 v26 (ix2 r n) = v23 (ix2 r n) * (1 + v26 (ix3 0 0 n)) + v24 (ix3 0 0 n) :=
  Cert.FfnPay.pay7 v23 v24 v26 r n

theorem pay8 (v23 : Vec F S1024x2048 .f32) (v24 v26 : Vec F S1x1x2048 .f32) (r : Fin 1024) (n : Fin 2048) :
    k0_pay8 v23 v24 v26 (ix2 r n) = v23 (ix2 r n) * (1 + v26 (ix3 0 0 n)) + v24 (ix3 0 0 n) :=
  Cert.FfnPay.pay8 v23 v24 v26 r n

/-- The first part of the down projection. -/
theorem pay1 (v34 : FVec F S1024x2048 .bf16) (v38 v41 : Vec F S2048x512 .bf16) (v52 : Vec F S512x2048 .bf16) (r : Fin 1024) (n : Fin 2048) :
    k0_pay1 v34 v38 v41 v52 (ix2 r n)
      = ∑ l : Fin 512, hid (fun k => v34 (ix2 r k)) (fun k => v38 (ix2 k l)) (fun k => v41 (ix2 k l)) * v52 (ix2 l n) :=
  Cert.FfnPay.pay1 v34 v38 v41 v52 r n

/-- The hidden block. -/
theorem pay12 (v23 : Vec F S1024x2048 .bf16) (v24 v27 : Vec F S2048x512 .bf16) (r : Fin 1024) (l : Fin 512) :
    k0_pay12 v23 v24 v27 (ix2 r l) = hid (fun k => v23 (ix2 r k)) (fun k => v24 (ix2 k l)) (fun k => v27 (ix2 k l)) :=
  Cert.FfnPay.pay12 v23 v24 v27 r l

theorem pay16 (v23 : Vec F S256x2048 .bf16) (v24 v27 : Vec F S2048x512 .bf16) (r : Fin 256) (l : Fin 512) :
    k0_pay16 v23 v24 v27 (ix2 r l) = hid (fun k => v23 (ix2 r k)) (fun k => v24 (ix2 k l)) (fun k => v27 (ix2 k l)) :=
  Cert.FfnPay.pay16 v23 v24 v27 r l

theorem pay24 (v23 : Vec F S256x2048 .bf16) (v24 v27 : Vec F S2048x512 .bf16) (r : Fin 256) (l : Fin 512) :
    k0_pay24 v23 v24 v27 (ix2 r l) = hid (fun k => v23 (ix2 r k)) (fun k => v24 (ix2 k l)) (fun k => v27 (ix2 k l)) :=
  Cert.FfnPay.pay24 v23 v24 v27 r l

/-- A later part of the down projection, added to what is there. -/
theorem pay2 (v37 : FVec F S1024x512 .bf16) (v38 : Vec F S512x2048 .bf16) (v41 : Vec F S1024x2048 .f32) (r : Fin 1024) (n : Fin 2048) :
    k0_pay2 v37 v38 v41 (ix2 r n) = v41 (ix2 r n) + ∑ l : Fin 512, v37 (ix2 r l) * v38 (ix2 l n) :=
  Cert.FfnPay.pay2 v37 v38 v41 r n

theorem pay18 (v79 : Vec F S256x2048 .bf16) (v80 v83 : Vec F S2048x512 .bf16) (v94 : Vec F S512x2048 .bf16) (v97 : Vec F S256x2048 .f32)
    (r : Fin 256) (n : Fin 2048) : k0_pay18 v79 v80 v83 v94 v97 (ix2 r n)
      = v97 (ix2 r n) + ∑ l : Fin 512, hid (fun k => v79 (ix2 r k)) (fun k => v80 (ix2 k l)) (fun k => v83 (ix2 k l)) * v94 (ix2 l n) :=
  Cert.FfnPay.pay18 v79 v80 v83 v94 v97 r n

theorem pay26 (v79 : Vec F S256x2048 .bf16) (v80 v83 : Vec F S2048x512 .bf16) (v94 : Vec F S512x2048 .bf16) (v97 : Vec F S256x2048 .f32)
    (r : Fin 256) (n : Fin 2048) : k0_pay26 v79 v80 v83 v94 v97 (ix2 r n)
      = v97 (ix2 r n) + ∑ l : Fin 512, hid (fun k => v79 (ix2 r k)) (fun k => v80 (ix2 k l)) (fun k => v83 (ix2 k l)) * v94 (ix2 l n) :=
  Cert.FfnPay.pay26 v79 v80 v83 v94 v97 r n

theorem pay23 (v99 : FVec F S256x2048 .f32) (v100 : Vec F S256x2048 .f32) (v104 v106 v108 : FVec F S1x2048 .f32) (r : Fin 256) (n : Fin 2048) :
    k0_pay23 v99 v100 v104 v106 v108 k0_pay22 (ix2 r n)
      = norm (fun n => v100 (ix2 r n) + v104 (ix2 0 n) * ia * v99 (ix2 r n)) ea n * v106 (ix2 0 n) + v108 (ix2 0 n) :=
  Cert.FfnPay.pay23 v99 v100 v104 v106 v108 r n

theorem pay3 (v99 : FVec F S256x2048 .f32) (v100 : Vec F S256x2048 .f32) (v104 v106 v108 : FVec F S1x2048 .f32) (r : Fin 256) (n : Fin 2048) :
    k0_pay3 v99 v100 v104 v106 v108 k0_pay30 (ix2 r n)
      = norm (fun n => v100 (ix2 r n) + v104 (ix2 0 n) * ia * v99 (ix2 r n)) ea n * v106 (ix2 0 n) + v108 (ix2 0 n) :=
  Cert.FfnPay.pay3 v99 v100 v104 v106 v108 r n

theorem pay17 (v37 : FVec F S256x512 .bf16) (v38 : Vec F S512x2048 .bf16) (v41 v44 : Vec F S256x2048 .f32) (v45 : Vec F S1x1x2048 .f32)
    (v49 v51 : Vec F S1x2048 .f32) (r : Fin 256) (n : Fin 2048) :
    k0_pay17 v37 v38 v41 v44 v45 v49 v51 (ix2 r n)
      = norm (pre (fun n => v44 (ix2 r n)) (fun n => v45 (ix3 0 0 n)) fun n => v41 (ix2 r n) + ∑ l : Fin 512, v37 (ix2 r l) * v38 (ix2 l n)) ea n
        * v49 (ix2 0 n) + v51 (ix2 0 n) :=
  Cert.FfnPay.pay17 v37 v38 v41 v44 v45 v49 v51 r n

theorem pay25 (v37 : FVec F S256x512 .bf16) (v38 : Vec F S512x2048 .bf16) (v41 v44 : Vec F S256x2048 .f32) (v45 : Vec F S1x1x2048 .f32)
    (v49 v51 : Vec F S1x2048 .f32) (r : Fin 256) (n : Fin 2048) :
    k0_pay25 v37 v38 v41 v44 v45 v49 v51 (ix2 r n)
      = norm (pre (fun n => v44 (ix2 r n)) (fun n => v45 (ix3 0 0 n)) fun n => v41 (ix2 r n) + ∑ l : Fin 512, v37 (ix2 r l) * v38 (ix2 l n)) ea n
        * v49 (ix2 0 n) + v51 (ix2 0 n) :=
  Cert.FfnPay.pay25 v37 v38 v41 v44 v45 v49 v51 r n

theorem pay19 (v101 : Vec F S1x1x2048 .f32) (n : Fin 2048) : k0_pay19 v101 (ix2 0 n) = Ideal.ofBits .f32 0x3F000000#32 * v101 (ix3 0 0 n) :=
  Cert.FfnPay.pay19 v101 n

theorem pay27 (v101 : Vec F S1x1x2048 .f32) (n : Fin 2048) : k0_pay27 v101 (ix2 0 n) = Ideal.ofBits .f32 0x3F000000#32 * v101 (ix3 0 0 n) :=
  Cert.FfnPay.pay27 v101 n

theorem pay20 (v : Vec F S1x2048 .f32) (n : Fin 2048) : k0_pay20 v (ix2 0 n) = v (ix2 0 n) :=
  Cert.FfnPay.pay20 v n

theorem pay21 (v : Vec F S1x2048 .f32) (n : Fin 2048) : k0_pay21 v (ix2 0 n) = v (ix2 0 n) :=
  Cert.FfnPay.pay21 v n

theorem pay28 (v : Vec F S1x2048 .f32) (n : Fin 2048) : k0_pay28 v (ix2 0 n) = v (ix2 0 n) :=
  Cert.FfnPay.pay28 v n

theorem pay29 (v : Vec F S1x2048 .f32) (n : Fin 2048) : k0_pay29 v (ix2 0 n) = v (ix2 0 n) :=
  Cert.FfnPay.pay29 v n

/-- The weights in the other format. -/
theorem pay4 (v : Vec F S1x1x64x512 .f32) (r : Fin 64) (n : Fin 512) : k0_pay4 v (ix2 r n) = v (ix4 0 0 r n) :=
  Cert.FfnPay.pay4 v r n

theorem pay5 (v : Vec F S1x1x64x512 .f32) (r : Fin 64) (n : Fin 512) : k0_pay5 v (ix2 r n) = v (ix4 0 0 r n) :=
  Cert.FfnPay.pay5 v r n

theorem pay9 (v : Vec F S1x1x64x512 .f32) (r : Fin 64) (n : Fin 512) : k0_pay9 v (ix2 r n) = v (ix4 0 0 r n) :=
  Cert.FfnPay.pay9 v r n

theorem pay10 (v : Vec F S1x1x64x512 .f32) (r : Fin 64) (n : Fin 512) : k0_pay10 v (ix2 r n) = v (ix4 0 0 r n) :=
  Cert.FfnPay.pay10 v r n

theorem pay13 (v : Vec F S1x1x64x512 .f32) (r : Fin 64) (n : Fin 512) : k0_pay13 v (ix2 r n) = v (ix4 0 0 r n) :=
  Cert.FfnPay.pay13 v r n

theorem pay14 (v : Vec F S1x1x64x512 .f32) (r : Fin 64) (n : Fin 512) : k0_pay14 v (ix2 r n) = v (ix4 0 0 r n) :=
  Cert.FfnPay.pay14 v r n

theorem pay6 (v : Vec F S1x1x16x2048 .f32) (r : Fin 16) (n : Fin 2048) : k0_pay6 v (ix2 r n) = v (ix4 0 0 r n) :=
  Cert.FfnPay.pay6 v r n

theorem pay11 (v : Vec F S1x1x16x2048 .f32) (r : Fin 16) (n : Fin 2048) : k0_pay11 v (ix2 r n) = v (ix4 0 0 r n) :=
  Cert.FfnPay.pay11 v r n

theorem pay15 (v : Vec F S1x1x16x2048 .f32) (r : Fin 16) (n : Fin 2048) : k0_pay15 v (ix2 r n) = v (ix4 0 0 r n) :=
  Cert.FfnPay.pay15 v r n

end Cert.MidPay

end
-- ==== Proof.MidBlocks.lean ====
/- The second half step's feed-forward kernel's input blocks, read from the call's arguments. -/
module

public import proofs.«01_k».proof.Proof.Gen.MidIdeal.Value
public import proofs.«01_k».proof.Proof.MidPay
public import Idealize.ShloMosaic.Lib.Pipeline.ValueKit
public import Idealize.ShloMosaic.Lib.Pointwise

@[expose] public section

noncomputable section

namespace Cert.MidBlocks

open Cert.MidIdeal Cert.MidIdeal.Gen
open Cert.FfnPay (F)
open Idealize.ShloMosaic Idealize.ShloMosaic.TcCoe Idealize.ShloMosaic.Pipeline
open scoped Idealize.ShloMosaic

variable (m : (ℓ : Loc nD τ sig) → Buf (Elt F) ℓ) (c : Dev nD)

/-- The block that every window reads or writes at grid point `t`, which stands for row tile `t / 11` and chunk `t % 11`. -/
theorem idx : ∀ t : Fin cfg0.N, win0_0.index t = ![t.val / 11, 0]
    ∧ win0_1.index t = ![t.val / 44, 0, 0]
    ∧ win0_2.index t = ![0, t.val % 11]
    ∧ win0_3.index t = ![0, t.val % 11]
    ∧ win0_4.index t = ![t.val % 11, 0]
    ∧ win0_5.index t = ![0, 0]
    ∧ win0_6.index t = ![0, 0]
    ∧ win0_7.index t = ![1, 0, t.val / 11, t.val % 11]
    ∧ win0_8.index t = ![1, 0, t.val / 11, t.val % 11]
    ∧ win0_9.index t = ![1, 0, t.val, 0]
    ∧ win0_10.index t = ![t.val / 11, 0]
    ∧ win0_11.index t = ![t.val / 11, t.val % 11]
    ∧ win0_12.index t = ![t.val / 11, t.val % 11]
    ∧ win0_13.index t = ![t.val, 0] :=
  (by decide +kernel : ∀ t : Fin grid0.N, _)

theorem lt (t : Fin cfg0.N) : t.val < 352 := t.isLt

/-- A row of the tile, in the array. -/
def row (t : Fin cfg0.N) (r : Fin 1024) : Fin 32768 := ⟨t.val / 11 * 1024 + r.val, by have := lt t; omega⟩

/-- A lane of the chunk, in the hidden row. -/
def lane (t : Fin cfg0.N) (l : Fin 512) : Fin 5632 := ⟨t.val % 11 * 512 + l.val, by omega⟩

/-- The batch of a row. -/
def bat (R : Fin 32768) : Fin 8 := ⟨R.val / 4096, by omega⟩

/-- The ten arguments. -/
def aX : FVec F S32768x2048 .f32 := m ((c.tc : Thread nD τ).loc main_arg0)
def aM : FVec F S8x9x2048 .f32 := m ((c.tc : Thread nD τ).loc main_arg1)
def aG : FVec F S2048x5632 .f32 := m ((c.tc : Thread nD τ).loc main_arg2)
def aU : FVec F S2048x5632 .f32 := m ((c.tc : Thread nD τ).loc main_arg3)
def aD : FVec F S5632x2048 .f32 := m ((c.tc : Thread nD τ).loc main_arg4)
def aW : FVec F S2048 .f32 := m ((c.tc : Thread nD τ).loc main_arg5)
def aB : FVec F S2048 .f32 := m ((c.tc : Thread nD τ).loc main_arg6)
def aNG : FVec F S4x2x2048x5632 .f32 := m ((c.tc : Thread nD τ).loc main_arg7)
def aNU : FVec F S4x2x2048x5632 .f32 := m ((c.tc : Thread nD τ).loc main_arg8)
def aND : FVec F S4x2x5632x2048 .f32 := m ((c.tc : Thread nD τ).loc main_arg9)

theorem b0 (t : Fin cfg0.N) (r : Fin 1024) (n : Fin 2048) :
    (iblk m c 0 t : FVec F S1024x2048 .f32) (ix2 r n) = aX m c (ix2 (row t r) n) := by
  blk_ext [iblk, V, idx t, aX, row]

theorem b1 (t : Fin cfg0.N) (r : Fin 1024) (j : Fin 9) (n : Fin 2048) :
    (iblk m c 1 t : FVec F S1x9x2048 .f32) (ix3 0 j n) = aM m c (ix3 (bat (row t r)) j n) := by
  blk_ext [iblk, V, idx t, aM, row, bat]

theorem b2 (t : Fin cfg0.N) (k : Fin 2048) (l : Fin 512) :
    (iblk m c 2 t : FVec F S2048x512 .bf16) (ix2 k l) = aG m c (ix2 k (lane t l)) := by
  blk_simp [iblk, idx t]
  entry_read
  pointwise []
  blk_ext [idx t, aG, lane]

theorem b3 (t : Fin cfg0.N) (k : Fin 2048) (l : Fin 512) :
    (iblk m c 3 t : FVec F S2048x512 .bf16) (ix2 k l) = aU m c (ix2 k (lane t l)) := by
  blk_simp [iblk, idx t]
  entry_read
  pointwise []
  blk_ext [idx t, aU, lane]

theorem b4 (t : Fin cfg0.N) (l : Fin 512) (n : Fin 2048) :
    (iblk m c 4 t : FVec F S512x2048 .bf16) (ix2 l n) = aD m c (ix2 (lane t l) n) := by
  blk_simp [iblk, idx t]
  entry_read
  pointwise []
  blk_ext [idx t, aD, lane]

theorem b5 (t : Fin cfg0.N) (n : Fin 2048) :
    (iblk m c 5 t : FVec F S1x2048 .f32) (ix2 0 n) = aW m c (ix1 n) := by
  blk_simp [iblk, idx t]
  entry_read
  pointwise []
  blk_ext [idx t, aW]

theorem b6 (t : Fin cfg0.N) (n : Fin 2048) :
    (iblk m c 6 t : FVec F S1x2048 .f32) (ix2 0 n) = aB m c (ix1 n) := by
  blk_simp [iblk, idx t]
  entry_read
  pointwise []
  blk_ext [idx t, aB]

/-- The next weights' rows and columns at a grid point. -/
def nrow (t : Fin cfg0.N) (r : Fin 64) : Fin 2048 := ⟨t.val / 11 * 64 + r.val, by have := lt t; omega⟩
def drow (t : Fin cfg0.N) (r : Fin 16) : Fin 5632 := ⟨t.val * 16 + r.val, by have := lt t; omega⟩

theorem b7 (t : Fin cfg0.N) (r : Fin 64) (l : Fin 512) :
    (iblk m c 7 t : FVec F S1x1x64x512 .f32) (ix4 0 0 r l) = aNG m c (ix4 1 0 (nrow t r) (lane t l)) := by
  blk_ext [iblk, V, idx t, aNG, nrow, lane]

theorem b8 (t : Fin cfg0.N) (r : Fin 64) (l : Fin 512) :
    (iblk m c 8 t : FVec F S1x1x64x512 .f32) (ix4 0 0 r l) = aNU m c (ix4 1 0 (nrow t r) (lane t l)) := by
  blk_ext [iblk, V, idx t, aNU, nrow, lane]

theorem b9 (t : Fin cfg0.N) (r : Fin 16) (n : Fin 2048) :
    (iblk m c 9 t : FVec F S1x1x16x2048 .f32) (ix4 0 0 r n) = aND m c (ix4 1 0 (drow t r) n) := by
  blk_ext [iblk, V, idx t, aND, drow]

end Cert.MidBlocks

end
-- ==== Proof.MidAccum.lean ====
/- What the second half step's feed-forward kernel's running sum and carried row hold at each grid point before the last of a tile. -/
module

public import proofs.«01_k».proof.Proof.MidBlocks
public import proofs.«01_k».proof.Proof.FfnAccum
public import proofs.«01_k».proof.Proof.FfnMath
public import Idealize.ShloMosaic.Lib.Pipeline.ReadBack

@[expose] public section

set_option maxRecDepth 16384

noncomputable section

namespace Cert.MidAccum

open Cert.MidIdeal Cert.MidIdeal.Gen Cert.MidPay Cert.MidBlocks Cert.FfnMath
open Cert.FfnPay (F hid norm pre ia ea)
open Cert.FfnAccum (sum_chunk)
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The modulated row of row `R`. -/
def arow (R : Fin 32768) : Fin 2048 → EReal :=
  aRow (fun k => aX m c (ix2 R k)) (fun k => aM m c (ix3 (bat R) 6 k)) fun k => aM m c (ix3 (bat R) 7 k)

/-- Lane `l` of the sum that the down product of row `R` at `q` is. -/
def term (R : Fin 32768) (q : Fin 2048) (l : ℕ) : EReal :=
  if h : l < 5632 then
    hidR (arow m c R) (fun k l => aG m c (ix2 k l)) (fun k l => aU m c (ix2 k l)) ⟨l, h⟩ * aD m c (ix2 ⟨l, h⟩ q)
  else 0

/-- A row of the modulation block, as the kernel loads it. -/
theorem ld6 (B : FVec F S1x9x2048 .f32) (n : Fin 2048) :
    View.ld (Val := Elt F) (S := S1x9x2048) (e' := .f32) B (Rect.unit ![0, 6, 0] ![1, 1, 2048] inb_S1x9x2048_S1x1x2048_0_6_0) (ix3 0 0 n) = B (ix3 0 6 n) := by
  refine congrArg B (funext fun a => Fin.ext ?_)
  match a with
  | ⟨0, _⟩ => rfl
  | ⟨1, _⟩ => rfl
  | ⟨2, _⟩ => exact (Nat.zero_add _).trans (Nat.one_mul _)

theorem ld7 (B : FVec F S1x9x2048 .f32) (n : Fin 2048) :
    View.ld (Val := Elt F) (S := S1x9x2048) (e' := .f32) B (Rect.unit ![0, 7, 0] ![1, 1, 2048] inb_S1x9x2048_S1x1x2048_0_7_0) (ix3 0 0 n) = B (ix3 0 7 n) := by
  refine congrArg B (funext fun a => Fin.ext ?_)
  match a with
  | ⟨0, _⟩ => rfl
  | ⟨1, _⟩ => rfl
  | ⟨2, _⟩ => exact (Nat.zero_add _).trans (Nat.one_mul _)

theorem ld8 (B : FVec F S1x9x2048 .f32) (n : Fin 2048) :
    View.ld (Val := Elt F) (S := S1x9x2048) (e' := .f32) B (Rect.unit ![0, 8, 0] ![1, 1, 2048] inb_S1x9x2048_S1x1x2048_0_8_0) (ix3 0 0 n) = B (ix3 0 8 n) := by
  refine congrArg B (funext fun a => Fin.ext ?_)
  match a with
  | ⟨0, _⟩ => rfl
  | ⟨1, _⟩ => rfl
  | ⟨2, _⟩ => exact (Nat.zero_add _).trans (Nat.one_mul _)

/-- The chunk's part of the down product. -/
theorem chunk (t : Fin cfg0.N) (r : Fin 1024) (q : Fin 2048) (a : Fin 2048 → EReal) (ha : ∀ k, a k = arow m c (row t r) k) :
    ∑ l : Fin 512, hid a (fun k => (iblk m c 2 t : FVec F S2048x512 .bf16) (ix2 k l)) (fun k => (iblk m c 3 t : FVec F S2048x512 .bf16) (ix2 k l))
        * (iblk m c 4 t : FVec F S512x2048 .bf16) (ix2 l q)
      = ∑ l : Fin 512, term m c (row t r) q (t.val % 11 * 512 + l.val) := by
  refine Finset.sum_congr rfl fun l _ => ?_
  have hl : t.val % 11 * 512 + l.val < 5632 := by omega
  rw [term, dif_pos hl, funext ha, b4, funext fun k => b2 m c t k l, funext fun k => b3 m c t k l]
  rfl

/-- The modulated block of a tile. -/
theorem modB (X : FVec F S1024x2048 .f32) (B : FVec F S1x9x2048 .f32) (R : Fin 32768) (r : Fin 1024) (k : Fin 2048)
    (hX : X (ix2 r k) = aX m c (ix2 R k)) (hB : ∀ j, B (ix3 0 j k) = aM m c (ix3 (bat R) j k)) :
    X (ix2 r k) * (1 + View.ld (Val := Elt F) (S := S1x9x2048) (e' := .f32) B (Rect.unit ![0, 7, 0] ![1, 1, 2048] inb_S1x9x2048_S1x1x2048_0_7_0) (ix3 0 0 k))
        + View.ld (Val := Elt F) (S := S1x9x2048) (e' := .f32) B (Rect.unit ![0, 6, 0] ![1, 1, 2048] inb_S1x9x2048_S1x1x2048_0_6_0) (ix3 0 0 k)
      = arow m c R k := by
  rw [ld6, ld7, hX, hB, hB]
  rfl

/-- The first point of a tile leaves the first chunk's sum. -/
theorem outA (t : Fin cfg0.N) (h0 : t.val % 11 = 0) (r : Fin 1024) (q : Fin 2048) :
    ((outsAt0 m c t.val t.isLt).1 : FVec F S1024x2048 .f32) (ix2 r q) = ∑ l : Fin 512, term m c (row t r) q (t.val % 11 * 512 + l.val) := by
  rw [outsAt0_A m c t h0 (by omega) (by omega)]
  frame_out
  refine (pay1 _ _ _ _ r q).trans ?_
  exact chunk m c t r q _ fun k => (pay7 _ _ _ r k).trans (modB m c (iblk m c 0 t) (iblk m c 1 t) (row t r) r k (b0 m c t r k) fun j => b1 m c t r j k)

/-- … and the modulated tile. -/
theorem outAs (t : Fin cfg0.N) (h0 : t.val % 11 = 0) (r : Fin 1024) (k : Fin 2048) :
    ((outsAt0 m c t.val t.isLt).2.2.2.2 : FVec F S1024x2048 .bf16) (ix2 r k) = arow m c (row t r) k := by
  rw [outsAt0_A m c t h0 (by omega) (by omega)]
  frame_out
  exact (pay8 _ _ _ r k).trans (modB m c (iblk m c 0 t) (iblk m c 1 t) (row t r) r k (b0 m c t r k) fun j => b1 m c t r j k)

/-- The point before. -/
theorem prev_lt (t : Fin cfg0.N) : t.val - 1 < cfg0.N := lt_of_le_of_lt (Nat.sub_le _ _) t.isLt

/-- A middle point adds its chunk to what the point before left. -/
theorem outB (t : Fin cfg0.N) (h1 : 1 ≤ t.val % 11 ∧ t.val % 11 ≤ 9) (r : Fin 1024) (q : Fin 2048)
    (hs : ∀ k, ((outsAt0 m c (t.val - 1) (prev_lt t)).2.2.2.2 : FVec F S1024x2048 .bf16) (ix2 r k) = arow m c (row t r) k) :
    ((outsAt0 m c t.val t.isLt).1 : FVec F S1024x2048 .f32) (ix2 r q)
      = ((outsAt0 m c (t.val - 1) (prev_lt t)).1 : FVec F S1024x2048 .f32) (ix2 r q) + ∑ l : Fin 512, term m c (row t r) q (t.val % 11 * 512 + l.val) := by
  rw [outsAt0_B m c t (by omega) h1 (by omega)]
  frame_out
  refine (pay2 _ _ _ r q).trans ?_
  refine congrArg (_ + ·) ((Finset.sum_congr rfl fun l _ => congrArg (· * _) (pay12 _ _ _ r l)).trans ?_)
  refine chunk m c t r q _ fun k => ?_
  rw [read_unread_whole]
  exact hs k

/-- … and keeps the modulated tile. -/
theorem outBs (t : Fin cfg0.N) (h1 : 1 ≤ t.val % 11 ∧ t.val % 11 ≤ 9) :
    ((outsAt0 m c t.val t.isLt).2.2.2.2 : FVec F S1024x2048 .bf16) = (outsAt0 m c (t.val - 1) (prev_lt t)).2.2.2.2 := by
  rw [outsAt0_B m c t (by omega) h1 (by omega)]
  rfl

/-- Before the last point of a tile: the carried tile is the modulated one, and the running sum is over the lanes so far. -/
theorem accum (n : ℕ) : ∀ hn : n < cfg0.N, n % 11 ≠ 10 →
    (∀ r k, ((outsAt0 m c n hn).2.2.2.2 : FVec F S1024x2048 .bf16) (ix2 r k) = arow m c (row ⟨n, hn⟩ r) k)
      ∧ ∀ r q, ((outsAt0 m c n hn).1 : FVec F S1024x2048 .f32) (ix2 r q) = ∑ i ∈ Finset.range ((n % 11 + 1) * 512), term m c (row ⟨n, hn⟩ r) q i := by
  have caseA : ∀ n (hn : n < cfg0.N), n % 11 = 0 →
      (∀ r k, ((outsAt0 m c n hn).2.2.2.2 : FVec F S1024x2048 .bf16) (ix2 r k) = arow m c (row ⟨n, hn⟩ r) k)
        ∧ ∀ r q, ((outsAt0 m c n hn).1 : FVec F S1024x2048 .f32) (ix2 r q) = ∑ i ∈ Finset.range ((n % 11 + 1) * 512), term m c (row ⟨n, hn⟩ r) q i := by
    intro n hn h0
    refine ⟨fun r k => outAs m c ⟨n, hn⟩ h0 r k, fun r q => (outA m c ⟨n, hn⟩ h0 r q).trans ?_⟩
    rw [sum_chunk, h0, Nat.zero_mul, Finset.range_zero, Finset.sum_empty, zero_add]
  induction n with
  | zero => exact fun hn _ => caseA 0 hn (Nat.zero_mod _)
  | succ n ih =>
    intro hn h10
    by_cases h0 : (n + 1) % 11 = 0
    · exact caseA (n + 1) hn h0
    · have hp : n < cfg0.N := Nat.lt_of_succ_lt hn
      have h1 : 1 ≤ (n + 1) % 11 ∧ (n + 1) % 11 ≤ 9 := by omega
      obtain ⟨is, ia⟩ := ih hp (by omega)
      have er : ∀ r, row ⟨n + 1, hn⟩ r = row ⟨n, hp⟩ r := fun r => Fin.ext (by
        show (n + 1) / 11 * 1024 + r.val = n / 11 * 1024 + r.val
        rw [show (n + 1) / 11 = n / 11 by omega])
      have em : n % 11 + 1 = (n + 1) % 11 := by omega
      refine ⟨fun r k => ?_, fun r q => ?_⟩
      · rw [er]
        exact (congrFun (outBs m c ⟨n + 1, hn⟩ h1) (ix2 r k)).trans (is r k)
      · refine (outB m c ⟨n + 1, hn⟩ h1 r q fun k => ?_).trans ?_
        · rw [er]
          exact is r k
        · rw [sum_chunk, er, ← em]
          exact congrArg₂ (· + ·) (ia r q) (by simp only [em])

end Cert.MidAccum

end
-- ==== Proof.MidTile.lean ====
/- What the second half step's feed-forward kernel writes at the last grid point of a tile. -/
module

public import proofs.«01_k».proof.Proof.MidAccum

@[expose] public section

set_option maxRecDepth 16384

noncomputable section

namespace Cert.MidTile

open Cert.MidIdeal Cert.MidIdeal.Gen Cert.MidPay Cert.MidBlocks Cert.FfnMath Cert.MidAccum
open Cert.FfnPay (F hid norm pre ia ea)
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The first result's row, from the arguments. -/
def orow (R : Fin 32768) (q : Fin 2048) : EReal :=
  outK (fun k => aX m c (ix2 R k)) (fun k => aM m c (ix3 (bat R) 6 k)) (fun k => aM m c (ix3 (bat R) 7 k)) (fun k => aM m c (ix3 (bat R) 8 k))
    (fun k => aW m c (ix1 k)) (fun k => aB m c (ix1 k)) (fun k l => aG m c (ix2 k l)) (fun k l => aU m c (ix2 k l)) (fun l n => aD m c (ix2 l n)) q

/-- The down product of a row, over all its lanes. -/
theorem total (R : Fin 32768) (q : Fin 2048) : ∑ i ∈ Finset.range 5632, term m c R q i
    = dRow (arow m c R) (fun k l => aG m c (ix2 k l)) (fun k l => aU m c (ix2 k l)) (fun l n => aD m c (ix2 l n)) q := by
  rw [← Fin.sum_univ_eq_sum_range, dRow]
  exact Finset.sum_congr rfl fun l _ => dif_pos l.isLt

/-- The running sum and the last chunk make the down product. -/
theorem lastSum (t : Fin cfg0.N) (h : t.val % 11 = 10) (r : Fin 1024) (q : Fin 2048) :
    ((outsAt0 m c (t.val - 1) (prev_lt t)).1 : FVec F S1024x2048 .f32) (ix2 r q)
        + ∑ l : Fin 512, hid (fun k => ((outsAt0 m c (t.val - 1) (prev_lt t)).2.2.2.2 : FVec F S1024x2048 .bf16) (ix2 r k))
            (fun k => (iblk m c 2 t : FVec F S2048x512 .bf16) (ix2 k l)) (fun k => (iblk m c 3 t : FVec F S2048x512 .bf16) (ix2 k l))
          * (iblk m c 4 t : FVec F S512x2048 .bf16) (ix2 l q)
      = dRow (arow m c (row t r)) (fun k l => aG m c (ix2 k l)) (fun k l => aU m c (ix2 k l)) (fun l n => aD m c (ix2 l n)) q := by
  obtain ⟨is, ia⟩ := accum m c (t.val - 1) (prev_lt t) (by omega)
  have er : row ⟨t.val - 1, prev_lt t⟩ r = row t r := Fin.ext (by
    show (t.val - 1) / 11 * 1024 + r.val = t.val / 11 * 1024 + r.val
    rw [show (t.val - 1) / 11 = t.val / 11 by omega])
  rw [chunk m c t r q _ fun k => (is r k).trans (by rw [er]), ia, er, show (t.val - 1) % 11 + 1 = 10 by omega, h, ← Cert.FfnAccum.sum_chunk (term m c (row t r) q) 10]
  exact total m c _ q

/-- A quarter of a tile, as the kernel loads it. -/
theorem ldq {e : EltTy} (X : Vec F S1024x2048 e) (o : ℕ) (inb) (ρ : Fin 256) (n : Fin 2048) (r : Fin 1024) (hr : r.val = o + ρ.val) :
    View.ld (Val := Elt F) (S := S1024x2048) (e' := e) X (Rect.unit (s := S1024x2048) ![o, 0] ![256, 2048] inb) (ix2 ρ n) = X (ix2 r n) := by
  refine congrArg X (funext fun a => Fin.ext ?_)
  match a with
  | ⟨0, _⟩ => exact (congrArg (o + ·) (Nat.one_mul _)).trans hr.symm
  | ⟨1, _⟩ => exact (Nat.zero_add _).trans (Nat.one_mul _)

/-- An index is its two coordinates. -/
theorem ixEq (x : S256x2048.Idx) : x = ix2 ⟨(x 0).val, (x 0).isLt⟩ ⟨(x 1).val, (x 1).isLt⟩ := by
  funext a
  match a with
  | ⟨0, _⟩ => rfl
  | ⟨1, _⟩ => rfl

section Pieces

variable (X acc : FVec F S1024x2048 .f32) (scr : FVec F S1024x2048 .bf16) (B : FVec F S1x9x2048 .f32) (G U : FVec F S2048x512 .bf16)
  (D : FVec F S512x2048 .bf16) (w b : FVec F S1x2048 .f32) (ρ : Fin 256) (κ : Fin 2048) (r : Fin 1024)

/-- The entry that the last point computes of a tile's arrays. -/
def entry : EReal :=
  Cert.FfnPay.norm (pre (fun n => X (ix2 r n)) (fun n => B (ix3 0 8 n)) fun n => acc (ix2 r n)
    + ∑ l : Fin 512, hid (fun k => scr (ix2 r k)) (fun k => G (ix2 k l)) (fun k => U (ix2 k l)) * D (ix2 l n)) ea κ * w (ix2 0 κ) + b (ix2 0 κ)

/-- Quarter 3 of a tile. -/
theorem quarter3 (hr : r.val = 768 + ρ.val) :
    k0_pay3 (k0_pay26 (View.ld (Val := Elt F) (S := S1024x2048) (e' := .bf16) scr (Rect.unit (s := S1024x2048) ![768, 0] ![256, 2048] inb_S1024x2048_S256x2048_768_0))
        G U D (View.ld (Val := Elt F) (S := S1024x2048) (e' := .f32) acc (Rect.unit (s := S1024x2048) ![768, 0] ![256, 2048] inb_S1024x2048_S256x2048_768_0)))
      (View.ld (Val := Elt F) (S := S1024x2048) (e' := .f32) X (Rect.unit (s := S1024x2048) ![768, 0] ![256, 2048] inb_S1024x2048_S256x2048_768_0))
      (k0_pay27 (View.ld (Val := Elt F) (S := S1x9x2048) (e' := .f32) B (Rect.unit (s := S1x9x2048) ![0, 8, 0] ![1, 1, 2048] inb_S1x9x2048_S1x1x2048_0_8_0)))
      (k0_pay28 w) (k0_pay29 b) k0_pay30 (ix2 ρ κ) = entry X acc scr B G U D w b κ r := by
  rw [pay3, pay28, pay29, entry]
  refine congrArg (fun f => Cert.FfnPay.norm f ea κ * _ + _) (funext fun n => ?_)
  rw [pay27, pay26]
  exact congrArg₂ (· + ·) (ldq (e := .f32) X 768 _ ρ n r hr) (congrArg₂ (fun z v => Ideal.ofBits .f32 0x3F000000#32 * z * ia * v) (ld8 B n)
    (congrArg₂ (· + ·) (ldq (e := .f32) acc 768 _ ρ n r hr) (Finset.sum_congr rfl fun l _ => congrArg (fun a => hid a _ _ * _)
      (funext fun k => ldq (e := .bf16) scr 768 _ ρ k r hr))))

/-- Quarter 1 of a tile. -/
theorem quarter1 (hr : r.val = 256 + ρ.val) :
    k0_pay23 (k0_pay18 (View.ld (Val := Elt F) (S := S1024x2048) (e' := .bf16) scr (Rect.unit (s := S1024x2048) ![256, 0] ![256, 2048] inb_S1024x2048_S256x2048_256_0))
        G U D (View.ld (Val := Elt F) (S := S1024x2048) (e' := .f32) acc (Rect.unit (s := S1024x2048) ![256, 0] ![256, 2048] inb_S1024x2048_S256x2048_256_0)))
      (View.ld (Val := Elt F) (S := S1024x2048) (e' := .f32) X (Rect.unit (s := S1024x2048) ![256, 0] ![256, 2048] inb_S1024x2048_S256x2048_256_0))
      (k0_pay19 (View.ld (Val := Elt F) (S := S1x9x2048) (e' := .f32) B (Rect.unit (s := S1x9x2048) ![0, 8, 0] ![1, 1, 2048] inb_S1x9x2048_S1x1x2048_0_8_0)))
      (k0_pay20 w) (k0_pay21 b) k0_pay22 (ix2 ρ κ) = entry X acc scr B G U D w b κ r := by
  rw [pay23, pay20, pay21, entry]
  refine congrArg (fun f => Cert.FfnPay.norm f ea κ * _ + _) (funext fun n => ?_)
  rw [pay19, pay18]
  exact congrArg₂ (· + ·) (ldq (e := .f32) X 256 _ ρ n r hr) (congrArg₂ (fun z v => Ideal.ofBits .f32 0x3F000000#32 * z * ia * v) (ld8 B n)
    (congrArg₂ (· + ·) (ldq (e := .f32) acc 256 _ ρ n r hr) (Finset.sum_congr rfl fun l _ => congrArg (fun a => hid a _ _ * _)
      (funext fun k => ldq (e := .bf16) scr 256 _ ρ k r hr))))

/-- Quarter 2 of a tile. -/
theorem quarter2 (hr : r.val = 512 + ρ.val) :
    k0_pay25 (k0_pay24 (View.ld (Val := Elt F) (S := S1024x2048) (e' := .bf16) scr (Rect.unit (s := S1024x2048) ![512, 0] ![256, 2048] inb_S1024x2048_S256x2048_512_0)) G U)
      D (View.ld (Val := Elt F) (S := S1024x2048) (e' := .f32) acc (Rect.unit (s := S1024x2048) ![512, 0] ![256, 2048] inb_S1024x2048_S256x2048_512_0))
      (View.ld (Val := Elt F) (S := S1024x2048) (e' := .f32) X (Rect.unit (s := S1024x2048) ![512, 0] ![256, 2048] inb_S1024x2048_S256x2048_512_0))
      (View.ld (Val := Elt F) (S := S1x9x2048) (e' := .f32) B (Rect.unit (s := S1x9x2048) ![0, 8, 0] ![1, 1, 2048] inb_S1x9x2048_S1x1x2048_0_8_0))
      w b (ix2 ρ κ) = entry X acc scr B G U D w b κ r := by
  rw [pay25, entry]
  refine congrArg (fun f => Cert.FfnPay.norm f ea κ * _ + _) (funext fun n => ?_)
  exact congrArg₂ (· + ·) (ldq (e := .f32) X 512 _ ρ n r hr) (congrArg₂ (fun z v => Ideal.ofBits .f32 0x3F000000#32 * z * ia * v) (ld8 B n)
    (congrArg₂ (· + ·) (ldq (e := .f32) acc 512 _ ρ n r hr) (Finset.sum_congr rfl fun l _ => congrArg (· * _) ((pay24 _ _ _ ρ l).trans
      (congrArg (fun a => hid a _ _) (funext fun k => ldq (e := .bf16) scr 512 _ ρ k r hr))))))

/-- Quarter 0 of a tile. -/
theorem quarter0 (hr : r.val = 0 + ρ.val) :
    k0_pay17 (k0_pay16 (View.ld (Val := Elt F) (S := S1024x2048) (e' := .bf16) scr (Rect.unit (s := S1024x2048) ![0, 0] ![256, 2048] inb_S1024x2048_S256x2048_0_0)) G U)
      D (View.ld (Val := Elt F) (S := S1024x2048) (e' := .f32) acc (Rect.unit (s := S1024x2048) ![0, 0] ![256, 2048] inb_S1024x2048_S256x2048_0_0))
      (View.ld (Val := Elt F) (S := S1024x2048) (e' := .f32) X (Rect.unit (s := S1024x2048) ![0, 0] ![256, 2048] inb_S1024x2048_S256x2048_0_0))
      (View.ld (Val := Elt F) (S := S1x9x2048) (e' := .f32) B (Rect.unit (s := S1x9x2048) ![0, 8, 0] ![1, 1, 2048] inb_S1x9x2048_S1x1x2048_0_8_0))
      w b (ix2 ρ κ) = entry X acc scr B G U D w b κ r := by
  rw [pay17, entry]
  refine congrArg (fun f => Cert.FfnPay.norm f ea κ * _ + _) (funext fun n => ?_)
  exact congrArg₂ (· + ·) (ldq (e := .f32) X 0 _ ρ n r hr) (congrArg₂ (fun z v => Ideal.ofBits .f32 0x3F000000#32 * z * ia * v) (ld8 B n)
    (congrArg₂ (· + ·) (ldq (e := .f32) acc 0 _ ρ n r hr) (Finset.sum_congr rfl fun l _ => congrArg (· * _) ((pay16 _ _ _ ρ l).trans
      (congrArg (fun a => hid a _ _) (funext fun k => ldq (e := .bf16) scr 0 _ ρ k r hr))))))

end Pieces

/-- That entry, of a grid point's blocks and of what the point before left, is the result's. -/
theorem entry_eq (t : Fin cfg0.N) (h : t.val % 11 = 10) (r : Fin 1024) (q : Fin 2048) :
    entry (iblk m c 0 t) (outsAt0 m c (t.val - 1) (prev_lt t)).1 (outsAt0 m c (t.val - 1) (prev_lt t)).2.2.2.2 (iblk m c 1 t)
      (iblk m c 2 t) (iblk m c 3 t) (iblk m c 4 t) (iblk m c 5 t) (iblk m c 6 t) q r = orow m c (row t r) q := by
  rw [entry, orow, outK, funext (lastSum m c t h r), funext (b0 m c t r), funext (b1 m c t r 8), b5, b6]
  rfl

/-- The last point of a tile leaves the result's tile. -/
theorem outC (t : Fin cfg0.N) (h : t.val % 11 = 10) (y : S1024x2048.Idx) :
    ((outsAt0 m c t.val t.isLt).1 : FVec F S1024x2048 .f32) y = orow m c (row t ⟨(y 0).val, (y 0).isLt⟩) ⟨(y 1).val, (y 1).isLt⟩ := by
  rw [← entry_eq m c t h, outsAt0_C m c t (by omega) (by omega) h]
  frame_out
  canon_tiles x h
  case piece0 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter3 _ _ _ _ _ _ _ _ _ _ _ _ h0
  case piece1 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter2 _ _ _ _ _ _ _ _ _ _ _ _ h0
  case piece2 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter1 _ _ _ _ _ _ _ _ _ _ _ _ h0
  case piece3 =>
    obtain ⟨ρ, κ, rfl⟩ : ∃ ρ κ, x = ix2 ρ κ := ⟨_, _, ixEq x⟩
    rw [read_unread_whole, show (⟨(y 1).val, (y 1).isLt⟩ : Fin 2048) = κ from Fin.ext h1]
    exact quarter0 _ _ _ _ _ _ _ _ _ _ _ _ (h0.trans (Nat.zero_add _).symm)

end Cert.MidTile

end
-- ==== Proof.MidRef.lean ====
/- The second half step's feed-forward reference at a batch, a row and a column. -/
module

public import proofs.«01_k».proof.Proof.Gen.MidRefIdeal.Read
public import proofs.«01_k».proof.Proof.FfnMath
public import Idealize.ShloMosaic.Lib.Pointwise
public import Idealize.ShloMosaic.Lib.Pipeline.ValueKit

@[expose] public section

noncomputable section

namespace Cert.MidRef

open Cert.MidRefIdeal Cert.MidRefIdeal.Gen Cert.MidRefIdeal.Read Cert.FfnMath
open Idealize.ShloMosaic Idealize.ShloMosaic.TcCoe Idealize.ShloMosaic.Pointwise

/-- A batch's row, in the flat array. -/
def flat (b : Fin 8) (s : Fin 4096) : Fin 32768 := ⟨b.val * 4096 + s.val, by omega⟩

variable (x0 : FVec Ideal S32768x2048 .f32) (x1 : FVec Ideal S8x9x2048 .f32) (x2 x3 : FVec Ideal S2048x5632 .f32) (x4 : FVec Ideal S5632x2048 .f32)
  (x5 x6 : FVec Ideal S2048 .f32) (b : Fin 8) (s : Fin 4096)

/-- The residual. -/
theorem resid (n : Fin 2048) : val_main_v0 (F := Ideal) x0 (ix3 b s n) = x0 (ix2 (flat b s) n) := by
  pointwise [val_main_v0]
  rfl

/-- The modulated row. -/
def mrow : Fin 2048 → EReal := aRow (fun k => x0 (ix2 (flat b s) k)) (fun k => x1 (ix3 b 6 k)) fun k => x1 (ix3 b 7 k)

theorem modulated (k : Fin 2048) : val_main_v15 (F := Ideal) x0 x1 (ix3 b s k) = mrow x0 x1 b s k := by
  rw [val_main_v15_apply, val_main_v13_apply, resid]
  pointwise [val_main_v12, val_main_v11, val_main_v10, val_main_cst, val_main_v6, val_main_v5, val_main_v4, val_main_v14, val_main_v3, val_main_v2, val_main_v1]
  rfl

/-- The gate and up products. -/
theorem gate (l : Fin 5632) : val_main_v18 (F := Ideal) x0 x1 x2 (ix3 b s l) = ∑ k, mrow x0 x1 b s k * x2 (ix2 k l) := by
  rw [val_main_v18_apply]
  refine Finset.sum_congr rfl fun k _ => congrArg₂ (· * ·) ((congrArg _ ?_).trans (modulated x0 x1 b s k)) (congrArg x2 ?_)
  · funext a; match a with | ⟨0, _⟩ => rfl | ⟨1, _⟩ => rfl | ⟨2, _⟩ => rfl
  · funext a; match a with | ⟨0, _⟩ => rfl | ⟨1, _⟩ => rfl

theorem up (l : Fin 5632) : val_main_v20 (F := Ideal) x0 x1 x3 (ix3 b s l) = ∑ k, mrow x0 x1 b s k * x3 (ix2 k l) := by
  rw [val_main_v20_apply]
  refine Finset.sum_congr rfl fun k _ => congrArg₂ (· * ·) ((congrArg _ ?_).trans (modulated x0 x1 b s k)) (congrArg x3 ?_)
  · funext a; match a with | ⟨0, _⟩ => rfl | ⟨1, _⟩ => rfl | ⟨2, _⟩ => rfl
  · funext a; match a with | ⟨0, _⟩ => rfl | ⟨1, _⟩ => rfl

/-- The hidden row. -/
theorem hidden (l : Fin 5632) : val_main_v21 (F := Ideal) x0 x1 x2 x3 (ix3 b s l)
    = hidR (mrow x0 x1 b s) (fun k l => x2 (ix2 k l)) (fun k l => x3 (ix2 k l)) l := by
  rw [val_main_v21_apply, up, hidR, Cert.FfnPay.hid, silu, val_main_v19_apply, val_main_call0_v5_apply, val_main_call0_v4_apply,
    val_main_call0_cst_0_apply, val_main_call0_v3_apply, val_main_call0_v2_apply, val_main_call0_cst_apply, val_main_call0_v1_apply,
    val_main_call0_v0_apply, gate]
  rw [← Ideal.ofBits_one_f32]
  rfl

/-- The down product. -/
theorem down (n : Fin 2048) : val_main_v22 (F := Ideal) x0 x1 x2 x3 x4 (ix3 b s n)
    = dRow (mrow x0 x1 b s) (fun k l => x2 (ix2 k l)) (fun k l => x3 (ix2 k l)) (fun l n => x4 (ix2 l n)) n := by
  rw [val_main_v22_apply]
  refine Finset.sum_congr rfl fun l _ => congrArg₂ (· * ·) ((congrArg _ ?_).trans (hidden x0 x1 x2 x3 b s l)) (congrArg x4 ?_)
  · funext a; match a with | ⟨0, _⟩ => rfl | ⟨1, _⟩ => rfl | ⟨2, _⟩ => rfl
  · funext a; match a with | ⟨0, _⟩ => rfl | ⟨1, _⟩ => rfl

/-- The row that the reference normalises. -/
def rrow : Fin 2048 → EReal := fun n => al * x0 (ix2 (flat b s) n) + Ideal.ofBits .f32 0x3F000000#32 * x1 (ix3 b 8 n)
  * dRow (mrow x0 x1 b s) (fun k l => x2 (ix2 k l)) (fun k l => x3 (ix2 k l)) (fun l n => x4 (ix2 l n)) n

theorem toNorm (n : Fin 2048) : val_main_v29 (F := Ideal) x0 x1 x2 x3 x4 (ix3 b s n) = rrow x0 x1 x2 x3 x4 b s n := by
  rw [val_main_v29_apply, val_main_v28_apply, val_main_v24_apply, resid, down]
  pointwise [val_main_v27, val_main_v26, val_main_v25, val_main_cst_1, val_main_v23, val_main_v17, val_main_v16, val_main_cst_0, val_main_v9, val_main_v8, val_main_v7]
  rfl

/-- A row's place, from the place of its mean. -/
theorem pl30 (k : Fin 2048) : idx_main_v30 (idx_main_v31 (ix3 b s 0)) k = ix3 b s k := by
  funext a; match a with | ⟨0, _⟩ => rfl | ⟨1, _⟩ => rfl | ⟨2, _⟩ => rfl

theorem pl37 (k : Fin 2048) : idx_main_v37 (idx_main_v38 (ix3 b s 0)) k = ix3 b s k := by
  funext a; match a with | ⟨0, _⟩ => rfl | ⟨1, _⟩ => rfl | ⟨2, _⟩ => rfl

theorem pl34 (k : Fin 2048) : idx_main_v34 (ix3 b s k) = ix3 b s 0 := by
  funext a; match a with | ⟨0, _⟩ => rfl | ⟨1, _⟩ => rfl | ⟨2, _⟩ => rfl

theorem pl41 (k : Fin 2048) : idx_main_v41 (ix3 b s k) = ix3 b s 0 := by
  funext a; match a with | ⟨0, _⟩ => rfl | ⟨1, _⟩ => rfl | ⟨2, _⟩ => rfl

theorem pl47 (k : Fin 2048) : idx_main_v47 (ix3 b s k) = ix3 b s 0 := by
  funext a; match a with | ⟨0, _⟩ => rfl | ⟨1, _⟩ => rfl | ⟨2, _⟩ => rfl

/-- The mean of the row. -/
theorem rmean : val_main_v33 (F := Ideal) x0 x1 x2 x3 x4 (ix3 b s 0) = Cert.FfnPay.mean (rrow x0 x1 x2 x3 x4 b s) := by
  rw [val_main_v33_apply, val_main_v31_apply, val_main_v30_apply, val_main_v32_apply, val_main_cst_3_apply, val_main_cst_2_apply]
  show Ideal.div (Ideal.ofBits .f32 0x00000000#32 + _) (Ideal.ofBits .f32 0x45000000#32) = _
  rw [Ideal.ofBits_zero_f32, zero_add, Cert.FfnPay.mean]
  refine congrArg (Ideal.div · _) (Finset.sum_congr rfl fun k _ => ?_)
  rw [pl30, toNorm]

/-- The row without its mean. -/
theorem centred (k : Fin 2048) : val_main_v35 (F := Ideal) x0 x1 x2 x3 x4 (ix3 b s k)
    = rrow x0 x1 x2 x3 x4 b s k - Cert.FfnPay.mean (rrow x0 x1 x2 x3 x4 b s) := by
  rw [val_main_v35_apply, val_main_v34_apply, pl34, rmean, toNorm]
  rfl

/-- The variance of the row. -/
theorem rvar : val_main_v40 (F := Ideal) x0 x1 x2 x3 x4 (ix3 b s 0)
    = Ideal.div (∑ k, (rrow x0 x1 x2 x3 x4 b s k - Cert.FfnPay.mean (rrow x0 x1 x2 x3 x4 b s))
        * (rrow x0 x1 x2 x3 x4 b s k - Cert.FfnPay.mean (rrow x0 x1 x2 x3 x4 b s))) (Ideal.ofBits .f32 0x45000000#32) := by
  rw [val_main_v40_apply, val_main_v38_apply, val_main_v37_apply, val_main_v39_apply, val_main_cst_5_apply, val_main_cst_4_apply]
  show Ideal.div (Ideal.ofBits .f32 0x00000000#32 + _) (Ideal.ofBits .f32 0x45000000#32) = _
  rw [Ideal.ofBits_zero_f32, zero_add]
  refine congrArg (Ideal.div · _) (Finset.sum_congr rfl fun k _ => ?_)
  rw [pl37, val_main_v36_apply, centred]
  rfl

/-- The normalised row. -/
theorem normed (n : Fin 2048) : val_main_v48 (F := Ideal) x0 x1 x2 x3 x4 (ix3 b s n)
    = Cert.FfnPay.norm (rrow x0 x1 x2 x3 x4 b s) (Ideal.div 1 (Ideal.ofBits .f32 0x47C35000#32)) n := by
  rw [val_main_v48_apply, val_main_v42_apply, val_main_v41_apply, pl41, rmean, toNorm, val_main_v47_apply, pl47, val_main_v46_apply,
    val_main_v45_apply, rvar, val_main_v44_apply, val_main_v43_apply, val_main_cst_6_apply, val_main_cst_7_apply, ← Ideal.ofBits_one_f32]
  rfl

/-- The reference's first result, at a row and a column. -/
theorem result (n : Fin 2048) : val_main_v55 (F := Ideal) x0 x1 x2 x3 x4 x5 x6 (ix2 (flat b s) n)
    = outK (fun k => x0 (ix2 (flat b s) k)) (fun k => x1 (ix3 b 6 k)) (fun k => x1 (ix3 b 7 k)) (fun k => x1 (ix3 b 8 k))
        (fun k => x5 (ix1 k)) (fun k => x6 (ix1 k)) (fun k l => x2 (ix2 k l)) (fun k l => x3 (ix2 k l)) (fun l n => x4 (ix2 l n)) n := by
  have e : idx_main_v55 (ix2 (flat b s) n) = ix3 b s n := by
    blk_ext [flat]
  rw [val_main_v55_apply, e, val_main_v54_apply, val_main_v51_apply, normed, outK]
  rw [show rrow x0 x1 x2 x3 x4 b s = _ from rfl, ← norm_ref]
  pointwise [val_main_v50, val_main_v49, val_main_v53, val_main_v52]
  rfl

/-- The next weights, cast. -/
theorem nextG (x7 : FVec Ideal S4x2x2048x5632 .f32) (k : Fin 2048) (l : Fin 5632) :
    val_main_v58 (F := Ideal) x7 (ix2 k l) = x7 (ix4 1 0 k l) := by
  pointwise [val_main_v58, val_main_v57, val_main_v56]

theorem nextU (x8 : FVec Ideal S4x2x2048x5632 .f32) (k : Fin 2048) (l : Fin 5632) :
    val_main_v61 (F := Ideal) x8 (ix2 k l) = x8 (ix4 1 0 k l) := by
  pointwise [val_main_v61, val_main_v60, val_main_v59]

theorem nextD (x9 : FVec Ideal S4x2x5632x2048 .f32) (l : Fin 5632) (n : Fin 2048) :
    val_main_v64 (F := Ideal) x9 (ix2 l n) = x9 (ix4 1 0 l n) := by
  pointwise [val_main_v64, val_main_v63, val_main_v62]

end Cert.MidRef

end
-- ==== Proof.MidArray.lean ====
/- The second half step's feed-forward kernel's four result arrays after the run. -/
module

public import proofs.«01_k».proof.Proof.MidTile
public import proofs.«01_k».proof.Proof.MidRef
public import Idealize.ShloMosaic.Lib.Pipeline.Covers

@[expose] public section

set_option maxRecDepth 16384

noncomputable section

namespace Cert.MidArray

open Cert.MidIdeal Cert.MidIdeal.Gen Cert.MidPay Cert.MidBlocks Cert.FfnMath Cert.MidAccum Cert.MidTile
open Cert.FfnPay (F hid norm pre ia ea)
open Idealize.ShloMosaic Idealize.ShloMosaic.TcCoe Idealize.ShloMosaic.Pipeline Idealize.ShloMosaic.Pointwise
open scoped Idealize.ShloMosaic

variable (m : (ℓ : Loc nD τ sig) → Buf (Elt F) ℓ) (c : Dev nD)

/-- The reference's four results on the kernel's arguments. -/
def target0 : FVec F S32768x2048 .f32 :=
  Cert.MidRefIdeal.Read.val_main_v55 (F := F) (aX m c) (aM m c) (aG m c) (aU m c) (aD m c) (aW m c) (aB m c)
def target1 : FVec F S2048x5632 .bf16 := Cert.MidRefIdeal.Read.val_main_v58 (F := F) (aNG m c)
def target2 : FVec F S2048x5632 .bf16 := Cert.MidRefIdeal.Read.val_main_v61 (F := F) (aNU m c)
def target3 : FVec F S5632x2048 .bf16 := Cert.MidRefIdeal.Read.val_main_v64 (F := F) (aND m c)

/-- The first result's row is the reference's. -/
theorem orow_eq (R : Fin 32768) (q : Fin 2048) : orow m c R q = target0 m c (ix2 R q) := by
  have e : R = Cert.MidRef.flat (bat R) ⟨R.val % 4096, by omega⟩ := Fin.ext (by
    show R.val = R.val / 4096 * 4096 + R.val % 4096
    omega)
  conv_rhs => rw [e]
  rw [target0, Cert.MidRef.result, ← e]
  rfl

/-- The blocks of each result cover it. -/
theorem covers10 : (cfg0.win 10).Covers :=
  (cfg0.win 10).covers_of_index_surj rfl (by decide) fun β => by
    have h0 : (β 0).val < 32 := (β 0).isLt
    have h1 : (β 1).val < 1 := (β 1).isLt
    refine ⟨⟨(β 0).val * 11, by show _ < 352; omega⟩, ?_⟩
    intro a
    match a with
    | ⟨0, _⟩ =>
      refine (congrFun (idx _).2.2.2.2.2.2.2.2.2.2.1 (0 : Fin 2)).trans ?_
      show (β 0).val * 11 / 11 = (β 0).val
      omega
    | ⟨1, _⟩ =>
      refine (congrFun (idx _).2.2.2.2.2.2.2.2.2.2.1 (1 : Fin 2)).trans ?_
      show 0 = (β 1).val
      omega

theorem covers11 : (cfg0.win 11).Covers :=
  (cfg0.win 11).covers_of_index_surj rfl (by decide) fun β => by
    have h0 : (β 0).val < 32 := (β 0).isLt
    have h1 : (β 1).val < 11 := (β 1).isLt
    refine ⟨⟨(β 0).val * 11 + (β 1).val, by show _ < 352; omega⟩, ?_⟩
    intro a
    match a with
    | ⟨0, _⟩ =>
      refine (congrFun (idx _).2.2.2.2.2.2.2.2.2.2.2.1 (0 : Fin 2)).trans ?_
      show ((β 0).val * 11 + (β 1).val) / 11 = (β 0).val
      omega
    | ⟨1, _⟩ =>
      refine (congrFun (idx _).2.2.2.2.2.2.2.2.2.2.2.1 (1 : Fin 2)).trans ?_
      show ((β 0).val * 11 + (β 1).val) % 11 = (β 1).val
      omega

theorem covers12 : (cfg0.win 12).Covers :=
  (cfg0.win 12).covers_of_index_surj rfl (by decide) fun β => by
    have h0 : (β 0).val < 32 := (β 0).isLt
    have h1 : (β 1).val < 11 := (β 1).isLt
    refine ⟨⟨(β 0).val * 11 + (β 1).val, by show _ < 352; omega⟩, ?_⟩
    intro a
    match a with
    | ⟨0, _⟩ =>
      refine (congrFun (idx _).2.2.2.2.2.2.2.2.2.2.2.2.1 (0 : Fin 2)).trans ?_
      show ((β 0).val * 11 + (β 1).val) / 11 = (β 0).val
      omega
    | ⟨1, _⟩ =>
      refine (congrFun (idx _).2.2.2.2.2.2.2.2.2.2.2.2.1 (1 : Fin 2)).trans ?_
      show ((β 0).val * 11 + (β 1).val) % 11 = (β 1).val
      omega

theorem covers13 : (cfg0.win 13).Covers :=
  (cfg0.win 13).covers_of_index_surj rfl (by decide) fun β => by
    have h0 : (β 0).val < 352 := (β 0).isLt
    have h1 : (β 1).val < 1 := (β 1).isLt
    refine ⟨⟨(β 0).val, by show _ < 352; omega⟩, ?_⟩
    intro a
    match a with
    | ⟨0, _⟩ => exact congrFun (idx _).2.2.2.2.2.2.2.2.2.2.2.2.2 (0 : Fin 2)
    | ⟨1, _⟩ =>
      refine (congrFun (idx _).2.2.2.2.2.2.2.2.2.2.2.2.2 (1 : Fin 2)).trans ?_
      show 0 = (β 1).val
      omega

/-- A block index of each result, in its array. -/
theorem emb10 (t : Fin cfg0.N) (y : ((cfg0.win 10).xblock (cfg0.grid.coords t)).Idx) :
    (((cfg0.win 10).blk t).view.emb y : S32768x2048.Idx) = ix2 (row t ⟨(y 0).val, (y 0).isLt⟩) ⟨(y 1).val, (y 1).isLt⟩ := by
  blk_ext [idx t, row]

theorem emb11 (t : Fin cfg0.N) (y : ((cfg0.win 11).xblock (cfg0.grid.coords t)).Idx) :
    (((cfg0.win 11).blk t).view.emb y : S2048x5632.Idx) = ix2 (nrow t ⟨(y 0).val, (y 0).isLt⟩) (lane t ⟨(y 1).val, (y 1).isLt⟩) := by
  blk_ext [idx t, nrow, lane]

theorem emb12 (t : Fin cfg0.N) (y : ((cfg0.win 12).xblock (cfg0.grid.coords t)).Idx) :
    (((cfg0.win 12).blk t).view.emb y : S2048x5632.Idx) = ix2 (nrow t ⟨(y 0).val, (y 0).isLt⟩) (lane t ⟨(y 1).val, (y 1).isLt⟩) := by
  blk_ext [idx t, nrow, lane]

theorem emb13 (t : Fin cfg0.N) (y : ((cfg0.win 13).xblock (cfg0.grid.coords t)).Idx) :
    (((cfg0.win 13).blk t).view.emb y : S5632x2048.Idx) = ix2 (drow t ⟨(y 0).val, (y 0).isLt⟩) ⟨(y 1).val, (y 1).isLt⟩ := by
  blk_ext [idx t, drow]

/-- A block index of each result, in its staging buffer. -/
theorem xinj10 (t : Fin cfg0.N) (y : ((cfg0.win 10).xblock (cfg0.grid.coords t)).Idx) :
    ((cfg0.win 10).xinj (cfg0.grid.coords t) y : S1024x2048.Idx) = ix2 ⟨(y 0).val, (y 0).isLt⟩ ⟨(y 1).val, (y 1).isLt⟩ := by
  funext a
  match a with
  | ⟨0, _⟩ => exact Fin.ext rfl
  | ⟨1, _⟩ => exact Fin.ext rfl

theorem xinj11 (t : Fin cfg0.N) (y : ((cfg0.win 11).xblock (cfg0.grid.coords t)).Idx) :
    ((cfg0.win 11).xinj (cfg0.grid.coords t) y : S64x512.Idx) = ix2 ⟨(y 0).val, (y 0).isLt⟩ ⟨(y 1).val, (y 1).isLt⟩ := by
  funext a
  match a with
  | ⟨0, _⟩ => exact Fin.ext rfl
  | ⟨1, _⟩ => exact Fin.ext rfl

theorem xinj12 (t : Fin cfg0.N) (y : ((cfg0.win 12).xblock (cfg0.grid.coords t)).Idx) :
    ((cfg0.win 12).xinj (cfg0.grid.coords t) y : S64x512.Idx) = ix2 ⟨(y 0).val, (y 0).isLt⟩ ⟨(y 1).val, (y 1).isLt⟩ := by
  funext a
  match a with
  | ⟨0, _⟩ => exact Fin.ext rfl
  | ⟨1, _⟩ => exact Fin.ext rfl

theorem xinj13 (t : Fin cfg0.N) (y : ((cfg0.win 13).xblock (cfg0.grid.coords t)).Idx) :
    ((cfg0.win 13).xinj (cfg0.grid.coords t) y : S16x2048.Idx) = ix2 ⟨(y 0).val, (y 0).isLt⟩ ⟨(y 1).val, (y 1).isLt⟩ := by
  funext a
  match a with
  | ⟨0, _⟩ => exact Fin.ext rfl
  | ⟨1, _⟩ => exact Fin.ext rfl

/-- What every grid point leaves of the next weights. -/
theorem next11 (t : Fin cfg0.N) (r : Fin 64) (l : Fin 512) :
    ((outsAt0 m c t.val t.isLt).2.1 : FVec F S64x512 .bf16) (ix2 r l) = target1 m c (ix2 (nrow t r) (lane t l)) := by
  rw [target1, Cert.MidRef.nextG, ← b7 m c t r l]
  by_cases h0 : t.val % 11 = 0
  · rw [outsAt0_A m c t h0 (by omega) (by omega)]
    frame_out
    first | exact pay4 _ r l | exact pay9 _ r l | exact pay13 _ r l
  · by_cases h2 : t.val % 11 = 10
    · rw [outsAt0_C m c t h0 (by omega) h2]
      frame_out
      first | exact pay4 _ r l | exact pay9 _ r l | exact pay13 _ r l
    · rw [outsAt0_B m c t h0 (by omega) h2]
      frame_out
      first | exact pay4 _ r l | exact pay9 _ r l | exact pay13 _ r l

theorem next12 (t : Fin cfg0.N) (r : Fin 64) (l : Fin 512) :
    ((outsAt0 m c t.val t.isLt).2.2.1 : FVec F S64x512 .bf16) (ix2 r l) = target2 m c (ix2 (nrow t r) (lane t l)) := by
  rw [target2, Cert.MidRef.nextU, ← b8 m c t r l]
  by_cases h0 : t.val % 11 = 0
  · rw [outsAt0_A m c t h0 (by omega) (by omega)]
    frame_out
    first | exact pay5 _ r l | exact pay10 _ r l | exact pay14 _ r l
  · by_cases h2 : t.val % 11 = 10
    · rw [outsAt0_C m c t h0 (by omega) h2]
      frame_out
      first | exact pay5 _ r l | exact pay10 _ r l | exact pay14 _ r l
    · rw [outsAt0_B m c t h0 (by omega) h2]
      frame_out
      first | exact pay5 _ r l | exact pay10 _ r l | exact pay14 _ r l

theorem next13 (t : Fin cfg0.N) (r : Fin 16) (n : Fin 2048) :
    ((outsAt0 m c t.val t.isLt).2.2.2.1 : FVec F S16x2048 .bf16) (ix2 r n) = target3 m c (ix2 (drow t r) n) := by
  rw [target3, Cert.MidRef.nextD, ← b9 m c t r n]
  by_cases h0 : t.val % 11 = 0
  · rw [outsAt0_A m c t h0 (by omega) (by omega)]
    frame_out
    first | exact pay6 _ r n | exact pay11 _ r n | exact pay15 _ r n
  · by_cases h2 : t.val % 11 = 10
    · rw [outsAt0_C m c t h0 (by omega) h2]
      frame_out
      first | exact pay6 _ r n | exact pay11 _ r n | exact pay15 _ r n
    · rw [outsAt0_B m c t h0 (by omega) h2]
      frame_out
      first | exact pay6 _ r n | exact pay11 _ r n | exact pay15 _ r n

/-- The first result after the run. -/
theorem final0 : (dats m 0 c).arrAt 10 cfg0.N = target0 m c := by
  refine (dats m 0 c).arrAt_eq_of_covers 10 (target0 m c) covers10 fun t hf y => ?_
  refine Eq.trans ?_ (congrArg (target0 m c) (emb10 t y)).symm
  have h : t.val % 11 = 10 := (flush0_10 t).mp hf
  refine Eq.trans ?_ (orow_eq m c (row t ⟨(y 0).val, (y 0).isLt⟩) ⟨(y 1).val, (y 1).isLt⟩)
  generalize hA : (dats m 0 c).after 10 t = A
  refine (cast_eq rfl _).trans ?_
  refine (congrArg A (xinj10 t y)).trans ?_
  refine (congrFun (hA.symm.trans (after0_10 m c t)) _).trans ?_
  exact outC m c t h (ix2 ⟨(y 0).val, (y 0).isLt⟩ ⟨(y 1).val, (y 1).isLt⟩)

/-- The next gate weights after the run. -/
theorem final1 : (dats m 0 c).arrAt 11 cfg0.N = target1 m c := by
  refine (dats m 0 c).arrAt_eq_of_covers 11 (target1 m c) covers11 fun t hf y => ?_
  refine Eq.trans ?_ (congrArg (target1 m c) (emb11 t y)).symm
  rw [← next11]
  generalize hA : (dats m 0 c).after 11 t = A
  refine (cast_eq rfl _).trans ?_
  refine (congrArg A (xinj11 t y)).trans ?_
  exact congrFun (hA.symm.trans (after0_11 m c t)) _

/-- The next up weights after the run. -/
theorem final2 : (dats m 0 c).arrAt 12 cfg0.N = target2 m c := by
  refine (dats m 0 c).arrAt_eq_of_covers 12 (target2 m c) covers12 fun t hf y => ?_
  refine Eq.trans ?_ (congrArg (target2 m c) (emb12 t y)).symm
  rw [← next12]
  generalize hA : (dats m 0 c).after 12 t = A
  refine (cast_eq rfl _).trans ?_
  refine (congrArg A (xinj12 t y)).trans ?_
  exact congrFun (hA.symm.trans (after0_12 m c t)) _

/-- The next down weights after the run. -/
theorem final3 : (dats m 0 c).arrAt 13 cfg0.N = target3 m c := by
  refine (dats m 0 c).arrAt_eq_of_covers 13 (target3 m c) covers13 fun t hf y => ?_
  refine Eq.trans ?_ (congrArg (target3 m c) (emb13 t y)).symm
  refine Eq.trans ?_ (next13 m c t ⟨(y 0).val, (y 0).isLt⟩ ⟨(y 1).val, (y 1).isLt⟩)
  generalize hA : (dats m 0 c).after 13 t = A
  refine (cast_eq rfl _).trans ?_
  refine (congrArg A (xinj13 t y)).trans ?_
  exact congrFun (hA.symm.trans (after0_13 m c t)) _

end Cert.MidArray

end
-- ==== Proof.MidClaim.lean ====
/- The second half step's feed-forward, its claim: its kernel and its reference end with the same four results. -/
module

public import proofs.«01_k».proof.Defs
public import proofs.«01_k».proof.Proof.MidArray
public import proofs.«01_k».proof.Proof.Gen.MidRefIdeal.Run
public import Idealize.ShloMosaic.Lib.Claim

@[expose] public section

set_option maxRecDepth 16384

noncomputable section

namespace Cert.MidClaim

open Idealize.ShloMosaic Idealize.ShloMosaic.TcCoe Idealize.SL.Sem
open Cert.FfnPay (F)

/-- The kernel and the reference end with the same results. -/
theorem algebraic : Cert.algebraic_MidIdeal_MidRefIdeal := by
  intro m g m' g' _ hagree
  refine ⟨fun c => (Cert.MidIdeal.Gen.dats m 0 c).arrAt 10 Cert.MidIdeal.cfg0.N, fun c => (Cert.MidIdeal.Gen.dats m 0 c).arrAt 11 Cert.MidIdeal.cfg0.N,
    fun c => (Cert.MidIdeal.Gen.dats m 0 c).arrAt 12 Cert.MidIdeal.cfg0.N, fun c => (Cert.MidIdeal.Gen.dats m 0 c).arrAt 13 Cert.MidIdeal.cfg0.N,
    Cert.MidIdeal.Value.run_blocks m g, ?_⟩
  refine (θ_run Cert.MidRefIdeal.defs _ _).mono
    (fun r h c => ⟨(h c).1.trans ?_, (h c).2.1.trans ?_, (h c).2.2.1.trans ?_, (h c).2.2.2.1.trans ?_, (h c).2.2.2.2⟩) (Cert.MidRefIdeal.Value.run m' g')
  all_goals obtain ⟨e0, e1, e2, e3, e4, e5, e6, e7, e8, e9⟩ := hagree c
  · rw [Cert.MidRefIdeal.Read.val_main_v55_eq, e0, e1, e2, e3, e4, e5, e6]
    exact (Cert.MidArray.final0 m c).symm
  · rw [Cert.MidRefIdeal.Read.val_main_v58_eq, e7]
    exact (Cert.MidArray.final1 m c).symm
  · rw [Cert.MidRefIdeal.Read.val_main_v61_eq, e8]
    exact (Cert.MidArray.final2 m c).symm
  · rw [Cert.MidRefIdeal.Read.val_main_v64_eq, e9]
    exact (Cert.MidArray.final3 m c).symm

end Cert.MidClaim

end
-- ==== Proof.lean ====
module

public import proofs.«01_k».proof.Defs
public import proofs.«01_k».proof.Proof.Gen.Attn
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.MidRefIdeal.Read
public import proofs.«01_k».proof.Proof.Gen.Pre_finite
public import proofs.«01_k».proof.Proof.AttnSame
public import proofs.«01_k».proof.Proof.AttnClaim
public import proofs.«01_k».proof.Proof.FfnClaim
public import proofs.«01_k».proof.Proof.LastClaim
public import proofs.«01_k».proof.Proof.MidClaim
public import Idealize.ShloMosaic.Adequacy
public import Idealize.ShloMosaic.Init

@[expose] public section

noncomputable section

namespace Cert.Proof

open Idealize.ShloMosaic Idealize.SL.Sem Cert.Attn

/-- The attention's reference runs and leaves its arguments as they were. -/
theorem attnRef : Cert.quiescent_AttnRefIdeal := fun m ρ _ =>
  (θ_run Cert.AttnRefIdeal.defs _ _).mono (fun r h => ⟨fun c => (h c).2, sem_eq_zero_of_no_sems (by decide) r.2⟩) (Cert.AttnRefIdeal.Value.run m ρ)

/-- The feed-forward's reference runs and leaves its arguments as they were. -/
theorem ffnRef : Cert.quiescent_FfnRefIdeal := fun m ρ _ =>
  (θ_run Cert.FfnRefIdeal.defs _ _).mono (fun r h => ⟨fun c => (h c).2.2.2.2, sem_eq_zero_of_no_sems (by decide) r.2⟩) (Cert.FfnRefIdeal.Value.run m ρ)

/-- The last feed-forward's reference runs and leaves its arguments as they were. -/
theorem lastRef : Cert.quiescent_LastRefIdeal := fun m ρ _ =>
  (θ_run Cert.LastRefIdeal.defs _ _).mono (fun r h => ⟨fun c => (h c).2, sem_eq_zero_of_no_sems (by decide) r.2⟩) (Cert.LastRefIdeal.Value.run m ρ)

/-- The second half step's reference runs and leaves its arguments as they were. -/
theorem midRef : Cert.quiescent_MidRefIdeal := fun m ρ _ =>
  (θ_run Cert.MidRefIdeal.defs _ _).mono (fun r h => ⟨fun c => (h c).2.2.2.2, sem_eq_zero_of_no_sems (by decide) r.2⟩) (Cert.MidRefIdeal.Value.run m ρ)

/-- The claims, in their order. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Last.Gen.facts, Cert.LastIdeal.Gen.facts, Cert.LastRefIdeal.Gen.facts, Cert.Mid.Gen.facts, Cert.MidIdeal.Gen.facts, Cert.MidRefIdeal.Gen.facts, Cert.Pre_finite.Gen.facts,
  Cert.AttnSame.frame, fun m ρ _ => Cert.AttnRun.frame m ρ, fun m ρ _ => Cert.AttnRun.frame m ρ,
  attnRef, fun m ρ _ => attnRef m ρ trivial,
  fun m ρ _ => Cert.Ffn.Gen.frame m ρ, fun m ρ _ => Cert.FfnIdeal.Gen.frame m ρ, ffnRef,
  fun m ρ _ => Cert.Last.Gen.frame m ρ, fun m ρ _ => Cert.LastIdeal.Gen.frame m ρ, lastRef,
  fun m ρ _ => Cert.Mid.Gen.frame m ρ, fun m ρ _ => Cert.MidIdeal.Gen.frame m ρ, midRef,
  trivial, Cert.AttnClaim.algebraic,
  ⟨IdealRules.named_const.statement Cert.FfnIdeal.κ "inv_alpha" .f32 0x3F1837F0#32 _ rfl,
    IdealRules.named_const.statement Cert.FfnIdeal.κ "eps_alpha" .f32 0x366D4403#32 _ rfl⟩,
  Cert.FfnClaim.algebraic,
  ⟨IdealRules.named_const.statement Cert.LastIdeal.κ "inv_alpha" .f32 0x3F1837F0#32 _ rfl,
    IdealRules.named_const.statement Cert.LastIdeal.κ "eps_alpha" .f32 0x366D4403#32 _ rfl⟩,
  Cert.LastClaim.algebraic,
  ⟨IdealRules.named_const.statement Cert.MidIdeal.κ "inv_alpha" .f32 0x3F1837F0#32 _ rfl,
    IdealRules.named_const.statement Cert.MidIdeal.κ "eps_alpha" .f32 0x366D4403#32 _ rfl⟩,
  Cert.MidClaim.algebraic⟩

end Cert.Proof

end
